-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixRefIdeal (m : (ℓ : Loc Cert.PostMixRefIdeal.nD Cert.PostMixRefIdeal.τ Cert.PostMixRefIdeal.sig) → Buf (Elt Ideal) ℓ) : Prop :=
  True

def Pre_InRet (m : (ℓ : Loc Cert.InRet.nD Cert.InRet.τ Cert.InRet.sig) → Buf (Elt Bits) ℓ) : Prop :=
  True

def Pre_InRetIdeal (m : (ℓ : Loc Cert.InRetIdeal.nD Cert.InRetIdeal.τ Cert.InRetIdeal.sig) → Buf (Elt Ideal) ℓ) : Prop :=
  True

def Pre_InRetRefIdeal (m : (ℓ : Loc Cert.InRetRefIdeal.nD Cert.InRetRefIdeal.τ Cert.InRetRefIdeal.sig) → Buf (Elt Ideal) ℓ) : Prop :=
  True

def Pre_InRkv (m : (ℓ : Loc Cert.InRkv.nD Cert.InRkv.τ Cert.InRkv.sig) → Buf (Elt Bits) ℓ) : Prop :=
  True

def Pre_InRkvIdeal (m : (ℓ : Loc Cert.InRkvIdeal.nD Cert.InRkvIdeal.τ Cert.InRkvIdeal.sig) → Buf (Elt Ideal) ℓ) : Prop :=
  True

def Pre_InRkvRefIdeal (m : (ℓ : Loc Cert.InRkvRefIdeal.nD Cert.InRkvRefIdeal.τ Cert.InRkvRefIdeal.sig) → Buf (Elt Ideal) ℓ) : Prop :=
  True

def Pre_RwkvPost (m : (ℓ : Loc Cert.RwkvPost.nD Cert.RwkvPost.τ Cert.RwkvPost.sig) → Buf (Elt Bits) ℓ) : Prop :=
  True

def Pre_RwkvPostIdeal (m : (ℓ : Loc Cert.RwkvPostIdeal.nD Cert.RwkvPostIdeal.τ Cert.RwkvPostIdeal.sig) → Buf (Elt Ideal) ℓ) : Prop :=
  True

def Pre_RwkvPostRefIdeal (m : (ℓ : Loc Cert.RwkvPostRefIdeal.nD Cert.RwkvPostRefIdeal.τ Cert.RwkvPostRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3)
      ∧ r.2.mem ((c.tc : Thread Cert.PostMix.nD Cert.PostMix.τ).loc Cert.PostMix.main_arg4) = m ((c.tc : Thread Cert.PostMix.nD Cert.PostMix.τ).loc Cert.PostMix.main_arg4))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4))
      ∧ r.2.sem = fun _ => 0)

def quiescent_PostMixRefIdeal [hPostMixRefIdeal : Cert.PostMixRefIdeal.Facts] : Prop :=
  ∀ (m : (ℓ : Loc Cert.PostMixRefIdeal.nD Cert.PostMixRefIdeal.τ Cert.PostMixRefIdeal.sig) → Buf (Elt Ideal) ℓ) (g : Dev Cert.PostMixRefIdeal.nD → PrngReg), Pre_PostMixRefIdeal m →
    θ_run (Cert.PostMixRefIdeal.defs (F := Ideal)) (onTc (τ := Cert.PostMixRefIdeal.τ) (Cert.PostMixRefIdeal.main (F := Ideal))) ⟨m, fun _ => 0, g⟩ (fun r => (∀ c : Dev Cert.PostMixRefIdeal.nD,
      r.2.mem ((c.tc : Thread Cert.PostMixRefIdeal.nD Cert.PostMixRefIdeal.τ).loc Cert.PostMixRefIdeal.main_arg0) = m ((c.tc : Thread Cert.PostMixRefIdeal.nD Cert.PostMixRefIdeal.τ).loc Cert.PostMixRefIdeal.main_arg0)
      ∧ r.2.mem ((c.tc : Thread Cert.PostMixRefIdeal.nD Cert.PostMixRefIdeal.τ).loc Cert.PostMixRefIdeal.main_arg1) = m ((c.tc : Thread Cert.PostMixRefIdeal.nD Cert.PostMixRefIdeal.τ).loc Cert.PostMixRefIdeal.main_arg1)
      ∧ r.2.mem ((c.tc : Thread Cert.PostMixRefIdeal.nD Cert.PostMixRefIdeal.τ).loc Cert.PostMixRefIdeal.main_arg2) = m ((c.tc : Thread Cert.PostMixRefIdeal.nD Cert.PostMixRefIdeal.τ).loc Cert.PostMixRefIdeal.main_arg2)
      ∧ r.2.mem ((c.tc : Thread Cert.PostMixRefIdeal.nD Cert.PostMixRefIdeal.τ).loc Cert.PostMixRefIdeal.main_arg3) = m ((c.tc : Thread Cert.PostMixRefIdeal.nD Cert.PostMixRefIdeal.τ).loc Cert.PostMixRefIdeal.main_arg3)
      ∧ r.2.mem ((c.tc : Thread Cert.PostMixRefIdeal.nD Cert.PostMixRefIdeal.τ).loc Cert.PostMixRefIdeal.main_arg4) = m ((c.tc : Thread Cert.PostMixRefIdeal.nD Cert.PostMixRefIdeal.τ).loc Cert.PostMixRefIdeal.main_arg4))
      ∧ r.2.sem = fun _ => 0)

def quiescent_InRet [hInRet : Cert.InRet.Facts] : Prop :=
  ∀ (m : (ℓ : Loc Cert.InRet.nD Cert.InRet.τ Cert.InRet.sig) → Buf (Elt Bits) ℓ) (g : Dev Cert.InRet.nD → PrngReg), Pre_InRet m →
    θ_run (Cert.InRet.defs (F := Bits)) (onTc (τ := Cert.InRet.τ) (Cert.InRet.main (F := Bits))) ⟨m, fun _ => 0, g⟩ (fun r => (∀ c : Dev Cert.InRet.nD,
      r.2.mem ((c.tc : Thread Cert.InRet.nD Cert.InRet.τ).loc Cert.InRet.main_arg0) = m ((c.tc : Thread Cert.InRet.nD Cert.InRet.τ).loc Cert.InRet.main_arg0)
      ∧ r.2.mem ((c.tc : Thread Cert.InRet.nD Cert.InRet.τ).loc Cert.InRet.main_arg1) = m ((c.tc : Thread Cert.InRet.nD Cert.InRet.τ).loc Cert.InRet.main_arg1))
      ∧ r.2.sem = fun _ => 0)

def quiescent_InRetIdeal [hInRetIdeal : Cert.InRetIdeal.Facts] : Prop :=
  ∀ (m : (ℓ : Loc Cert.InRetIdeal.nD Cert.InRetIdeal.τ Cert.InRetIdeal.sig) → Buf (Elt Ideal) ℓ) (g : Dev Cert.InRetIdeal.nD → PrngReg), Pre_InRetIdeal m →
    θ_run (Cert.InRetIdeal.defs (F := Ideal)) (onTc (τ := Cert.InRetIdeal.τ) (Cert.InRetIdeal.main (F := Ideal))) ⟨m, fun _ => 0, g⟩ (fun r => (∀ c : Dev Cert.InRetIdeal.nD,
      r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
      ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ r.2.sem = fun _ => 0)

def quiescent_InRetRefIdeal [hInRetRefIdeal : Cert.InRetRefIdeal.Facts] : Prop :=
  ∀ (m : (ℓ : Loc Cert.InRetRefIdeal.nD Cert.InRetRefIdeal.τ Cert.InRetRefIdeal.sig) → Buf (Elt Ideal) ℓ) (g : Dev Cert.InRetRefIdeal.nD → PrngReg), Pre_InRetRefIdeal m →
    θ_run (Cert.InRetRefIdeal.defs (F := Ideal)) (onTc (τ := Cert.InRetRefIdeal.τ) (Cert.InRetRefIdeal.main (F := Ideal))) ⟨m, fun _ => 0, g⟩ (fun r => (∀ c : Dev Cert.InRetRefIdeal.nD,
      r.2.mem ((c.tc : Thread Cert.InRetRefIdeal.nD Cert.InRetRefIdeal.τ).loc Cert.InRetRefIdeal.main_arg0) = m ((c.tc : Thread Cert.InRetRefIdeal.nD Cert.InRetRefIdeal.τ).loc Cert.InRetRefIdeal.main_arg0)
      ∧ r.2.mem ((c.tc : Thread Cert.InRetRefIdeal.nD Cert.InRetRefIdeal.τ).loc Cert.InRetRefIdeal.main_arg1) = m ((c.tc : Thread Cert.InRetRefIdeal.nD Cert.InRetRefIdeal.τ).loc Cert.InRetRefIdeal.main_arg1))
      ∧ r.2.sem = fun _ => 0)

def quiescent_InRkv [hInRkv : Cert.InRkv.Facts] : Prop :=
  ∀ (m : (ℓ : Loc Cert.InRkv.nD Cert.InRkv.τ Cert.InRkv.sig) → Buf (Elt Bits) ℓ) (g : Dev Cert.InRkv.nD → PrngReg), Pre_InRkv m →
    θ_run (Cert.InRkv.defs (F := Bits)) (onTc (τ := Cert.InRkv.τ) (Cert.InRkv.main (F := Bits))) ⟨m, fun _ => 0, g⟩ (fun r => (∀ c : Dev Cert.InRkv.nD,
      r.2.mem ((c.tc : Thread Cert.InRkv.nD Cert.InRkv.τ).loc Cert.InRkv.main_arg0) = m ((c.tc : Thread Cert.InRkv.nD Cert.InRkv.τ).loc Cert.InRkv.main_arg0)
      ∧ r.2.mem ((c.tc : Thread Cert.InRkv.nD Cert.InRkv.τ).loc Cert.InRkv.main_arg1) = m ((c.tc : Thread Cert.InRkv.nD Cert.InRkv.τ).loc Cert.InRkv.main_arg1))
      ∧ r.2.sem = fun _ => 0)

def quiescent_InRkvIdeal [hInRkvIdeal : Cert.InRkvIdeal.Facts] : Prop :=
  ∀ (m : (ℓ : Loc Cert.InRkvIdeal.nD Cert.InRkvIdeal.τ Cert.InRkvIdeal.sig) → Buf (Elt Ideal) ℓ) (g : Dev Cert.InRkvIdeal.nD → PrngReg), Pre_InRkvIdeal m →
    θ_run (Cert.InRkvIdeal.defs (F := Ideal)) (onTc (τ := Cert.InRkvIdeal.τ) (Cert.InRkvIdeal.main (F := Ideal))) ⟨m, fun _ => 0, g⟩ (fun r => (∀ c : Dev Cert.InRkvIdeal.nD,
      r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
      ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ r.2.sem = fun _ => 0)

def quiescent_InRkvRefIdeal [hInRkvRefIdeal : Cert.InRkvRefIdeal.Facts] : Prop :=
  ∀ (m : (ℓ : Loc Cert.InRkvRefIdeal.nD Cert.InRkvRefIdeal.τ Cert.InRkvRefIdeal.sig) → Buf (Elt Ideal) ℓ) (g : Dev Cert.InRkvRefIdeal.nD → PrngReg), Pre_InRkvRefIdeal m →
    θ_run (Cert.InRkvRefIdeal.defs (F := Ideal)) (onTc (τ := Cert.InRkvRefIdeal.τ) (Cert.InRkvRefIdeal.main (F := Ideal))) ⟨m, fun _ => 0, g⟩ (fun r => (∀ c : Dev Cert.InRkvRefIdeal.nD,
      r.2.mem ((c.tc : Thread Cert.InRkvRefIdeal.nD Cert.InRkvRefIdeal.τ).loc Cert.InRkvRefIdeal.main_arg0) = m ((c.tc : Thread Cert.InRkvRefIdeal.nD Cert.InRkvRefIdeal.τ).loc Cert.InRkvRefIdeal.main_arg0)
      ∧ r.2.mem ((c.tc : Thread Cert.InRkvRefIdeal.nD Cert.InRkvRefIdeal.τ).loc Cert.InRkvRefIdeal.main_arg1) = m ((c.tc : Thread Cert.InRkvRefIdeal.nD Cert.InRkvRefIdeal.τ).loc Cert.InRkvRefIdeal.main_arg1))
      ∧ r.2.sem = fun _ => 0)

def quiescent_RwkvPost [hRwkvPost : Cert.RwkvPost.Facts] : Prop :=
  ∀ (m : (ℓ : Loc Cert.RwkvPost.nD Cert.RwkvPost.τ Cert.RwkvPost.sig) → Buf (Elt Bits) ℓ) (g : Dev Cert.RwkvPost.nD → PrngReg), Pre_RwkvPost m →
    θ_run (Cert.RwkvPost.defs (F := Bits)) (onTc (τ := Cert.RwkvPost.τ) (Cert.RwkvPost.main (F := Bits))) ⟨m, fun _ => 0, g⟩ (fun r => (∀ c : Dev Cert.RwkvPost.nD,
      r.2.mem ((c.tc : Thread Cert.RwkvPost.nD Cert.RwkvPost.τ).loc Cert.RwkvPost.main_arg0) = m ((c.tc : Thread Cert.RwkvPost.nD Cert.RwkvPost.τ).loc Cert.RwkvPost.main_arg0)
      ∧ r.2.mem ((c.tc : Thread Cert.RwkvPost.nD Cert.RwkvPost.τ).loc Cert.RwkvPost.main_arg1) = m ((c.tc : Thread Cert.RwkvPost.nD Cert.RwkvPost.τ).loc Cert.RwkvPost.main_arg1)
      ∧ r.2.mem ((c.tc : Thread Cert.RwkvPost.nD Cert.RwkvPost.τ).loc Cert.RwkvPost.main_arg2) = m ((c.tc : Thread Cert.RwkvPost.nD Cert.RwkvPost.τ).loc Cert.RwkvPost.main_arg2)
      ∧ r.2.mem ((c.tc : Thread Cert.RwkvPost.nD Cert.RwkvPost.τ).loc Cert.RwkvPost.main_arg3) = m ((c.tc : Thread Cert.RwkvPost.nD Cert.RwkvPost.τ).loc Cert.RwkvPost.main_arg3)
      ∧ r.2.mem ((c.tc : Thread Cert.RwkvPost.nD Cert.RwkvPost.τ).loc Cert.RwkvPost.main_arg4) = m ((c.tc : Thread Cert.RwkvPost.nD Cert.RwkvPost.τ).loc Cert.RwkvPost.main_arg4))
      ∧ r.2.sem = fun _ => 0)

def quiescent_RwkvPostIdeal [hRwkvPostIdeal : Cert.RwkvPostIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg), Pre_RwkvPostIdeal m →
    θ_run (Cert.RwkvPostIdeal.defs (F := Ideal)) (onTc (τ := Cert.RwkvPostIdeal.τ) (Cert.RwkvPostIdeal.main (F := Ideal))) ⟨m, fun _ => 0, g⟩ (fun r => (∀ c : Dev Cert.RwkvPostIdeal.nD,
      r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
      ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
      ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
      ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
      ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4))
      ∧ r.2.sem = fun _ => 0)

def quiescent_RwkvPostRefIdeal [hRwkvPostRefIdeal : Cert.RwkvPostRefIdeal.Facts] : Prop :=
  ∀ (m : (ℓ : Loc Cert.RwkvPostRefIdeal.nD Cert.RwkvPostRefIdeal.τ Cert.RwkvPostRefIdeal.sig) → Buf (Elt Ideal) ℓ) (g : Dev Cert.RwkvPostRefIdeal.nD → PrngReg), Pre_RwkvPostRefIdeal m →
    θ_run (Cert.RwkvPostRefIdeal.defs (F := Ideal)) (onTc (τ := Cert.RwkvPostRefIdeal.τ) (Cert.RwkvPostRefIdeal.main (F := Ideal))) ⟨m, fun _ => 0, g⟩ (fun r => (∀ c : Dev Cert.RwkvPostRefIdeal.nD,
      r.2.mem ((c.tc : Thread Cert.RwkvPostRefIdeal.nD Cert.RwkvPostRefIdeal.τ).loc Cert.RwkvPostRefIdeal.main_arg0) = m ((c.tc : Thread Cert.RwkvPostRefIdeal.nD Cert.RwkvPostRefIdeal.τ).loc Cert.RwkvPostRefIdeal.main_arg0)
      ∧ r.2.mem ((c.tc : Thread Cert.RwkvPostRefIdeal.nD Cert.RwkvPostRefIdeal.τ).loc Cert.RwkvPostRefIdeal.main_arg1) = m ((c.tc : Thread Cert.RwkvPostRefIdeal.nD Cert.RwkvPostRefIdeal.τ).loc Cert.RwkvPostRefIdeal.main_arg1)
      ∧ r.2.mem ((c.tc : Thread Cert.RwkvPostRefIdeal.nD Cert.RwkvPostRefIdeal.τ).loc Cert.RwkvPostRefIdeal.main_arg2) = m ((c.tc : Thread Cert.RwkvPostRefIdeal.nD Cert.RwkvPostRefIdeal.τ).loc Cert.RwkvPostRefIdeal.main_arg2)
      ∧ r.2.mem ((c.tc : Thread Cert.RwkvPostRefIdeal.nD Cert.RwkvPostRefIdeal.τ).loc Cert.RwkvPostRefIdeal.main_arg3) = m ((c.tc : Thread Cert.RwkvPostRefIdeal.nD Cert.RwkvPostRefIdeal.τ).loc Cert.RwkvPostRefIdeal.main_arg3)
      ∧ r.2.mem ((c.tc : Thread Cert.RwkvPostRefIdeal.nD Cert.RwkvPostRefIdeal.τ).loc Cert.RwkvPostRefIdeal.main_arg4) = m ((c.tc : Thread Cert.RwkvPostRefIdeal.nD Cert.RwkvPostRefIdeal.τ).loc Cert.RwkvPostRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v121_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v36_0)) (v1 : (c : Dev Cert.SampleIdeal.nD) → Buf (Elt Ideal) ((c.tc : Thread Cert.SampleIdeal.nD Cert.SampleIdeal.τ).loc Cert.SampleIdeal.main_v36_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v36_0) = v0 c
          ∧ r.2.mem ((c.tc : Thread Cert.SampleIdeal.nD Cert.SampleIdeal.τ).loc Cert.SampleIdeal.main_v36_1) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v150) = v0 c
          ∧ r.2.mem ((c.tc : Thread Cert.SampleRefIdeal.nD Cert.SampleRefIdeal.τ).loc Cert.SampleRefIdeal.main_v134) = v1 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v10) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v7)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v7) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v48) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)) →
    ∃ (v0 : (c : Dev Cert.PreNormIdeal.nD) → Buf (Elt Ideal) ((c.tc : Thread Cert.PreNormIdeal.nD Cert.PreNormIdeal.τ).loc Cert.PreNormIdeal.main_v7)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v7) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v55) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2))

def preserves_PostMix_PostMixIdeal : Prop :=
  True

def algebraic_PostMixIdeal_PostMixRefIdeal [hPostMixIdeal : Cert.PostMixIdeal.Facts] [hPostMixRefIdeal : Cert.PostMixRefIdeal.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixRefIdeal.nD Cert.PostMixRefIdeal.τ Cert.PostMixRefIdeal.sig) → Buf (Elt Ideal) ℓ) (g' : Dev Cert.PostMixRefIdeal.nD → PrngReg), Pre_PostMixIdeal m →
    (∀ c : Dev Cert.PostMixIdeal.nD,
      m' ((c.tc : Thread Cert.PostMixRefIdeal.nD Cert.PostMixRefIdeal.τ).loc Cert.PostMixRefIdeal.main_arg0) = m ((c.tc : Thread Cert.PostMixIdeal.nD Cert.PostMixIdeal.τ).loc Cert.PostMixIdeal.main_arg0)
      ∧ m' ((c.tc : Thread Cert.PostMixRefIdeal.nD Cert.PostMixRefIdeal.τ).loc Cert.PostMixRefIdeal.main_arg1) = m ((c.tc : Thread Cert.PostMixIdeal.nD Cert.PostMixIdeal.τ).loc Cert.PostMixIdeal.main_arg1)
      ∧ m' ((c.tc : Thread Cert.PostMixRefIdeal.nD Cert.PostMixRefIdeal.τ).loc Cert.PostMixRefIdeal.main_arg2) = m ((c.tc : Thread Cert.PostMixIdeal.nD Cert.PostMixIdeal.τ).loc Cert.PostMixIdeal.main_arg2)
      ∧ m' ((c.tc : Thread Cert.PostMixRefIdeal.nD Cert.PostMixRefIdeal.τ).loc Cert.PostMixRefIdeal.main_arg3) = m ((c.tc : Thread Cert.PostMixIdeal.nD Cert.PostMixIdeal.τ).loc Cert.PostMixIdeal.main_arg3)
      ∧ m' ((c.tc : Thread Cert.PostMixRefIdeal.nD Cert.PostMixRefIdeal.τ).loc Cert.PostMixRefIdeal.main_arg4) = m ((c.tc : Thread Cert.PostMixIdeal.nD Cert.PostMixIdeal.τ).loc Cert.PostMixIdeal.main_arg4)) →
    ∃ (v0 : (c : Dev Cert.PostMixIdeal.nD) → Buf (Elt Ideal) ((c.tc : Thread Cert.PostMixIdeal.nD Cert.PostMixIdeal.τ).loc Cert.PostMixIdeal.main_v8_0)) (v1 : (c : Dev Cert.PostMixIdeal.nD) → Buf (Elt Ideal) ((c.tc : Thread Cert.PostMixIdeal.nD Cert.PostMixIdeal.τ).loc Cert.PostMixIdeal.main_v8_1)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          r.2.mem ((c.tc : Thread Cert.PostMixIdeal.nD Cert.PostMixIdeal.τ).loc Cert.PostMixIdeal.main_v8_0) = v0 c
          ∧ r.2.mem ((c.tc : Thread Cert.PostMixIdeal.nD Cert.PostMixIdeal.τ).loc Cert.PostMixIdeal.main_v8_1) = v1 c
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
          ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4))
      ∧ θ_run (Cert.PostMixRefIdeal.defs (F := Ideal)) (onTc (τ := Cert.PostMixRefIdeal.τ) (Cert.PostMixRefIdeal.main (F := Ideal))) ⟨m', fun _ => 0, g'⟩ (fun r => ∀ c : Dev Cert.PostMixRefIdeal.nD,
          r.2.mem ((c.tc : Thread Cert.PostMixRefIdeal.nD Cert.PostMixRefIdeal.τ).loc Cert.PostMixRefIdeal.main_v94) = v0 c
          ∧ r.2.mem ((c.tc : Thread Cert.PostMixRefIdeal.nD Cert.PostMixRefIdeal.τ).loc Cert.PostMixRefIdeal.main_v98) = v1 c
          ∧ r.2.mem ((c.tc : Thread Cert.PostMixRefIdeal.nD Cert.PostMixRefIdeal.τ).loc Cert.PostMixRefIdeal.main_arg0) = m' ((c.tc : Thread Cert.PostMixRefIdeal.nD Cert.PostMixRefIdeal.τ).loc Cert.PostMixRefIdeal.main_arg0)
          ∧ r.2.mem ((c.tc : Thread Cert.PostMixRefIdeal.nD Cert.PostMixRefIdeal.τ).loc Cert.PostMixRefIdeal.main_arg1) = m' ((c.tc : Thread Cert.PostMixRefIdeal.nD Cert.PostMixRefIdeal.τ).loc Cert.PostMixRefIdeal.main_arg1)
          ∧ r.2.mem ((c.tc : Thread Cert.PostMixRefIdeal.nD Cert.PostMixRefIdeal.τ).loc Cert.PostMixRefIdeal.main_arg2) = m' ((c.tc : Thread Cert.PostMixRefIdeal.nD Cert.PostMixRefIdeal.τ).loc Cert.PostMixRefIdeal.main_arg2)
          ∧ r.2.mem ((c.tc : Thread Cert.PostMixRefIdeal.nD Cert.PostMixRefIdeal.τ).loc Cert.PostMixRefIdeal.main_arg3) = m' ((c.tc : Thread Cert.PostMixRefIdeal.nD Cert.PostMixRefIdeal.τ).loc Cert.PostMixRefIdeal.main_arg3)
          ∧ r.2.mem ((c.tc : Thread Cert.PostMixRefIdeal.nD Cert.PostMixRefIdeal.τ).loc Cert.PostMixRefIdeal.main_arg4) = m' ((c.tc : Thread Cert.PostMixRefIdeal.nD Cert.PostMixRefIdeal.τ).loc Cert.PostMixRefIdeal.main_arg4))

def preserves_InRet_InRetIdeal : Prop :=
  True

def algebraic_InRetIdeal_InRetRefIdeal [hInRetIdeal : Cert.InRetIdeal.Facts] [hInRetRefIdeal : Cert.InRetRefIdeal.Facts] : Prop :=
  ∀ (m : (ℓ : Loc Cert.InRetIdeal.nD Cert.InRetIdeal.τ Cert.InRetIdeal.sig) → Buf (Elt Ideal) ℓ) (g : Dev Cert.InRetIdeal.nD → PrngReg)
    (m' : (ℓ : Loc Cert.InRetRefIdeal.nD Cert.InRetRefIdeal.τ Cert.InRetRefIdeal.sig) → Buf (Elt Ideal) ℓ) (g' : Dev Cert.InRetRefIdeal.nD → PrngReg), Pre_InRetIdeal m →
    (∀ c : Dev Cert.InRetIdeal.nD,
      m' ((c.tc : Thread Cert.InRetRefIdeal.nD Cert.InRetRefIdeal.τ).loc Cert.InRetRefIdeal.main_arg0) = m ((c.tc : Thread Cert.InRetIdeal.nD Cert.InRetIdeal.τ).loc Cert.InRetIdeal.main_arg0)
      ∧ m' ((c.tc : Thread Cert.InRetRefIdeal.nD Cert.InRetRefIdeal.τ).loc Cert.InRetRefIdeal.main_arg1) = m ((c.tc : Thread Cert.InRetIdeal.nD Cert.InRetIdeal.τ).loc Cert.InRetIdeal.main_arg1)) →
    ∃ (v0 : (c : Dev Cert.InRetIdeal.nD) → Buf (Elt Ideal) ((c.tc : Thread Cert.InRetIdeal.nD Cert.InRetIdeal.τ).loc Cert.InRetIdeal.main_v0)),
      θ_run (Cert.InRetIdeal.defs (F := Ideal)) (onTc (τ := Cert.InRetIdeal.τ) (Cert.InRetIdeal.main (F := Ideal))) ⟨m, fun _ => 0, g⟩ (fun r => ∀ c : Dev Cert.InRetIdeal.nD,
          r.2.mem ((c.tc : Thread Cert.InRetIdeal.nD Cert.InRetIdeal.τ).loc Cert.InRetIdeal.main_v0) = v0 c
          ∧ r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
          ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ θ_run (Cert.InRetRefIdeal.defs (F := Ideal)) (onTc (τ := Cert.InRetRefIdeal.τ) (Cert.InRetRefIdeal.main (F := Ideal))) ⟨m', fun _ => 0, g'⟩ (fun r => ∀ c : Dev Cert.InRetRefIdeal.nD,
          r.2.mem ((c.tc : Thread Cert.InRetRefIdeal.nD Cert.InRetRefIdeal.τ).loc Cert.InRetRefIdeal.main_v2) = v0 c
          ∧ r.2.mem ((c.tc : Thread Cert.InRetRefIdeal.nD Cert.InRetRefIdeal.τ).loc Cert.InRetRefIdeal.main_arg0) = m' ((c.tc : Thread Cert.InRetRefIdeal.nD Cert.InRetRefIdeal.τ).loc Cert.InRetRefIdeal.main_arg0)
          ∧ r.2.mem ((c.tc : Thread Cert.InRetRefIdeal.nD Cert.InRetRefIdeal.τ).loc Cert.InRetRefIdeal.main_arg1) = m' ((c.tc : Thread Cert.InRetRefIdeal.nD Cert.InRetRefIdeal.τ).loc Cert.InRetRefIdeal.main_arg1))

def preserves_InRkv_InRkvIdeal : Prop :=
  True

def algebraic_InRkvIdeal_InRkvRefIdeal [hInRkvIdeal : Cert.InRkvIdeal.Facts] [hInRkvRefIdeal : Cert.InRkvRefIdeal.Facts] : Prop :=
  ∀ (m : (ℓ : Loc Cert.InRkvIdeal.nD Cert.InRkvIdeal.τ Cert.InRkvIdeal.sig) → Buf (Elt Ideal) ℓ) (g : Dev Cert.InRkvIdeal.nD → PrngReg)
    (m' : (ℓ : Loc Cert.InRkvRefIdeal.nD Cert.InRkvRefIdeal.τ Cert.InRkvRefIdeal.sig) → Buf (Elt Ideal) ℓ) (g' : Dev Cert.InRkvRefIdeal.nD → PrngReg), Pre_InRkvIdeal m →
    (∀ c : Dev Cert.InRkvIdeal.nD,
      m' ((c.tc : Thread Cert.InRkvRefIdeal.nD Cert.InRkvRefIdeal.τ).loc Cert.InRkvRefIdeal.main_arg0) = m ((c.tc : Thread Cert.InRkvIdeal.nD Cert.InRkvIdeal.τ).loc Cert.InRkvIdeal.main_arg0)
      ∧ m' ((c.tc : Thread Cert.InRkvRefIdeal.nD Cert.InRkvRefIdeal.τ).loc Cert.InRkvRefIdeal.main_arg1) = m ((c.tc : Thread Cert.InRkvIdeal.nD Cert.InRkvIdeal.τ).loc Cert.InRkvIdeal.main_arg1)) →
    ∃ (v0 : (c : Dev Cert.InRkvIdeal.nD) → Buf (Elt Ideal) ((c.tc : Thread Cert.InRkvIdeal.nD Cert.InRkvIdeal.τ).loc Cert.InRkvIdeal.main_v0)) (v1 : (c : Dev Cert.InRkvIdeal.nD) → Buf (Elt Ideal) ((c.tc : Thread Cert.InRkvIdeal.nD Cert.InRkvIdeal.τ).loc Cert.InRkvIdeal.main_v5)) (v2 : (c : Dev Cert.InRkvIdeal.nD) → Buf (Elt Ideal) ((c.tc : Thread Cert.InRkvIdeal.nD Cert.InRkvIdeal.τ).loc Cert.InRkvIdeal.main_v10)),
      θ_run (Cert.InRkvIdeal.defs (F := Ideal)) (onTc (τ := Cert.InRkvIdeal.τ) (Cert.InRkvIdeal.main (F := Ideal))) ⟨m, fun _ => 0, g⟩ (fun r => ∀ c : Dev Cert.InRkvIdeal.nD,
          r.2.mem ((c.tc : Thread Cert.InRkvIdeal.nD Cert.InRkvIdeal.τ).loc Cert.InRkvIdeal.main_v0) = v0 c
          ∧ r.2.mem ((c.tc : Thread Cert.InRkvIdeal.nD Cert.InRkvIdeal.τ).loc Cert.InRkvIdeal.main_v5) = v1 c
          ∧ r.2.mem ((c.tc : Thread Cert.InRkvIdeal.nD Cert.InRkvIdeal.τ).loc Cert.InRkvIdeal.main_v10) = v2 c
          ∧ r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
          ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ θ_run (Cert.InRkvRefIdeal.defs (F := Ideal)) (onTc (τ := Cert.InRkvRefIdeal.τ) (Cert.InRkvRefIdeal.main (F := Ideal))) ⟨m', fun _ => 0, g'⟩ (fun r => ∀ c : Dev Cert.InRkvRefIdeal.nD,
          r.2.mem ((c.tc : Thread Cert.InRkvRefIdeal.nD Cert.InRkvRefIdeal.τ).loc Cert.InRkvRefIdeal.main_v14) = v0 c
          ∧ r.2.mem ((c.tc : Thread Cert.InRkvRefIdeal.nD Cert.InRkvRefIdeal.τ).loc Cert.InRkvRefIdeal.main_v16) = v1 c
          ∧ r.2.mem ((c.tc : Thread Cert.InRkvRefIdeal.nD Cert.InRkvRefIdeal.τ).loc Cert.InRkvRefIdeal.main_v18) = v2 c
          ∧ r.2.mem ((c.tc : Thread Cert.InRkvRefIdeal.nD Cert.InRkvRefIdeal.τ).loc Cert.InRkvRefIdeal.main_arg0) = m' ((c.tc : Thread Cert.InRkvRefIdeal.nD Cert.InRkvRefIdeal.τ).loc Cert.InRkvRefIdeal.main_arg0)
          ∧ r.2.mem ((c.tc : Thread Cert.InRkvRefIdeal.nD Cert.InRkvRefIdeal.τ).loc Cert.InRkvRefIdeal.main_arg1) = m' ((c.tc : Thread Cert.InRkvRefIdeal.nD Cert.InRkvRefIdeal.τ).loc Cert.InRkvRefIdeal.main_arg1))

def preserves_RwkvPost_RwkvPostIdeal : Prop :=
  True

def algebraic_RwkvPostIdeal_RwkvPostRefIdeal [hRwkvPostIdeal : Cert.RwkvPostIdeal.Facts] [hRwkvPostRefIdeal : Cert.RwkvPostRefIdeal.Facts] : Prop :=
  ∀ (m : (ℓ : Loc Cert.RwkvPostIdeal.nD Cert.RwkvPostIdeal.τ Cert.RwkvPostIdeal.sig) → Buf (Elt Ideal) ℓ) (g : Dev Cert.RwkvPostIdeal.nD → PrngReg)
    (m' : (ℓ : Loc Cert.RwkvPostRefIdeal.nD Cert.RwkvPostRefIdeal.τ Cert.RwkvPostRefIdeal.sig) → Buf (Elt Ideal) ℓ) (g' : Dev Cert.RwkvPostRefIdeal.nD → PrngReg), Pre_RwkvPostIdeal m →
    (∀ c : Dev Cert.RwkvPostIdeal.nD,
      m' ((c.tc : Thread Cert.RwkvPostRefIdeal.nD Cert.RwkvPostRefIdeal.τ).loc Cert.RwkvPostRefIdeal.main_arg0) = m ((c.tc : Thread Cert.RwkvPostIdeal.nD Cert.RwkvPostIdeal.τ).loc Cert.RwkvPostIdeal.main_arg0)
      ∧ m' ((c.tc : Thread Cert.RwkvPostRefIdeal.nD Cert.RwkvPostRefIdeal.τ).loc Cert.RwkvPostRefIdeal.main_arg1) = m ((c.tc : Thread Cert.RwkvPostIdeal.nD Cert.RwkvPostIdeal.τ).loc Cert.RwkvPostIdeal.main_arg1)
      ∧ m' ((c.tc : Thread Cert.RwkvPostRefIdeal.nD Cert.RwkvPostRefIdeal.τ).loc Cert.RwkvPostRefIdeal.main_arg2) = m ((c.tc : Thread Cert.RwkvPostIdeal.nD Cert.RwkvPostIdeal.τ).loc Cert.RwkvPostIdeal.main_arg2)
      ∧ m' ((c.tc : Thread Cert.RwkvPostRefIdeal.nD Cert.RwkvPostRefIdeal.τ).loc Cert.RwkvPostRefIdeal.main_arg3) = m ((c.tc : Thread Cert.RwkvPostIdeal.nD Cert.RwkvPostIdeal.τ).loc Cert.RwkvPostIdeal.main_arg3)
      ∧ m' ((c.tc : Thread Cert.RwkvPostRefIdeal.nD Cert.RwkvPostRefIdeal.τ).loc Cert.RwkvPostRefIdeal.main_arg4) = m ((c.tc : Thread Cert.RwkvPostIdeal.nD Cert.RwkvPostIdeal.τ).loc Cert.RwkvPostIdeal.main_arg4)) →
    ∃ (v0 : (c : Dev Cert.RwkvPostIdeal.nD) → Buf (Elt Ideal) ((c.tc : Thread Cert.RwkvPostIdeal.nD Cert.RwkvPostIdeal.τ).loc Cert.RwkvPostIdeal.main_v2)),
      θ_run (Cert.RwkvPostIdeal.defs (F := Ideal)) (onTc (τ := Cert.RwkvPostIdeal.τ) (Cert.RwkvPostIdeal.main (F := Ideal))) ⟨m, fun _ => 0, g⟩ (fun r => ∀ c : Dev Cert.RwkvPostIdeal.nD,
          r.2.mem ((c.tc : Thread Cert.RwkvPostIdeal.nD Cert.RwkvPostIdeal.τ).loc Cert.RwkvPostIdeal.main_v2) = v0 c
          ∧ r.2.mem ((c.tc : Thread Cert.RwkvPostIdeal.nD Cert.RwkvPostIdeal.τ).loc Cert.RwkvPostIdeal.main_arg0) = m ((c.tc : Thread Cert.RwkvPostIdeal.nD Cert.RwkvPostIdeal.τ).loc Cert.RwkvPostIdeal.main_arg0)
          ∧ r.2.mem ((c.tc : Thread Cert.RwkvPostIdeal.nD Cert.RwkvPostIdeal.τ).loc Cert.RwkvPostIdeal.main_arg1) = m ((c.tc : Thread Cert.RwkvPostIdeal.nD Cert.RwkvPostIdeal.τ).loc Cert.RwkvPostIdeal.main_arg1)
          ∧ r.2.mem ((c.tc : Thread Cert.RwkvPostIdeal.nD Cert.RwkvPostIdeal.τ).loc Cert.RwkvPostIdeal.main_arg2) = m ((c.tc : Thread Cert.RwkvPostIdeal.nD Cert.RwkvPostIdeal.τ).loc Cert.RwkvPostIdeal.main_arg2)
          ∧ r.2.mem ((c.tc : Thread Cert.RwkvPostIdeal.nD Cert.RwkvPostIdeal.τ).loc Cert.RwkvPostIdeal.main_arg3) = m ((c.tc : Thread Cert.RwkvPostIdeal.nD Cert.RwkvPostIdeal.τ).loc Cert.RwkvPostIdeal.main_arg3)
          ∧ r.2.mem ((c.tc : Thread Cert.RwkvPostIdeal.nD Cert.RwkvPostIdeal.τ).loc Cert.RwkvPostIdeal.main_arg4) = m ((c.tc : Thread Cert.RwkvPostIdeal.nD Cert.RwkvPostIdeal.τ).loc Cert.RwkvPostIdeal.main_arg4))
      ∧ θ_run (Cert.RwkvPostRefIdeal.defs (F := Ideal)) (onTc (τ := Cert.RwkvPostRefIdeal.τ) (Cert.RwkvPostRefIdeal.main (F := Ideal))) ⟨m', fun _ => 0, g'⟩ (fun r => ∀ c : Dev Cert.RwkvPostRefIdeal.nD,
          r.2.mem ((c.tc : Thread Cert.RwkvPostRefIdeal.nD Cert.RwkvPostRefIdeal.τ).loc Cert.RwkvPostRefIdeal.main_v28) = v0 c
          ∧ r.2.mem ((c.tc : Thread Cert.RwkvPostRefIdeal.nD Cert.RwkvPostRefIdeal.τ).loc Cert.RwkvPostRefIdeal.main_arg0) = m' ((c.tc : Thread Cert.RwkvPostRefIdeal.nD Cert.RwkvPostRefIdeal.τ).loc Cert.RwkvPostRefIdeal.main_arg0)
          ∧ r.2.mem ((c.tc : Thread Cert.RwkvPostRefIdeal.nD Cert.RwkvPostRefIdeal.τ).loc Cert.RwkvPostRefIdeal.main_arg1) = m' ((c.tc : Thread Cert.RwkvPostRefIdeal.nD Cert.RwkvPostRefIdeal.τ).loc Cert.RwkvPostRefIdeal.main_arg1)
          ∧ r.2.mem ((c.tc : Thread Cert.RwkvPostRefIdeal.nD Cert.RwkvPostRefIdeal.τ).loc Cert.RwkvPostRefIdeal.main_arg2) = m' ((c.tc : Thread Cert.RwkvPostRefIdeal.nD Cert.RwkvPostRefIdeal.τ).loc Cert.RwkvPostRefIdeal.main_arg2)
          ∧ r.2.mem ((c.tc : Thread Cert.RwkvPostRefIdeal.nD Cert.RwkvPostRefIdeal.τ).loc Cert.RwkvPostRefIdeal.main_arg3) = m' ((c.tc : Thread Cert.RwkvPostRefIdeal.nD Cert.RwkvPostRefIdeal.τ).loc Cert.RwkvPostRefIdeal.main_arg3)
          ∧ r.2.mem ((c.tc : Thread Cert.RwkvPostRefIdeal.nD Cert.RwkvPostRefIdeal.τ).loc Cert.RwkvPostRefIdeal.main_arg4) = m' ((c.tc : Thread Cert.RwkvPostRefIdeal.nD Cert.RwkvPostRefIdeal.τ).loc Cert.RwkvPostRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v0)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v0) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v1) = v0 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleRefIdeal : Cert.SampleRefIdeal.Facts) (hAda : Cert.Ada.Facts) (hAdaIdeal : Cert.AdaIdeal.Facts) (hAdaRefIdeal : Cert.AdaRefIdeal.Facts) (hFinal : Cert.Final.Facts) (hFinalIdeal : Cert.FinalIdeal.Facts) (hFinalRefIdeal : Cert.FinalRefIdeal.Facts) (hPreNorm : Cert.PreNorm.Facts) (hPreNormIdeal : Cert.PreNormIdeal.Facts) (hPreNormRefIdeal : Cert.PreNormRefIdeal.Facts) (hPostMix : Cert.PostMix.Facts) (hPostMixIdeal : Cert.PostMixIdeal.Facts) (hPostMixRefIdeal : Cert.PostMixRefIdeal.Facts) (hInRet : Cert.InRet.Facts) (hInRetIdeal : Cert.InRetIdeal.Facts) (hInRetRefIdeal : Cert.InRetRefIdeal.Facts) (hInRkv : Cert.InRkv.Facts) (hInRkvIdeal : Cert.InRkvIdeal.Facts) (hInRkvRefIdeal : Cert.InRkvRefIdeal.Facts) (hRwkvPost : Cert.RwkvPost.Facts) (hRwkvPostIdeal : Cert.RwkvPostIdeal.Facts) (hRwkvPostRefIdeal : Cert.RwkvPostRefIdeal.Facts) (hOutProj : Cert.OutProj.Facts) (hOutProjIdeal : Cert.OutProjIdeal.Facts) (hOutProjRefIdeal : Cert.OutProjRefIdeal.Facts) (hPeerQ : Cert.PeerQ.Facts) (hPeerQIdeal : Cert.PeerQIdeal.Facts) (hPeerQRefIdeal : Cert.PeerQRefIdeal.Facts),
    quiescent_Kernel (hKernel := hKernel)
    ∧ quiescent_KernelIdeal (hKernelIdeal := hKernelIdeal)
    ∧ quiescent_ReferenceIdeal (hReferenceIdeal := hReferenceIdeal)
    ∧ quiescent_Sample (hSample := hSample)
    ∧ quiescent_SampleIdeal (hSampleIdeal := hSampleIdeal)
    ∧ quiescent_SampleRefIdeal (hSampleRefIdeal := hSampleRefIdeal)
    ∧ quiescent_Ada (hAda := hAda)
    ∧ quiescent_AdaIdeal (hAdaIdeal := hAdaIdeal)
    ∧ quiescent_AdaRefIdeal (hAdaRefIdeal := hAdaRefIdeal)
    ∧ quiescent_Final (hFinal := hFinal)
    ∧ quiescent_FinalIdeal (hFinalIdeal := hFinalIdeal)
    ∧ quiescent_FinalRefIdeal (hFinalRefIdeal := hFinalRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostMix (hPostMix := hPostMix)
    ∧ quiescent_PostMixIdeal (hPostMixIdeal := hPostMixIdeal)
    ∧ quiescent_PostMixRefIdeal (hPostMixRefIdeal := hPostMixRefIdeal)
    ∧ quiescent_InRet (hInRet := hInRet)
    ∧ quiescent_InRetIdeal (hInRetIdeal := hInRetIdeal)
    ∧ quiescent_InRetRefIdeal (hInRetRefIdeal := hInRetRefIdeal)
    ∧ quiescent_InRkv (hInRkv := hInRkv)
    ∧ quiescent_InRkvIdeal (hInRkvIdeal := hInRkvIdeal)
    ∧ quiescent_InRkvRefIdeal (hInRkvRefIdeal := hInRkvRefIdeal)
    ∧ quiescent_RwkvPost (hRwkvPost := hRwkvPost)
    ∧ quiescent_RwkvPostIdeal (hRwkvPostIdeal := hRwkvPostIdeal)
    ∧ quiescent_RwkvPostRefIdeal (hRwkvPostRefIdeal := hRwkvPostRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ preserves_Kernel_KernelIdeal
    ∧ algebraic_KernelIdeal_ReferenceIdeal (hKernelIdeal := hKernelIdeal) (hReferenceIdeal := hReferenceIdeal)
    ∧ preserves_Sample_SampleIdeal
    ∧ algebraic_SampleIdeal_SampleRefIdeal (hSampleIdeal := hSampleIdeal) (hSampleRefIdeal := hSampleRefIdeal)
    ∧ preserves_Ada_AdaIdeal
    ∧ algebraic_AdaIdeal_AdaRefIdeal (hAdaIdeal := hAdaIdeal) (hAdaRefIdeal := hAdaRefIdeal)
    ∧ preserves_Final_FinalIdeal
    ∧ algebraic_FinalIdeal_FinalRefIdeal (hFinalIdeal := hFinalIdeal) (hFinalRefIdeal := hFinalRefIdeal)
    ∧ preserves_PreNorm_PreNormIdeal
    ∧ algebraic_PreNormIdeal_PreNormRefIdeal (hPreNormIdeal := hPreNormIdeal) (hPreNormRefIdeal := hPreNormRefIdeal)
    ∧ preserves_PostMix_PostMixIdeal
    ∧ algebraic_PostMixIdeal_PostMixRefIdeal (hPostMixIdeal := hPostMixIdeal) (hPostMixRefIdeal := hPostMixRefIdeal)
    ∧ preserves_InRet_InRetIdeal
    ∧ algebraic_InRetIdeal_InRetRefIdeal (hInRetIdeal := hInRetIdeal) (hInRetRefIdeal := hInRetRefIdeal)
    ∧ preserves_InRkv_InRkvIdeal
    ∧ algebraic_InRkvIdeal_InRkvRefIdeal (hInRkvIdeal := hInRkvIdeal) (hInRkvRefIdeal := hInRkvRefIdeal)
    ∧ preserves_RwkvPost_RwkvPostIdeal
    ∧ algebraic_RwkvPostIdeal_RwkvPostRefIdeal (hRwkvPostIdeal := hRwkvPostIdeal) (hRwkvPostRefIdeal := hRwkvPostRefIdeal)
    ∧ preserves_OutProj_OutProjIdeal
    ∧ algebraic_OutProjIdeal_OutProjRefIdeal (hOutProjIdeal := hOutProjIdeal) (hOutProjRefIdeal := hOutProjRefIdeal)
    ∧ preserves_PeerQ_PeerQIdeal
    ∧ algebraic_PeerQIdeal_PeerQRefIdeal (hPeerQIdeal := hPeerQIdeal) (hPeerQRefIdeal := hPeerQRefIdeal)
-- ==== Kernel.lean ====
abbrev S9216x8192 : Shape := ⟨2, ![9216, 8192]⟩
abbrev S16 : Shape := ⟨1, ![16]⟩
abbrev S_ : Shape := ⟨0, ![]⟩
abbrev S16x1x1 : Shape := ⟨3, ![16, 1, 1]⟩
abbrev S16x8x128 : Shape := ⟨3, ![16, 8, 128]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192x2048 : Shape := ⟨2, ![8192, 2048]⟩
abbrev S4x16x128x128 : Shape := ⟨4, ![4, 16, 128, 128]⟩
abbrev S1x8x128 : Shape := ⟨3, ![1, 8, 128]⟩
abbrev S1x1x128x128 : Shape := ⟨4, ![1, 1, 128, 128]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩

abbrev nBuf : Space → Nat
  | .hbm => 35
  | .vmem => 16
  | .smem => 0
  | _ => 0

abbrev bufTy : (tb : Table) → Fin (tcTables nBuf tb) → BufTy
  | .hbm, ⟨0, _⟩ => ⟨S9216x8192, .f32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16x1x1, .f32⟩
  | .hbm, ⟨12, _⟩ => ⟨S16x8x128, .f32⟩
  | .hbm, ⟨13, _⟩ => ⟨S2048, .i32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S2048x1, .f32⟩
  | .hbm, ⟨24, _⟩ => ⟨S1x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x128, .f32⟩
  | .hbm, ⟨31, _⟩ => ⟨S2048x64, .f32⟩
  | .hbm, ⟨32, _⟩ => ⟨S2048x128, .f32⟩
  | .hbm, ⟨33, _⟩ => ⟨S8192x2048, .bf16⟩
  | .hbm, ⟨34, _⟩ => ⟨S4x16x128x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x8x128, .f32⟩
  | .local _ .vmem, ⟨11, _⟩ => ⟨S1x8x128, .f32⟩
  | .local _ .vmem, ⟨12, _⟩ => ⟨S2048x128, .bf16⟩
  | .local _ .vmem, ⟨13, _⟩ => ⟨S2048x128, .bf16⟩
  | .local _ .vmem, ⟨14, _⟩ => ⟨S1x1x128x128, .f32⟩
  | .local _ .vmem, ⟨15, _⟩ => ⟨S1x1x128x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_6 : BitVec 32 := 0#32
  let c16_i32 : BitVec 32 := 16#32
  let v30 : BitVec 32 := Scalar.addi c0_i32_6 c16_i32
  let c1_i32 : BitVec 32 := 1#32
  ⟨c0_i32_6, v30, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c128_i32 : BitVec 32 := 128#32
  let v35 : BitVec 32 := Scalar.muli arg11 c128_i32
  v35
def k0_off1 (k0_t1 : Fin k0_t1_loop.trips) : Fin 2 → Nat :=
  let c0_i32_6 : BitVec 32 := 0#32
  let c1_i32 : BitVec 32 := 1#32
  let arg11 : BitVec 32 := Scf.iv c0_i32_6 c1_i32 k0_t1
  let c128_i32 : BitVec 32 := 128#32
  let v35 : BitVec 32 := Scalar.muli arg11 c128_i32
  let v36 : BitVec 32 := v35
  let v37 : Index := Scalar.indexCast v36
  let c0_12 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg1 c48_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S9216x8192 : Shape := ⟨2, ![9216, 8192]⟩
abbrev S8192x8192 : Shape := ⟨2, ![8192, 8192]⟩
abbrev S4x2048x8192 : Shape := ⟨3, ![4, 2048, 8192]⟩
abbrev S4x2048x2048 : Shape := ⟨3, ![4, 2048, 2048]⟩
abbrev S2048 : Shape := ⟨1, ![2048]⟩
abbrev S16 : Shape := ⟨1, ![16]⟩
abbrev S_ : Shape := ⟨0, ![]⟩
abbrev S4x2048x16x128 : Shape := ⟨4, ![4, 2048, 16, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x16x64 : Shape := ⟨4, ![4, 2048, 16, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S1x16 : Shape := ⟨2, ![1, 16]⟩
abbrev S128x16 : Shape := ⟨2, ![128, 16]⟩
abbrev S4x16x128x128 : Shape := ⟨4, ![4, 16, 128, 128]⟩
abbrev S4x16x128x16x128 : Shape := ⟨5, ![4, 16, 128, 16, 128]⟩
abbrev S16x4x128x16x128 : Shape := ⟨5, ![16, 4, 128, 16, 128]⟩
abbrev S1x4x128x16x128 : Shape := ⟨5, ![1, 4, 128, 16, 128]⟩
abbrev S4x128x16x128 : Shape := ⟨4, ![4, 128, 16, 128]⟩
abbrev S1x16x128x128 : Shape := ⟨4, ![1, 16, 128, 128]⟩
abbrev S1x128x16x1 : Shape := ⟨4, ![1, 128, 16, 1]⟩
abbrev S1x16x1x1 : Shape := ⟨4, ![1, 16, 1, 1]⟩
abbrev S4x2048x16 : Shape := ⟨3, ![4, 2048, 16]⟩
abbrev S4x2048x16x1 : Shape := ⟨4, ![4, 2048, 16, 1]⟩
abbrev S8192x2048 : Shape := ⟨2, ![8192, 2048]⟩

abbrev nBuf : Space → Nat
  | .hbm => 232
  | .vmem => 0
  | .smem => 0
  | _ => 0

abbrev hbmTy0_0 (i : Nat) : BufTy := match i % 128 with
  | 0 => ⟨S9216x8192, .f32⟩
  | 1 => ⟨S8192x8192, .f32⟩
  | 2 => ⟨S4x2048x8192, .f32⟩
  | 3 => ⟨S4x2048x2048, .f32⟩
  | 4 => ⟨S4x2048x2048, .f32⟩
  | 5 => ⟨S4x2048x2048, .f32⟩
  | 6 => ⟨S2048, .i32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S16, .f32⟩
  | 16 => ⟨S16, .f32⟩
  | 17 => ⟨S4x2048x16x128, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S2048, .f32⟩
  | 27 => ⟨S2048x1, .f32⟩
  | 28 => ⟨S1x64, .f32⟩
  | 29 => ⟨S2048x64, .f32⟩
  | 30 => ⟨S2048x64, .f32⟩
  | 31 => ⟨S2048x64, .f32⟩
  | 32 => ⟨S2048x64, .f32⟩
  | 33 => ⟨S1x2048x1x64, .f32⟩
  | 34 => ⟨S2048x64, .f32⟩
  | 35 => ⟨S1x2048x1x64, .f32⟩
  | 36 => ⟨S4x2048x16x64, .f32⟩
  | 37 => ⟨S4x2048x16x64, .f32⟩
  | 38 => ⟨S4x2048x16x64, .f32⟩
  | 39 => ⟨S4x2048x16x64, .f32⟩
  | 40 => ⟨S4x2048x16x64, .f32⟩
  | 41 => ⟨S4x2048x16x64, .f32⟩
  | 42 => ⟨S4x2048x16x64, .f32⟩
  | 43 => ⟨S4x2048x16x64, .f32⟩
  | 44 => ⟨S4x2048x16x64, .f32⟩
  | 45 => ⟨S4x2048x16x64, .f32⟩
  | 46 => ⟨S4x2048x16x64, .f32⟩
  | 47 => ⟨S4x2048x16x64, .f32⟩
  | 48 => ⟨S4x2048x16x128, .f32⟩
  | 49 => ⟨S4x2048x16x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S2048, .f32⟩
  | 59 => ⟨S2048x1, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S1x2048x1x64, .f32⟩
  | 66 => ⟨S2048x64, .f32⟩
  | 67 => ⟨S1x2048x1x64, .f32⟩
  | 68 => ⟨S4x2048x16x64, .f32⟩
  | 69 => ⟨S4x2048x16x64, .f32⟩
  | 70 => ⟨S4x2048x16x64, .f32⟩
  | 71 => ⟨S4x2048x16x64, .f32⟩
  | 72 => ⟨S4x2048x16x64, .f32⟩
  | 73 => ⟨S4x2048x16x64, .f32⟩
  | 74 => ⟨S4x2048x16x64, .f32⟩
  | 75 => ⟨S4x2048x16x64, .f32⟩
  | 76 => ⟨S4x2048x16x64, .f32⟩
  | 77 => ⟨S4x2048x16x64, .f32⟩
  | 78 => ⟨S4x2048x16x64, .f32⟩
  | 79 => ⟨S4x2048x16x64, .f32⟩
  | 80 => ⟨S4x2048x16x128, .f32⟩
  | 81 => ⟨S_, .f32⟩
  | 82 => ⟨S4x2048x16x128, .f32⟩
  | 83 => ⟨S4x2048x16x128, .f32⟩
  | 84 => ⟨S4x2048x16x128, .f32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S_, .f32⟩
  | 92 => ⟨S128x128, .f32⟩
  | 93 => ⟨S128x128, .i1⟩
  | 94 => ⟨S1x128x128, .i1⟩
  | 95 => ⟨S_, .f32⟩
  | 96 => ⟨S_, .f32⟩
  | 97 => ⟨S128x128, .f32⟩
  | 98 => ⟨S128x128, .f32⟩
  | 99 => ⟨S1x128x128, .f32⟩
  | 100 => ⟨S16x1x1, .f32⟩
  | 101 => ⟨S16x128x128, .f32⟩
  | 102 => ⟨S16x128x128, .f32⟩
  | 103 => ⟨S16x128x128, .f32⟩
  | 104 => ⟨S16x128x128, .f32⟩
  | 105 => ⟨S_, .f32⟩
  | 106 => ⟨S_, .f32⟩
  | 107 => ⟨S16x128x128, .i1⟩
  | 108 => ⟨S16x128x128, .f32⟩
  | 109 => ⟨S16x128x128, .f32⟩
  | 110 => ⟨S128x1, .f32⟩
  | 111 => ⟨S_, .f32⟩
  | 112 => ⟨S128x1, .f32⟩
  | 113 => ⟨S128x1, .f32⟩
  | 114 => ⟨S1x16, .f32⟩
  | 115 => ⟨S128x16, .f32⟩
  | 116 => ⟨S128x16, .f32⟩
  | 117 => ⟨S128x16, .f32⟩
  | 118 => ⟨S128x16, .f32⟩
  | 119 => ⟨S128x1, .f32⟩
  | 120 => ⟨S_, .f32⟩
  | 121 => ⟨S128x1, .f32⟩
  | 122 => ⟨S128x1, .f32⟩
  | 123 => ⟨S1x16, .f32⟩
  | 124 => ⟨S128x16, .f32⟩
  | 125 => ⟨S128x16, .f32⟩
  | 126 => ⟨S128x16, .f32⟩
  | 127 => ⟨S128x16, .f32⟩
  | _ => ⟨S9216x8192, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S_, .f32⟩
  | 5 => ⟨S4x16x128x128, .f32⟩
  | 6 => ⟨S4x16x128x16x128, .f32⟩
  | 7 => ⟨S16x4x128x16x128, .f32⟩
  | 8 => ⟨S4x16x128x16x128, .f32⟩
  | 9 => ⟨S16x4x128x16x128, .f32⟩
  | 10 => ⟨S4x16x128x16x128, .f32⟩
  | 11 => ⟨S16x4x128x16x128, .f32⟩
  | 12 => ⟨S_, .f32⟩
  | 13 => ⟨S16x4x128x16x128, .f32⟩
  | 14 => ⟨S_, .i32⟩
  | 15 => ⟨S16x4x128x16x128, .f32⟩
  | 16 => ⟨S16x4x128x16x128, .f32⟩
  | 17 => ⟨S16x4x128x16x128, .f32⟩
  | 18 => ⟨S16x128x128, .f32⟩
  | 19 => ⟨S128x16, .f32⟩
  | 20 => ⟨S16, .f32⟩
  | 21 => ⟨S128x16, .f32⟩
  | 22 => ⟨S_, .i32⟩
  | 23 => ⟨S4x16x128x128, .f32⟩
  | 24 => ⟨S16x4x128x16x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1x4x128x16x128, .f32⟩
  | 32 => ⟨S4x128x16x128, .f32⟩
  | 33 => ⟨S_, .i32⟩
  | 34 => ⟨S_, .i32⟩
  | 35 => ⟨S_, .i32⟩
  | 36 => ⟨S_, .i32⟩
  | 37 => ⟨S1x4x128x16x128, .f32⟩
  | 38 => ⟨S4x128x16x128, .f32⟩
  | 39 => ⟨S_, .i32⟩
  | 40 => ⟨S_, .i32⟩
  | 41 => ⟨S_, .i32⟩
  | 42 => ⟨S_, .i32⟩
  | 43 => ⟨S1x4x128x16x128, .f32⟩
  | 44 => ⟨S4x128x16x128, .f32⟩
  | 45 => ⟨S4x16x128x128, .f32⟩
  | 46 => ⟨S1x16x128x128, .f32⟩
  | 47 => ⟨S4x16x128x128, .f32⟩
  | 48 => ⟨S4x16x128x128, .f32⟩
  | 49 => ⟨S4x16x128x128, .f32⟩
  | 50 => ⟨S4x128x16x128, .f32⟩
  | 51 => ⟨S1x128x16x1, .f32⟩
  | 52 => ⟨S4x128x16x128, .f32⟩
  | 53 => ⟨S4x128x16x128, .f32⟩
  | 54 => ⟨S4x16x128x128, .f32⟩
  | 55 => ⟨S4x128x16x128, .f32⟩
  | 56 => ⟨S1x16x1x1, .f32⟩
  | 57 => ⟨S4x16x128x128, .f32⟩
  | 58 => ⟨S4x16x128x128, .f32⟩
  | 59 => ⟨S1x128x16x1, .f32⟩
  | 60 => ⟨S4x128x16x128, .f32⟩
  | 61 => ⟨S4x128x16x128, .f32⟩
  | 62 => ⟨S4x16x128x128, .f32⟩
  | 63 => ⟨S4x16x128x128, .f32⟩
  | 64 => ⟨S4x128x16x128, .f32⟩
  | 65 => ⟨S1x4x128x16x128, .f32⟩
  | 66 => ⟨S_, .i32⟩
  | 67 => ⟨S_, .i32⟩
  | 68 => ⟨S_, .i32⟩
  | 69 => ⟨S_, .i32⟩
  | 70 => ⟨S16x4x128x16x128, .f32⟩
  | 71 => ⟨S_, .i32⟩
  | 72 => ⟨S_, .i32⟩
  | 73 => ⟨S4x16x128x16x128, .f32⟩
  | 74 => ⟨S4x2048x16x128, .f32⟩
  | 75 => ⟨S4x2048x16x128, .f32⟩
  | 76 => ⟨S_, .f32⟩
  | 77 => ⟨S4x2048x16, .f32⟩
  | 78 => ⟨S4x2048x16x1, .f32⟩
  | 79 => ⟨S_, .f32⟩
  | 80 => ⟨S4x2048x16x1, .f32⟩
  | 81 => ⟨S4x2048x16x1, .f32⟩
  | 82 => ⟨S_, .f32⟩
  | 83 => ⟨S4x2048x16x1, .f32⟩
  | 84 => ⟨S4x2048x16x1, .f32⟩
  | 85 => ⟨S4x2048x16x1, .f32⟩
  | 86 => ⟨S4x2048x16x128, .f32⟩
  | 87 => ⟨S4x2048x16x128, .f32⟩
  | 88 => ⟨S8192x8192, .f32⟩
  | 89 => ⟨S4x2048x8192, .f32⟩
  | 90 => ⟨S4x2048x2048, .f32⟩
  | 91 => ⟨S4x2048x2048, .f32⟩
  | 92 => ⟨S4x2048x2048, .f32⟩
  | 93 => ⟨S4x2048x2048, .f32⟩
  | 94 => ⟨S_, .f32⟩
  | 95 => ⟨S4x2048x2048, .f32⟩
  | 96 => ⟨S4x2048x2048, .f32⟩
  | 97 => ⟨S_, .f32⟩
  | 98 => ⟨S4x2048x2048, .f32⟩
  | 99 => ⟨S4x2048x2048, .f32⟩
  | 100 => ⟨S4x2048x2048, .f32⟩
  | 101 => ⟨S4x2048x2048, .f32⟩
  | 102 => ⟨S8192x2048, .f32⟩
  | 103 => ⟨S8192x2048, .bf16⟩
  | _ => ⟨S9216x8192, .f32⟩

abbrev hbmTy (i : Nat) : BufTy := match i / 128 with
  | 0 => hbmTy0_0 i
  | 1 => hbmTy0_1 i
  | _ => ⟨S9216x8192, .f32⟩

abbrev bufTy : (tb : Table) → Fin (tcTables nBuf tb) → BufTy
  | .hbm, ⟨i, _⟩ => hbmTy i
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_3 : Ref sig .tc := ⟨.hbm, 52, rfl⟩
abbrev main_v47 : Ref sig .tc := ⟨.hbm, 53, rfl⟩
abbrev main_v48 : Ref sig .tc := ⟨.hbm, 54, rfl⟩
abbrev main_cst_4 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_5 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_6 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_7 : Ref sig .tc := ⟨.hbm, 95, rfl⟩
abbrev main_call0_v0 : Ref sig .tc := ⟨.hbm, 96, rfl⟩
abbrev main_call0_v1 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_11 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_12 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_13 : Ref sig .tc := ⟨.hbm, 140, rfl⟩
abbrev main_v120 : Ref sig .tc := ⟨.hbm, 141, rfl⟩
abbrev main_c : Ref sig .tc := ⟨.hbm, 142, rfl⟩
abbrev main_v121_0 : Ref sig .tc := ⟨.hbm, 143, rfl⟩
abbrev main_v121_1 : Ref sig .tc := ⟨.hbm, 144, rfl⟩
abbrev main_v121_2 : Ref sig .tc := ⟨.hbm, 145, rfl⟩
abbrev main_v121_3 : Ref sig .tc := ⟨.hbm, 146, rfl⟩
abbrev main_v121_4 : Ref sig .tc := ⟨.hbm, 147, rfl⟩
abbrev main_v121_5 : Ref sig .tc := ⟨.hbm, 148, rfl⟩
abbrev main_v121_6 : Ref sig .tc := ⟨.hbm, 149, rfl⟩
abbrev main_v121_7 : Ref sig .tc := ⟨.hbm, 150, rfl⟩
abbrev main_v121_8 : Ref sig .tc := ⟨.hbm, 151, rfl⟩
abbrev main_v121_9 : Ref sig .tc := ⟨.hbm, 152, rfl⟩
abbrev main_while0c_c_26 : Ref sig .tc := ⟨.hbm, 153, rfl⟩
abbrev main_while0c_v142 : Ref sig .tc := ⟨.hbm, 154, rfl⟩
abbrev main_while0b_call2_c : Ref sig .tc := ⟨.hbm, 155, rfl⟩
abbrev main_while0b_call2_c_0 : Ref sig .tc := ⟨.hbm, 156, rfl⟩
abbrev main_while0b_call2_c_1 : Ref sig .tc := ⟨.hbm, 157, rfl⟩
abbrev main_while0b_call2_c_2 : Ref sig .tc := ⟨.hbm, 158, rfl⟩
abbrev main_while0b_call2_v0 : Ref sig .tc := ⟨.hbm, 159, rfl⟩
abbrev main_while0b_v142 : Ref sig .tc := ⟨.hbm, 160, rfl⟩
abbrev main_while0b_call3_c : Ref sig .tc := ⟨.hbm, 161, rfl⟩
abbrev main_while0b_call3_c_0 : Ref sig .tc := ⟨.hbm, 162, rfl⟩
abbrev main_while0b_call3_c_1 : Ref sig .tc := ⟨.hbm, 163, rfl⟩
abbrev main_while0b_call3_c_2 : Ref sig .tc := ⟨.hbm, 164, rfl⟩
abbrev main_while0b_call3_v0 : Ref sig .tc := ⟨.hbm, 165, rfl⟩
abbrev main_while0b_v143 : Ref sig .tc := ⟨.hbm, 166, rfl⟩
abbrev main_while0b_call4_c : Ref sig .tc := ⟨.hbm, 167, rfl⟩
abbrev main_while0b_call4_c_0 : Ref sig .tc := ⟨.hbm, 168, rfl⟩
abbrev main_while0b_call4_c_1 : Ref sig .tc := ⟨.hbm, 169, rfl⟩
abbrev main_while0b_call4_c_2 : Ref sig .tc := ⟨.hbm, 170, rfl⟩
abbrev main_while0b_call4_v0 : Ref sig .tc := ⟨.hbm, 171, rfl⟩
abbrev main_while0b_v144 : Ref sig .tc := ⟨.hbm, 172, rfl⟩
abbrev main_while0b_v145 : Ref sig .tc := ⟨.hbm, 173, rfl⟩
abbrev main_while0b_v146 : Ref sig .tc := ⟨.hbm, 174, rfl⟩
abbrev main_while0b_v147 : Ref sig .tc := ⟨.hbm, 175, rfl⟩
abbrev main_while0b_v148 : Ref sig .tc := ⟨.hbm, 176, rfl⟩
abbrev main_while0b_v149 : Ref sig .tc := ⟨.hbm, 177, rfl⟩
abbrev main_while0b_v150 : Ref sig .tc := ⟨.hbm, 178, rfl⟩
abbrev main_while0b_v151 : Ref sig .tc := ⟨.hbm, 179, rfl⟩
abbrev main_while0b_v152 : Ref sig .tc := ⟨.hbm, 180, rfl⟩
abbrev main_while0b_v153 : Ref sig .tc := ⟨.hbm, 181, rfl⟩
abbrev main_while0b_v154 : Ref sig .tc := ⟨.hbm, 182, rfl⟩
abbrev main_while0b_v155 : Ref sig .tc := ⟨.hbm, 183, rfl⟩
abbrev main_while0b_v156 : Ref sig .tc := ⟨.hbm, 184, rfl⟩
abbrev main_while0b_v157 : Ref sig .tc := ⟨.hbm, 185, rfl⟩
abbrev main_while0b_v158 : Ref sig .tc := ⟨.hbm, 186, rfl⟩
abbrev main_while0b_v159 : Ref sig .tc := ⟨.hbm, 187, rfl⟩
abbrev main_while0b_v160 : Ref sig .tc := ⟨.hbm, 188, rfl⟩
abbrev main_while0b_v161 : Ref sig .tc := ⟨.hbm, 189, rfl⟩
abbrev main_while0b_v162 : Ref sig .tc := ⟨.hbm, 190, rfl⟩
abbrev main_while0b_v163 : Ref sig .tc := ⟨.hbm, 191, rfl⟩
abbrev main_while0b_v164 : Ref sig .tc := ⟨.hbm, 192, rfl⟩
abbrev main_while0b_call5_v0 : Ref sig .tc := ⟨.hbm, 193, rfl⟩
abbrev main_while0b_call5_c : Ref sig .tc := ⟨.hbm, 194, rfl⟩
abbrev main_while0b_call5_c_0 : Ref sig .tc := ⟨.hbm, 195, rfl⟩
abbrev main_while0b_call5_c_1 : Ref sig .tc := ⟨.hbm, 196, rfl⟩
abbrev main_while0b_call5_c_2 : Ref sig .tc := ⟨.hbm, 197, rfl⟩
abbrev main_while0b_v165 : Ref sig .tc := ⟨.hbm, 198, rfl⟩
abbrev main_while0b_c_26 : Ref sig .tc := ⟨.hbm, 199, rfl⟩
abbrev main_while0b_v166 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_14 : Ref sig .tc := ⟨.hbm, 204, rfl⟩
abbrev main_v125 : Ref sig .tc := ⟨.hbm, 205, rfl⟩
abbrev main_v126 : Ref sig .tc := ⟨.hbm, 206, rfl⟩
abbrev main_cst_15 : Ref sig .tc := ⟨.hbm, 207, rfl⟩
abbrev main_v127 : Ref sig .tc := ⟨.hbm, 208, rfl⟩
abbrev main_v128 : Ref sig .tc := ⟨.hbm, 209, rfl⟩
abbrev main_cst_16 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_call6_v0 : Ref sig .tc := ⟨.hbm, 220, rfl⟩
abbrev main_call6_v1 : Ref sig .tc := ⟨.hbm, 221, rfl⟩
abbrev main_call6_cst : Ref sig .tc := ⟨.hbm, 222, rfl⟩
abbrev main_call6_v2 : Ref sig .tc := ⟨.hbm, 223, rfl⟩
abbrev main_call6_v3 : Ref sig .tc := ⟨.hbm, 224, rfl⟩
abbrev main_call6_cst_0 : Ref sig .tc := ⟨.hbm, 225, rfl⟩
abbrev main_call6_v4 : Ref sig .tc := ⟨.hbm, 226, rfl⟩
abbrev main_call6_v5 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩

abbrev nD : Nat := 1
abbrev τ : Topo := Topo.v7x

variable {F : FTy → Type} [FloatOps F]

abbrev main_while0_count : Scf.Loop 32 := ⟨0#32, 16#32, 1#32⟩
-- ==== Sample.lean ====
abbrev S9216x8192 : Shape := ⟨2, ![9216, 8192]⟩
abbrev S128x16x128x128 : Shape := ⟨4, ![128, 16, 128, 128]⟩
abbrev S16 : Shape := ⟨1, ![16]⟩
abbrev S_ : Shape := ⟨0, ![]⟩
abbrev S16x1x1 : Shape := ⟨3, ![16, 1, 1]⟩
abbrev S16x8x128 : Shape := ⟨3, ![16, 8, 128]⟩
abbrev S8 : Shape := ⟨1, ![8]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S1x8x1x128 : Shape := ⟨4, ![1, 8, 1, 128]⟩
abbrev S16x8x1x128 : Shape := ⟨4, ![16, 8, 1, 128]⟩
abbrev S128x128 : Shape := ⟨2, ![128, 128]⟩
abbrev S1024x2048 : Shape := ⟨2, ![1024, 2048]⟩
abbrev S1x8x128 : Shape := ⟨3, ![1, 8, 128]⟩
abbrev S16x1x128x128 : Shape := ⟨4, ![16, 1, 128, 128]⟩
abbrev S1x1x128 : Shape := ⟨3, ![1, 1, 128]⟩
abbrev S1x128 : Shape := ⟨2, ![1, 128]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 45
  | .vmem => 18
  | .smem => 0
  | _ => 0

abbrev bufTy : (tb : Table) → Fin (tcTables nBuf tb) → BufTy
  | .hbm, ⟨0, _⟩ => ⟨S9216x8192, .f32⟩
  | .hbm, ⟨1, _⟩ => ⟨S128x16x128x128, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16x1x1, .f32⟩
  | .hbm, ⟨13, _⟩ => ⟨S16x8x128, .f32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S8, .f32⟩
  | .hbm, ⟨27, _⟩ => ⟨S8x1, .f32⟩
  | .hbm, ⟨28, _⟩ => ⟨S1x64, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x64, .f32⟩
  | .hbm, ⟨33, _⟩ => ⟨S8x64, .f32⟩
  | .hbm, ⟨34, _⟩ => ⟨S8x128, .f32⟩
  | .hbm, ⟨35, _⟩ => ⟨S8x64, .f32⟩
  | .hbm, ⟨36, _⟩ => ⟨S8x128, .f32⟩
  | .hbm, ⟨37, _⟩ => ⟨S1x8x1x128, .f32⟩
  | .hbm, ⟨38, _⟩ => ⟨S16x8x1x128, .f32⟩
  | .hbm, ⟨39, _⟩ => ⟨S128x128, .f32⟩
  | .hbm, ⟨40, _⟩ => ⟨S1x8x1x128, .f32⟩
  | .hbm, ⟨41, _⟩ => ⟨S16x8x1x128, .f32⟩
  | .hbm, ⟨42, _⟩ => ⟨S128x128, .f32⟩
  | .hbm, ⟨43, _⟩ => ⟨S1024x2048, .bf16⟩
  | .hbm, ⟨44, _⟩ => ⟨S128x16x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x8x128, .f32⟩
  | .local _ .vmem, ⟨11, _⟩ => ⟨S1x8x128, .f32⟩
  | .local _ .vmem, ⟨12, _⟩ => ⟨S16x1x128x128, .f32⟩
  | .local _ .vmem, ⟨13, _⟩ => ⟨S16x1x128x128, .f32⟩
  | .local _ .vmem, ⟨14, _⟩ => ⟨S128x128, .bf16⟩
  | .local _ .vmem, ⟨15, _⟩ => ⟨S128x128, .bf16⟩
  | .local _ .vmem, ⟨16, _⟩ => ⟨S16x1x128x128, .f32⟩
  | .local _ .vmem, ⟨17, _⟩ => ⟨S16x1x128x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg0 c64_i32
  let c0_i32 : BitVec 32 := 0#32
  let v1 : BitVec 32 := Scalar.addi arg1 c0_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg0 c64_i32
  let c16_i32 : BitVec 32 := 16#32
  let v1 : BitVec 32 := Scalar.addi arg1 c16_i32
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg0 c64_i32
  let c32_i32 : BitVec 32 := 32#32
  let v1 : BitVec 32 := Scalar.addi arg1 c32_i32
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg0 c64_i32
  let c48_i32 : BitVec 32 := 48#32
  let v1 : BitVec 32 := Scalar.addi arg1 c48_i32
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SampleRefIdeal.lean ====
abbrev S9216x8192 : Shape := ⟨2, ![9216, 8192]⟩
abbrev S128x16x128x128 : Shape := ⟨4, ![128, 16, 128, 128]⟩
abbrev S1024x8192 : Shape := ⟨2, ![1024, 8192]⟩
abbrev S128x8x8192 : Shape := ⟨3, ![128, 8, 8192]⟩
abbrev S128x8x2048 : Shape := ⟨3, ![128, 8, 2048]⟩
abbrev S8 : Shape := ⟨1, ![8]⟩
abbrev S_ : Shape := ⟨0, ![]⟩
abbrev S16 : Shape := ⟨1, ![16]⟩
abbrev S128x8x16x128 : Shape := ⟨4, ![128, 8, 16, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S128x8x16x64 : Shape := ⟨4, ![128, 8, 16, 64]⟩
abbrev S1x8 : Shape := ⟨2, ![1, 8]⟩
abbrev S8x8 : Shape := ⟨2, ![8, 8]⟩
abbrev S1x8x8 : Shape := ⟨3, ![1, 8, 8]⟩
abbrev S16x1x1 : Shape := ⟨3, ![16, 1, 1]⟩
abbrev S16x8x8 : Shape := ⟨3, ![16, 8, 8]⟩
abbrev S1x16 : Shape := ⟨2, ![1, 16]⟩
abbrev S8x16 : Shape := ⟨2, ![8, 16]⟩
abbrev S128x16x8x8 : Shape := ⟨4, ![128, 16, 8, 8]⟩
abbrev S1x16x8x8 : Shape := ⟨4, ![1, 16, 8, 8]⟩
abbrev S128x16x128x8 : Shape := ⟨4, ![128, 16, 128, 8]⟩
abbrev S1x8x16x1 : Shape := ⟨4, ![1, 8, 16, 1]⟩
abbrev S1x16x1x1 : Shape := ⟨4, ![1, 16, 1, 1]⟩
abbrev S128x8x16 : Shape := ⟨3, ![128, 8, 16]⟩
abbrev S128x8x16x1 : Shape := ⟨4, ![128, 8, 16, 1]⟩
abbrev S1024x2048 : Shape := ⟨2, ![1024, 2048]⟩

abbrev nBuf : Space → Nat
  | .hbm => 183
  | .vmem => 0
  | .smem => 0
  | _ => 0

abbrev hbmTy0_0 (i : Nat) : BufTy := match i % 128 with
  | 0 => ⟨S9216x8192, .f32⟩
  | 1 => ⟨S128x16x128x128, .f32⟩
  | 2 => ⟨S1024x8192, .f32⟩
  | 3 => ⟨S128x8x8192, .f32⟩
  | 4 => ⟨S128x8x2048, .f32⟩
  | 5 => ⟨S128x8x2048, .f32⟩
  | 6 => ⟨S128x8x2048, .f32⟩
  | 7 => ⟨S128x8x2048, .f32⟩
  | 8 => ⟨S8, .i32⟩
  | 9 => ⟨S_, .i32⟩
  | 10 => ⟨S8, .i32⟩
  | 11 => ⟨S8, .i32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S16, .f32⟩
  | 21 => ⟨S16, .f32⟩
  | 22 => ⟨S128x8x16x128, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S8, .f32⟩
  | 32 => ⟨S8x1, .f32⟩
  | 33 => ⟨S1x64, .f32⟩
  | 34 => ⟨S8x64, .f32⟩
  | 35 => ⟨S8x64, .f32⟩
  | 36 => ⟨S8x64, .f32⟩
  | 37 => ⟨S8x64, .f32⟩
  | 38 => ⟨S1x8x1x64, .f32⟩
  | 39 => ⟨S8x64, .f32⟩
  | 40 => ⟨S1x8x1x64, .f32⟩
  | 41 => ⟨S128x8x16x64, .f32⟩
  | 42 => ⟨S128x8x16x64, .f32⟩
  | 43 => ⟨S128x8x16x64, .f32⟩
  | 44 => ⟨S128x8x16x64, .f32⟩
  | 45 => ⟨S128x8x16x64, .f32⟩
  | 46 => ⟨S128x8x16x64, .f32⟩
  | 47 => ⟨S128x8x16x64, .f32⟩
  | 48 => ⟨S128x8x16x64, .f32⟩
  | 49 => ⟨S128x8x16x64, .f32⟩
  | 50 => ⟨S128x8x16x64, .f32⟩
  | 51 => ⟨S128x8x16x64, .f32⟩
  | 52 => ⟨S128x8x16x64, .f32⟩
  | 53 => ⟨S128x8x16x128, .f32⟩
  | 54 => ⟨S128x8x16x128, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S8, .f32⟩
  | 64 => ⟨S8x1, .f32⟩
  | 65 => ⟨S1x64, .f32⟩
  | 66 => ⟨S8x64, .f32⟩
  | 67 => ⟨S8x64, .f32⟩
  | 68 => ⟨S8x64, .f32⟩
  | 69 => ⟨S8x64, .f32⟩
  | 70 => ⟨S1x8x1x64, .f32⟩
  | 71 => ⟨S8x64, .f32⟩
  | 72 => ⟨S1x8x1x64, .f32⟩
  | 73 => ⟨S128x8x16x64, .f32⟩
  | 74 => ⟨S128x8x16x64, .f32⟩
  | 75 => ⟨S128x8x16x64, .f32⟩
  | 76 => ⟨S128x8x16x64, .f32⟩
  | 77 => ⟨S128x8x16x64, .f32⟩
  | 78 => ⟨S128x8x16x64, .f32⟩
  | 79 => ⟨S128x8x16x64, .f32⟩
  | 80 => ⟨S128x8x16x64, .f32⟩
  | 81 => ⟨S128x8x16x64, .f32⟩
  | 82 => ⟨S128x8x16x64, .f32⟩
  | 83 => ⟨S128x8x16x64, .f32⟩
  | 84 => ⟨S128x8x16x64, .f32⟩
  | 85 => ⟨S128x8x16x128, .f32⟩
  | 86 => ⟨S_, .f32⟩
  | 87 => ⟨S128x8x16x128, .f32⟩
  | 88 => ⟨S128x8x16x128, .f32⟩
  | 89 => ⟨S128x8x16x128, .f32⟩
  | 90 => ⟨S8, .f32⟩
  | 91 => ⟨S8x1, .f32⟩
  | 92 => ⟨S1x8, .f32⟩
  | 93 => ⟨S8x8, .f32⟩
  | 94 => ⟨S8x8, .f32⟩
  | 95 => ⟨S8x8, .f32⟩
  | 96 => ⟨S_, .f32⟩
  | 97 => ⟨S8x8, .f32⟩
  | 98 => ⟨S8x8, .i1⟩
  | 99 => ⟨S1x8x8, .i1⟩
  | 100 => ⟨S_, .f32⟩
  | 101 => ⟨S_, .f32⟩
  | 102 => ⟨S8x8, .f32⟩
  | 103 => ⟨S8x8, .f32⟩
  | 104 => ⟨S1x8x8, .f32⟩
  | 105 => ⟨S16x1x1, .f32⟩
  | 106 => ⟨S16x8x8, .f32⟩
  | 107 => ⟨S16x8x8, .f32⟩
  | 108 => ⟨S16x8x8, .f32⟩
  | 109 => ⟨S16x8x8, .f32⟩
  | 110 => ⟨S_, .f32⟩
  | 111 => ⟨S_, .f32⟩
  | 112 => ⟨S16x8x8, .i1⟩
  | 113 => ⟨S16x8x8, .f32⟩
  | 114 => ⟨S16x8x8, .f32⟩
  | 115 => ⟨S8x1, .f32⟩
  | 116 => ⟨S_, .f32⟩
  | 117 => ⟨S8x1, .f32⟩
  | 118 => ⟨S8x1, .f32⟩
  | 119 => ⟨S1x16, .f32⟩
  | 120 => ⟨S8x16, .f32⟩
  | 121 => ⟨S8x16, .f32⟩
  | 122 => ⟨S8x16, .f32⟩
  | 123 => ⟨S8x16, .f32⟩
  | 124 => ⟨S8x1, .f32⟩
  | 125 => ⟨S_, .f32⟩
  | 126 => ⟨S8x1, .f32⟩
  | 127 => ⟨S8x1, .f32⟩
  | _ => ⟨S9216x8192, .f32⟩

abbrev hbmTy0_1 (i : Nat) : BufTy := match i % 128 with
  | 0 => ⟨S1x16, .f32⟩
  | 1 => ⟨S8x16, .f32⟩
  | 2 => ⟨S8x16, .f32⟩
  | 3 => ⟨S8x16, .f32⟩
  | 4 => ⟨S8x16, .f32⟩
  | 5 => ⟨S_, .f32⟩
  | 6 => ⟨S16, .f32⟩
  | 7 => ⟨S16, .f32⟩
  | 8 => ⟨S16, .f32⟩
  | 9 => ⟨S128x16x8x8, .f32⟩
  | 10 => ⟨S1x16x8x8, .f32⟩
  | 11 => ⟨S128x16x8x8, .f32⟩
  | 12 => ⟨S128x16x8x8, .f32⟩
  | 13 => ⟨S128x16x128x8, .f32⟩
  | 14 => ⟨S128x8x16x128, .f32⟩
  | 15 => ⟨S1x8x16x1, .f32⟩
  | 16 => ⟨S128x8x16x128, .f32⟩
  | 17 => ⟨S128x8x16x128, .f32⟩
  | 18 => ⟨S128x16x128x8, .f32⟩
  | 19 => ⟨S128x8x16x128, .f32⟩
  | 20 => ⟨S1x16x1x1, .f32⟩
  | 21 => ⟨S128x16x128x128, .f32⟩
  | 22 => ⟨S128x16x128x128, .f32⟩
  | 23 => ⟨S1x8x16x1, .f32⟩
  | 24 => ⟨S128x8x16x128, .f32⟩
  | 25 => ⟨S128x8x16x128, .f32⟩
  | 26 => ⟨S128x16x128x128, .f32⟩
  | 27 => ⟨S128x16x128x128, .f32⟩
  | 28 => ⟨S128x8x16x128, .f32⟩
  | 29 => ⟨S128x8x16x128, .f32⟩
  | 30 => ⟨S_, .f32⟩
  | 31 => ⟨S128x8x16, .f32⟩
  | 32 => ⟨S128x8x16x1, .f32⟩
  | 33 => ⟨S_, .f32⟩
  | 34 => ⟨S128x8x16x1, .f32⟩
  | 35 => ⟨S128x8x16x1, .f32⟩
  | 36 => ⟨S_, .f32⟩
  | 37 => ⟨S128x8x16x1, .f32⟩
  | 38 => ⟨S128x8x16x1, .f32⟩
  | 39 => ⟨S128x8x16x1, .f32⟩
  | 40 => ⟨S128x8x16x128, .f32⟩
  | 41 => ⟨S128x8x16x128, .f32⟩
  | 42 => ⟨S128x8x2048, .f32⟩
  | 43 => ⟨S128x8x2048, .f32⟩
  | 44 => ⟨S128x8x2048, .f32⟩
  | 45 => ⟨S_, .f32⟩
  | 46 => ⟨S128x8x2048, .f32⟩
  | 47 => ⟨S128x8x2048, .f32⟩
  | 48 => ⟨S_, .f32⟩
  | 49 => ⟨S128x8x2048, .f32⟩
  | 50 => ⟨S128x8x2048, .f32⟩
  | 51 => ⟨S128x8x2048, .f32⟩
  | 52 => ⟨S128x8x2048, .f32⟩
  | 53 => ⟨S1024x2048, .f32⟩
  | 54 => ⟨S1024x2048, .bf16⟩
  | _ => ⟨S9216x8192, .f32⟩

abbrev hbmTy (i : Nat) : BufTy := match i / 128 with
  | 0 => hbmTy0_0 i
  | 1 => hbmTy0_1 i
  | _ => ⟨S9216x8192, .f32⟩

abbrev bufTy : (tb : Table) → Fin (tcTables nBuf tb) → BufTy
  | .hbm, ⟨i, _⟩ => hbmTy i
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_call0_v0 : Ref sig .tc := ⟨.hbm, 101, rfl⟩
abbrev main_call0_v1 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v96 : Ref sig .tc := ⟨.hbm, 114, rfl⟩
abbrev main_v97 : Ref sig .tc := ⟨.hbm, 115, rfl⟩
abbrev main_cst_9 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_10 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_12 : Ref sig .tc := ⟨.hbm, 158, rfl⟩
abbrev main_v137 : Ref sig .tc := ⟨.hbm, 159, rfl⟩
abbrev main_v138 : Ref sig .tc := ⟨.hbm, 160, rfl⟩
abbrev main_cst_13 : Ref sig .tc := ⟨.hbm, 161, rfl⟩
abbrev main_v139 : Ref sig .tc := ⟨.hbm, 162, rfl⟩
abbrev main_v140 : Ref sig .tc := ⟨.hbm, 163, rfl⟩
abbrev main_cst_14 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_call2_v0 : Ref sig .tc := ⟨.hbm, 171, rfl⟩
abbrev main_call2_v1 : Ref sig .tc := ⟨.hbm, 172, rfl⟩
abbrev main_call2_cst : Ref sig .tc := ⟨.hbm, 173, rfl⟩
abbrev main_call2_v2 : Ref sig .tc := ⟨.hbm, 174, rfl⟩
abbrev main_call2_v3 : Ref sig .tc := ⟨.hbm, 175, rfl⟩
abbrev main_call2_cst_0 : Ref sig .tc := ⟨.hbm, 176, rfl⟩
abbrev main_call2_v4 : Ref sig .tc := ⟨.hbm, 177, rfl⟩
abbrev main_call2_v5 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩

abbrev nD : Nat := 1
abbrev τ : Topo := Topo.v7x

variable {F : FTy → Type} [FloatOps F]
-- ==== Ada.lean ====
abbrev S4x4096 : Shape := ⟨2, ![4, 4096]⟩
abbrev S128x4096 : Shape := ⟨2, ![128, 4096]⟩
abbrev S4096x24576 : Shape := ⟨2, ![4096, 24576]⟩
abbrev S24576 : Shape := ⟨1, ![24576]⟩
abbrev S132x4096 : Shape := ⟨2, ![132, 4096]⟩
abbrev S1x24576 : Shape := ⟨2, ![1, 24576]⟩
abbrev S132x24576 : Shape := ⟨2, ![132, 24576]⟩
abbrev S4096x512 : Shape := ⟨2, ![4096, 512]⟩
abbrev S1x512 : Shape := ⟨2, ![1, 512]⟩
abbrev S132x512 : Shape := ⟨2, ![132, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S128x4096, .f32⟩
  | .hbm, ⟨2, _⟩ => ⟨S4096x24576, .f32⟩
  | .hbm, ⟨3, _⟩ => ⟨S24576, .f32⟩
  | .hbm, ⟨4, _⟩ => ⟨S132x4096, .f32⟩
  | .hbm, ⟨5, _⟩ => ⟨S1x24576, .f32⟩
  | .hbm, ⟨6, _⟩ => ⟨S132x24576, .f32⟩
  | .local _ .vmem, ⟨0, _⟩ => ⟨S132x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S132x512, .f32⟩
  | .local _ .vmem, ⟨6, _⟩ => ⟨S132x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S132x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S132x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S4x4096 : Shape := ⟨2, ![4, 4096]⟩
abbrev S128x4096 : Shape := ⟨2, ![128, 4096]⟩
abbrev S4096x24576 : Shape := ⟨2, ![4096, 24576]⟩
abbrev S24576 : Shape := ⟨1, ![24576]⟩
abbrev S_ : Shape := ⟨0, ![]⟩
abbrev S4x24576 : Shape := ⟨2, ![4, 24576]⟩
abbrev S1x24576 : Shape := ⟨2, ![1, 24576]⟩
abbrev S128x24576 : Shape := ⟨2, ![128, 24576]⟩
abbrev S132x24576 : Shape := ⟨2, ![132, 24576]⟩

abbrev nBuf : Space → Nat
  | .hbm => 31
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S128x4096, .f32⟩
  | .hbm, ⟨2, _⟩ => ⟨S4096x24576, .f32⟩
  | .hbm, ⟨3, _⟩ => ⟨S24576, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x24576, .f32⟩
  | .hbm, ⟨14, _⟩ => ⟨S1x24576, .f32⟩
  | .hbm, ⟨15, _⟩ => ⟨S4x24576, .f32⟩
  | .hbm, ⟨16, _⟩ => ⟨S4x24576, .f32⟩
  | .hbm, ⟨17, _⟩ => ⟨S128x4096, .f32⟩
  | .hbm, ⟨18, _⟩ => ⟨S128x4096, .f32⟩
  | .hbm, ⟨19, _⟩ => ⟨S_, .f32⟩
  | .hbm, ⟨20, _⟩ => ⟨S128x4096, .f32⟩
  | .hbm, ⟨21, _⟩ => ⟨S128x4096, .f32⟩
  | .hbm, ⟨22, _⟩ => ⟨S_, .f32⟩
  | .hbm, ⟨23, _⟩ => ⟨S128x4096, .f32⟩
  | .hbm, ⟨24, _⟩ => ⟨S128x4096, .f32⟩
  | .hbm, ⟨25, _⟩ => ⟨S128x4096, .f32⟩
  | .hbm, ⟨26, _⟩ => ⟨S128x24576, .f32⟩
  | .hbm, ⟨27, _⟩ => ⟨S1x24576, .f32⟩
  | .hbm, ⟨28, _⟩ => ⟨S128x24576, .f32⟩
  | .hbm, ⟨29, _⟩ => ⟨S128x24576, .f32⟩
  | .hbm, ⟨30, _⟩ => ⟨S132x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Final.lean ====
abbrev S9216x4096 : Shape := ⟨2, ![9216, 4096]⟩
abbrev S4096 : Shape := ⟨1, ![4096]⟩
abbrev S132x24576 : Shape := ⟨2, ![132, 24576]⟩
abbrev S4x24576 : Shape := ⟨2, ![4, 24576]⟩
abbrev S4x16x24576 : Shape := ⟨3, ![4, 16, 24576]⟩
abbrev S64x24576 : Shape := ⟨2, ![64, 24576]⟩
abbrev S128x24576 : Shape := ⟨2, ![128, 24576]⟩
abbrev S192x24576 : Shape := ⟨2, ![192, 24576]⟩
abbrev S192x1x24576 : Shape := ⟨3, ![192, 1, 24576]⟩
abbrev S1x4096 : Shape := ⟨2, ![1, 4096]⟩
abbrev S128x4096 : Shape := ⟨2, ![128, 4096]⟩
abbrev S16x1x4096 : Shape := ⟨3, ![16, 1, 4096]⟩
abbrev S16x8x4096 : Shape := ⟨3, ![16, 8, 4096]⟩
abbrev S128 : Shape := ⟨1, ![128]⟩
abbrev S128x1 : Shape := ⟨2, ![128, 1]⟩

abbrev nBuf : Space → Nat
  | .hbm => 12
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S4096, .f32⟩
  | .hbm, ⟨3, _⟩ => ⟨S132x24576, .f32⟩
  | .hbm, ⟨4, _⟩ => ⟨S4x24576, .f32⟩
  | .hbm, ⟨5, _⟩ => ⟨S4x16x24576, .f32⟩
  | .hbm, ⟨6, _⟩ => ⟨S64x24576, .f32⟩
  | .hbm, ⟨7, _⟩ => ⟨S128x24576, .f32⟩
  | .hbm, ⟨8, _⟩ => ⟨S192x24576, .f32⟩
  | .hbm, ⟨9, _⟩ => ⟨S192x1x24576, .f32⟩
  | .hbm, ⟨10, _⟩ => ⟨S1x4096, .f32⟩
  | .hbm, ⟨11, _⟩ => ⟨S9216x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S16x1x4096, .f32⟩
  | .local _ .vmem, ⟨6, _⟩ => ⟨S16x1x4096, .f32⟩
  | .local _ .vmem, ⟨7, _⟩ => ⟨S128x4096, .f32⟩
  | .local _ .vmem, ⟨8, _⟩ => ⟨S128x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c4_i32 : BitVec 32 := 4#32
  let v19 : BitVec 32 := Scalar.addi v18 c4_i32
  let v20 : BitVec 32 := Scalar.select v0 v17 v19
  let c0_i32_5 : BitVec 32 := 0#32
  let c5_i32 : BitVec 32 := 5#32
  let c0_i32_6 : BitVec 32 := 0#32
  ![v20.toNat, c0_i32_5.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S9216x4096 : Shape := ⟨2, ![9216, 4096]⟩
abbrev S4096 : Shape := ⟨1, ![4096]⟩
abbrev S132x24576 : Shape := ⟨2, ![132, 24576]⟩
abbrev S8192x4096 : Shape := ⟨2, ![8192, 4096]⟩
abbrev S4x2048x4096 : Shape := ⟨3, ![4, 2048, 4096]⟩
abbrev S4x24576 : Shape := ⟨2, ![4, 24576]⟩
abbrev S4x4096 : Shape := ⟨2, ![4, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1024x4096 : Shape := ⟨2, ![1024, 4096]⟩
abbrev S128x8x4096 : Shape := ⟨3, ![128, 8, 4096]⟩
abbrev S128x24576 : Shape := ⟨2, ![128, 24576]⟩
abbrev S128x4096 : Shape := ⟨2, ![128, 4096]⟩
abbrev S128x1x4096 : Shape := ⟨3, ![128, 1, 4096]⟩
abbrev S128x8 : Shape := ⟨2, ![128, 8]⟩
abbrev S128x8x1 : Shape := ⟨3, ![128, 8, 1]⟩

abbrev nBuf : Space → Nat
  | .hbm => 59
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S4096, .f32⟩
  | .hbm, ⟨3, _⟩ => ⟨S132x24576, .f32⟩
  | .hbm, ⟨4, _⟩ => ⟨S8192x4096, .f32⟩
  | .hbm, ⟨5, _⟩ => ⟨S4x2048x4096, .f32⟩
  | .hbm, ⟨6, _⟩ => ⟨S8192x4096, .f32⟩
  | .hbm, ⟨7, _⟩ => ⟨S4x2048x4096, .f32⟩
  | .hbm, ⟨8, _⟩ => ⟨S4x24576, .f32⟩
  | .hbm, ⟨9, _⟩ => ⟨S4x4096, .f32⟩
  | .hbm, ⟨10, _⟩ => ⟨S4x1x4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S1024x4096, .f32⟩
  | .hbm, ⟨31, _⟩ => ⟨S128x8x4096, .f32⟩
  | .hbm, ⟨32, _⟩ => ⟨S1024x4096, .f32⟩
  | .hbm, ⟨33, _⟩ => ⟨S128x8x4096, .f32⟩
  | .hbm, ⟨34, _⟩ => ⟨S128x24576, .f32⟩
  | .hbm, ⟨35, _⟩ => ⟨S128x4096, .f32⟩
  | .hbm, ⟨36, _⟩ => ⟨S128x1x4096, .f32⟩
  | .hbm, ⟨37, _⟩ => ⟨S128x8x4096, .f32⟩
  | .hbm, ⟨38, _⟩ => ⟨S_, .f32⟩
  | .hbm, ⟨39, _⟩ => ⟨S128x8, .f32⟩
  | .hbm, ⟨40, _⟩ => ⟨S128x8x1, .f32⟩
  | .hbm, ⟨41, _⟩ => ⟨S_, .f32⟩
  | .hbm, ⟨42, _⟩ => ⟨S128x8x1, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S128x8x1, .f32⟩
  | .hbm, ⟨48, _⟩ => ⟨S128x8x4096, .f32⟩
  | .hbm, ⟨49, _⟩ => ⟨S128x8x4096, .f32⟩
  | .hbm, ⟨50, _⟩ => ⟨S1x1x4096, .f32⟩
  | .hbm, ⟨51, _⟩ => ⟨S128x8x4096, .f32⟩
  | .hbm, ⟨52, _⟩ => ⟨S128x8x4096, .f32⟩
  | .hbm, ⟨53, _⟩ => ⟨S128x8x4096, .f32⟩
  | .hbm, ⟨54, _⟩ => ⟨S128x8x4096, .f32⟩
  | .hbm, ⟨55, _⟩ => ⟨S128x8x4096, .f32⟩
  | .hbm, ⟨56, _⟩ => ⟨S8192x4096, .f32⟩
  | .hbm, ⟨57, _⟩ => ⟨S1024x4096, .f32⟩
  | .hbm, ⟨58, _⟩ => ⟨S9216x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== PreNorm.lean ====
abbrev S9216x4096 : Shape := ⟨2, ![9216, 4096]⟩
abbrev S4096 : Shape := ⟨1, ![4096]⟩
abbrev S132x24576 : Shape := ⟨2, ![132, 24576]⟩
abbrev S4x24576 : Shape := ⟨2, ![4, 24576]⟩
abbrev S4x16x24576 : Shape := ⟨3, ![4, 16, 24576]⟩
abbrev S64x24576 : Shape := ⟨2, ![64, 24576]⟩
abbrev S128x24576 : Shape := ⟨2, ![128, 24576]⟩
abbrev S192x24576 : Shape := ⟨2, ![192, 24576]⟩
abbrev S192x1x24576 : Shape := ⟨3, ![192, 1, 24576]⟩
abbrev S1x4096 : Shape := ⟨2, ![1, 4096]⟩
abbrev S128x4096 : Shape := ⟨2, ![128, 4096]⟩
abbrev S16x1x4096 : Shape := ⟨3, ![16, 1, 4096]⟩
abbrev S128 : Shape := ⟨1, ![128]⟩
abbrev S128x1 : Shape := ⟨2, ![128, 1]⟩
abbrev S16x8x4096 : Shape := ⟨3, ![16, 8, 4096]⟩

abbrev nBuf : Space → Nat
  | .hbm => 11
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S132x24576, .f32⟩
  | .hbm, ⟨3, _⟩ => ⟨S4x24576, .f32⟩
  | .hbm, ⟨4, _⟩ => ⟨S4x16x24576, .f32⟩
  | .hbm, ⟨5, _⟩ => ⟨S64x24576, .f32⟩
  | .hbm, ⟨6, _⟩ => ⟨S128x24576, .f32⟩
  | .hbm, ⟨7, _⟩ => ⟨S192x24576, .f32⟩
  | .hbm, ⟨8, _⟩ => ⟨S192x1x24576, .f32⟩
  | .hbm, ⟨9, _⟩ => ⟨S1x4096, .f32⟩
  | .hbm, ⟨10, _⟩ => ⟨S9216x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S16x1x4096, .f32⟩
  | .local _ .vmem, ⟨4, _⟩ => ⟨S16x1x4096, .f32⟩
  | .local _ .vmem, ⟨5, _⟩ => ⟨S16x1x4096, .f32⟩
  | .local _ .vmem, ⟨6, _⟩ => ⟨S16x1x4096, .f32⟩
  | .local _ .vmem, ⟨7, _⟩ => ⟨S128x4096, .bf16⟩
  | .local _ .vmem, ⟨8, _⟩ => ⟨S128x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c4_i32 : BitVec 32 := 4#32
  let v19 : BitVec 32 := Scalar.addi v18 c4_i32
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c4_i32 : BitVec 32 := 4#32
  let v19 : BitVec 32 := Scalar.addi v18 c4_i32
  let v20 : BitVec 32 := Scalar.select v0 v17 v19
  let c0_i32_5 : BitVec 32 := 0#32
  let c1_i32_6 : BitVec 32 := 1#32
  let c0_i32_7 : BitVec 32 := 0#32
  ![v20.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S9216x4096 : Shape := ⟨2, ![9216, 4096]⟩
abbrev S4096 : Shape := ⟨1, ![4096]⟩
abbrev S132x24576 : Shape := ⟨2, ![132, 24576]⟩
abbrev S8192x4096 : Shape := ⟨2, ![8192, 4096]⟩
abbrev S4x2048x4096 : Shape := ⟨3, ![4, 2048, 4096]⟩
abbrev S4x24576 : Shape := ⟨2, ![4, 24576]⟩
abbrev S4x4096 : Shape := ⟨2, ![4, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1024x4096 : Shape := ⟨2, ![1024, 4096]⟩
abbrev S128x8x4096 : Shape := ⟨3, ![128, 8, 4096]⟩
abbrev S128x24576 : Shape := ⟨2, ![128, 24576]⟩
abbrev S128x4096 : Shape := ⟨2, ![128, 4096]⟩
abbrev S128x1x4096 : Shape := ⟨3, ![128, 1, 4096]⟩
abbrev S128x8 : Shape := ⟨2, ![128, 8]⟩
abbrev S128x8x1 : Shape := ⟨3, ![128, 8, 1]⟩

abbrev nBuf : Space → Nat
  | .hbm => 67
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S132x24576, .f32⟩
  | .hbm, ⟨3, _⟩ => ⟨S8192x4096, .f32⟩
  | .hbm, ⟨4, _⟩ => ⟨S4x2048x4096, .f32⟩
  | .hbm, ⟨5, _⟩ => ⟨S4x24576, .f32⟩
  | .hbm, ⟨6, _⟩ => ⟨S4x4096, .f32⟩
  | .hbm, ⟨7, _⟩ => ⟨S4x1x4096, .f32⟩
  | .hbm, ⟨8, _⟩ => ⟨S4x4096, .f32⟩
  | .hbm, ⟨9, _⟩ => ⟨S4x1x4096, .f32⟩
  | .hbm, ⟨10, _⟩ => ⟨S4x2048x4096, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x1x4096, .f32⟩
  | .hbm, ⟨28, _⟩ => ⟨S4x1x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S1024x4096, .f32⟩
  | .hbm, ⟨34, _⟩ => ⟨S128x8x4096, .f32⟩
  | .hbm, ⟨35, _⟩ => ⟨S128x24576, .f32⟩
  | .hbm, ⟨36, _⟩ => ⟨S128x4096, .f32⟩
  | .hbm, ⟨37, _⟩ => ⟨S128x1x4096, .f32⟩
  | .hbm, ⟨38, _⟩ => ⟨S128x4096, .f32⟩
  | .hbm, ⟨39, _⟩ => ⟨S128x1x4096, .f32⟩
  | .hbm, ⟨40, _⟩ => ⟨S128x8x4096, .f32⟩
  | .hbm, ⟨41, _⟩ => ⟨S_, .f32⟩
  | .hbm, ⟨42, _⟩ => ⟨S128x8, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S_, .f32⟩
  | .hbm, ⟨48, _⟩ => ⟨S128x8x1, .f32⟩
  | .hbm, ⟨49, _⟩ => ⟨S128x8x1, .f32⟩
  | .hbm, ⟨50, _⟩ => ⟨S128x8x1, .f32⟩
  | .hbm, ⟨51, _⟩ => ⟨S128x8x4096, .f32⟩
  | .hbm, ⟨52, _⟩ => ⟨S128x8x4096, .f32⟩
  | .hbm, ⟨53, _⟩ => ⟨S1x1x4096, .f32⟩
  | .hbm, ⟨54, _⟩ => ⟨S128x8x4096, .f32⟩
  | .hbm, ⟨55, _⟩ => ⟨S128x8x4096, .f32⟩
  | .hbm, ⟨56, _⟩ => ⟨S_, .f32⟩
  | .hbm, ⟨57, _⟩ => ⟨S128x1x4096, .f32⟩
  | .hbm, ⟨58, _⟩ => ⟨S128x1x4096, .f32⟩
  | .hbm, ⟨59, _⟩ => ⟨S128x8x4096, .f32⟩
  | .hbm, ⟨60, _⟩ => ⟨S128x8x4096, .f32⟩
  | .hbm, ⟨61, _⟩ => ⟨S128x8x4096, .f32⟩
  | .hbm, ⟨62, _⟩ => ⟨S128x8x4096, .f32⟩
  | .hbm, ⟨63, _⟩ => ⟨S8192x4096, .f32⟩
  | .hbm, ⟨64, _⟩ => ⟨S1024x4096, .f32⟩
  | .hbm, ⟨65, _⟩ => ⟨S9216x4096, .f32⟩
  | .hbm, ⟨66, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== PostMix.lean ====
abbrev S9216x4096 : Shape := ⟨2, ![9216, 4096]⟩
abbrev S4096 : Shape := ⟨1, ![4096]⟩
abbrev S132x24576 : Shape := ⟨2, ![132, 24576]⟩
abbrev S4x24576 : Shape := ⟨2, ![4, 24576]⟩
abbrev S4x16x24576 : Shape := ⟨3, ![4, 16, 24576]⟩
abbrev S64x24576 : Shape := ⟨2, ![64, 24576]⟩
abbrev S128x24576 : Shape := ⟨2, ![128, 24576]⟩
abbrev S192x24576 : Shape := ⟨2, ![192, 24576]⟩
abbrev S192x1x24576 : Shape := ⟨3, ![192, 1, 24576]⟩
abbrev S1x4096 : Shape := ⟨2, ![1, 4096]⟩
abbrev S128x4096 : Shape := ⟨2, ![128, 4096]⟩
abbrev S16x1x4096 : Shape := ⟨3, ![16, 1, 4096]⟩
abbrev S16x8x4096 : Shape := ⟨3, ![16, 8, 4096]⟩
abbrev S128 : Shape := ⟨1, ![128]⟩
abbrev S128x1 : Shape := ⟨2, ![128, 1]⟩

abbrev nBuf : Space → Nat
  | .hbm => 15
  | .vmem => 16
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S4096, .f32⟩
  | .hbm, ⟨3, _⟩ => ⟨S4096, .f32⟩
  | .hbm, ⟨4, _⟩ => ⟨S132x24576, .f32⟩
  | .hbm, ⟨5, _⟩ => ⟨S4x24576, .f32⟩
  | .hbm, ⟨6, _⟩ => ⟨S4x16x24576, .f32⟩
  | .hbm, ⟨7, _⟩ => ⟨S64x24576, .f32⟩
  | .hbm, ⟨8, _⟩ => ⟨S128x24576, .f32⟩
  | .hbm, ⟨9, _⟩ => ⟨S192x24576, .f32⟩
  | .hbm, ⟨10, _⟩ => ⟨S192x1x24576, .f32⟩
  | .hbm, ⟨11, _⟩ => ⟨S1x4096, .f32⟩
  | .hbm, ⟨12, _⟩ => ⟨S1x4096, .f32⟩
  | .hbm, ⟨13, _⟩ => ⟨S9216x4096, .f32⟩
  | .hbm, ⟨14, _⟩ => ⟨S9216x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S16x1x4096, .f32⟩
  | .local _ .vmem, ⟨7, _⟩ => ⟨S16x1x4096, .f32⟩
  | .local _ .vmem, ⟨8, _⟩ => ⟨S16x1x4096, .f32⟩
  | .local _ .vmem, ⟨9, _⟩ => ⟨S16x1x4096, .f32⟩
  | .local _ .vmem, ⟨10, _⟩ => ⟨S16x1x4096, .f32⟩
  | .local _ .vmem, ⟨11, _⟩ => ⟨S16x1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c4_i32 : BitVec 32 := 4#32
  let v19 : BitVec 32 := Scalar.addi v18 c4_i32
  let v20 : BitVec 32 := Scalar.select v0 v17 v19
  let c0_i32_5 : BitVec 32 := 0#32
  let c2_i32 : BitVec 32 := 2#32
  let c0_i32_6 : BitVec 32 := 0#32
  ![v20.toNat, c0_i32_5.toNat, c2_i32.toNat]

def cc0_transform_5 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c4_i32 : BitVec 32 := 4#32
  let v19 : BitVec 32 := Scalar.addi v18 c4_i32
  let v20 : BitVec 32 := Scalar.select v0 v17 v19
  let c0_i32_5 : BitVec 32 := 0#32
  let c3_i32 : BitVec 32 := 3#32
  let c0_i32_6 : BitVec 32 := 0#32
  ![v20.toNat, c0_i32_5.toNat, c3_i32.toNat]

def cc0_transform_6 (i : grid0.Coords) : Fin 3 → Nat :=
  let arg0 : BitVec 32 := BitVec.ofNat 32 (i 0).val
  let c64_i32 : BitVec 32 := 64#32
  let v0 : BitVec 1 := Scalar.cmpi .slt arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c4_i32 : BitVec 32 := 4#32
  let v19 : BitVec 32 := Scalar.addi v18 c4_i32
  let v20 : BitVec 32 := Scalar.select v0 v17 v19
  let c0_i32_5 : BitVec 32 := 0#32
  let c4_i32_6 : BitVec 32 := 4#32
  let c0_i32_7 : BitVec 32 := 0#32
  ![v20.toNat, c0_i32_5.toNat, c4_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostMixRefIdeal.lean ====
abbrev S9216x4096 : Shape := ⟨2, ![9216, 4096]⟩
abbrev S4096 : Shape := ⟨1, ![4096]⟩
abbrev S132x24576 : Shape := ⟨2, ![132, 24576]⟩
abbrev S8192x4096 : Shape := ⟨2, ![8192, 4096]⟩
abbrev S4x2048x4096 : Shape := ⟨3, ![4, 2048, 4096]⟩
abbrev S4x24576 : Shape := ⟨2, ![4, 24576]⟩
abbrev S4x4096 : Shape := ⟨2, ![4, 4096]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1024x4096 : Shape := ⟨2, ![1024, 4096]⟩
abbrev S128x8x4096 : Shape := ⟨3, ![128, 8, 4096]⟩
abbrev S128x24576 : Shape := ⟨2, ![128, 24576]⟩
abbrev S128x4096 : Shape := ⟨2, ![128, 4096]⟩
abbrev S128x1x4096 : Shape := ⟨3, ![128, 1, 4096]⟩
abbrev S128x8 : Shape := ⟨2, ![128, 8]⟩
abbrev S128x8x1 : Shape := ⟨3, ![128, 8, 1]⟩

abbrev nBuf : Space → Nat
  | .hbm => 118
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .f32⟩
  | .hbm, ⟨2, _⟩ => ⟨S4096, .f32⟩
  | .hbm, ⟨3, _⟩ => ⟨S4096, .f32⟩
  | .hbm, ⟨4, _⟩ => ⟨S132x24576, .f32⟩
  | .hbm, ⟨5, _⟩ => ⟨S8192x4096, .f32⟩
  | .hbm, ⟨6, _⟩ => ⟨S4x2048x4096, .f32⟩
  | .hbm, ⟨7, _⟩ => ⟨S8192x4096, .f32⟩
  | .hbm, ⟨8, _⟩ => ⟨S4x2048x4096, .f32⟩
  | .hbm, ⟨9, _⟩ => ⟨S4x24576, .f32⟩
  | .hbm, ⟨10, _⟩ => ⟨S4x4096, .f32⟩
  | .hbm, ⟨11, _⟩ => ⟨S4x1x4096, .f32⟩
  | .hbm, ⟨12, _⟩ => ⟨S4x4096, .f32⟩
  | .hbm, ⟨13, _⟩ => ⟨S4x1x4096, .f32⟩
  | .hbm, ⟨14, _⟩ => ⟨S4x4096, .f32⟩
  | .hbm, ⟨15, _⟩ => ⟨S4x1x4096, .f32⟩
  | .hbm, ⟨16, _⟩ => ⟨S4x2048x4096, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x1, .f32⟩
  | .hbm, ⟨46, _⟩ => ⟨S4x2048x4096, .f32⟩
  | .hbm, ⟨47, _⟩ => ⟨S4x2048x4096, .f32⟩
  | .hbm, ⟨48, _⟩ => ⟨S1x1x4096, .f32⟩
  | .hbm, ⟨49, _⟩ => ⟨S4x2048x4096, .f32⟩
  | .hbm, ⟨50, _⟩ => ⟨S4x2048x4096, .f32⟩
  | .hbm, ⟨51, _⟩ => ⟨S_, .f32⟩
  | .hbm, ⟨52, _⟩ => ⟨S4x1x4096, .f32⟩
  | .hbm, ⟨53, _⟩ => ⟨S4x1x4096, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S4x2048x4096, .f32⟩
  | .hbm, ⟨58, _⟩ => ⟨S1024x4096, .f32⟩
  | .hbm, ⟨59, _⟩ => ⟨S128x8x4096, .f32⟩
  | .hbm, ⟨60, _⟩ => ⟨S1024x4096, .f32⟩
  | .hbm, ⟨61, _⟩ => ⟨S128x8x4096, .f32⟩
  | .hbm, ⟨62, _⟩ => ⟨S128x24576, .f32⟩
  | .hbm, ⟨63, _⟩ => ⟨S128x4096, .f32⟩
  | .hbm, ⟨64, _⟩ => ⟨S128x1x4096, .f32⟩
  | .hbm, ⟨65, _⟩ => ⟨S128x4096, .f32⟩
  | .hbm, ⟨66, _⟩ => ⟨S128x1x4096, .f32⟩
  | .hbm, ⟨67, _⟩ => ⟨S128x4096, .f32⟩
  | .hbm, ⟨68, _⟩ => ⟨S128x1x4096, .f32⟩
  | .hbm, ⟨69, _⟩ => ⟨S128x8x4096, .f32⟩
  | .hbm, ⟨70, _⟩ => ⟨S_, .f32⟩
  | .hbm, ⟨71, _⟩ => ⟨S128x8, .f32⟩
  | .hbm, ⟨72, _⟩ => ⟨S128x8x1, .f32⟩
  | .hbm, ⟨73, _⟩ => ⟨S_, .f32⟩
  | .hbm, ⟨74, _⟩ => ⟨S128x8x1, .f32⟩
  | .hbm, ⟨75, _⟩ => ⟨S128x8x1, .f32⟩
  | .hbm, ⟨76, _⟩ => ⟨S_, .f32⟩
  | .hbm, ⟨77, _⟩ => ⟨S128x8x1, .f32⟩
  | .hbm, ⟨78, _⟩ => ⟨S128x8x1, .f32⟩
  | .hbm, ⟨79, _⟩ => ⟨S128x8x1, .f32⟩
  | .hbm, ⟨80, _⟩ => ⟨S128x8x4096, .f32⟩
  | .hbm, ⟨81, _⟩ => ⟨S128x8x4096, .f32⟩
  | .hbm, ⟨82, _⟩ => ⟨S1x1x4096, .f32⟩
  | .hbm, ⟨83, _⟩ => ⟨S128x8x4096, .f32⟩
  | .hbm, ⟨84, _⟩ => ⟨S128x8x4096, .f32⟩
  | .hbm, ⟨85, _⟩ => ⟨S128x8x4096, .f32⟩
  | .hbm, ⟨86, _⟩ => ⟨S128x8x4096, .f32⟩
  | .hbm, ⟨87, _⟩ => ⟨S128x8x4096, .f32⟩
  | .hbm, ⟨88, _⟩ => ⟨S128x8x4096, .f32⟩
  | .hbm, ⟨89, _⟩ => ⟨S_, .f32⟩
  | .hbm, ⟨90, _⟩ => ⟨S128x8, .f32⟩
  | .hbm, ⟨91, _⟩ => ⟨S128x8x1, .f32⟩
  | .hbm, ⟨92, _⟩ => ⟨S_, .f32⟩
  | .hbm, ⟨93, _⟩ => ⟨S128x8x1, .f32⟩
  | .hbm, ⟨94, _⟩ => ⟨S128x8x1, .f32⟩
  | .hbm, ⟨95, _⟩ => ⟨S_, .f32⟩
  | .hbm, ⟨96, _⟩ => ⟨S128x8x1, .f32⟩
  | .hbm, ⟨97, _⟩ => ⟨S128x8x1, .f32⟩
  | .hbm, ⟨98, _⟩ => ⟨S128x8x1, .f32⟩
  | .hbm, ⟨99, _⟩ => ⟨S128x8x4096, .f32⟩
  | .hbm, ⟨100, _⟩ => ⟨S128x8x4096, .f32⟩
  | .hbm, ⟨101, _⟩ => ⟨S1x1x4096, .f32⟩
  | .hbm, ⟨102, _⟩ => ⟨S128x8x4096, .f32⟩
  | .hbm, ⟨103, _⟩ => ⟨S128x8x4096, .f32⟩
  | .hbm, ⟨104, _⟩ => ⟨S_, .f32⟩
  | .hbm, ⟨105, _⟩ => ⟨S128x1x4096, .f32⟩
  | .hbm, ⟨106, _⟩ => ⟨S128x1x4096, .f32⟩
  | .hbm, ⟨107, _⟩ => ⟨S128x8x4096, .f32⟩
  | .hbm, ⟨108, _⟩ => ⟨S128x8x4096, .f32⟩
  | .hbm, ⟨109, _⟩ => ⟨S128x8x4096, .f32⟩
  | .hbm, ⟨110, _⟩ => ⟨S128x8x4096, .f32⟩
  | .hbm, ⟨111, _⟩ => ⟨S8192x4096, .f32⟩
  | .hbm, ⟨112, _⟩ => ⟨S1024x4096, .f32⟩
  | .hbm, ⟨113, _⟩ => ⟨S9216x4096, .f32⟩
  | .hbm, ⟨114, _⟩ => ⟨S8192x4096, .f32⟩
  | .hbm, ⟨115, _⟩ => ⟨S1024x4096, .f32⟩
  | .hbm, ⟨116, _⟩ => ⟨S9216x4096, .f32⟩
  | .hbm, ⟨117, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_12 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== InRet.lean ====
abbrev S9216x4096 : Shape := ⟨2, ![9216, 4096]⟩
abbrev S4096x15072 : Shape := ⟨2, ![4096, 15072]⟩
abbrev S9216x8192 : Shape := ⟨2, ![9216, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x15072, .f32⟩
  | .hbm, ⟨2, _⟩ => ⟨S9216x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRetRefIdeal.lean ====
abbrev S9216x4096 : Shape := ⟨2, ![9216, 4096]⟩
abbrev S4096x15072 : Shape := ⟨2, ![4096, 15072]⟩
abbrev S9216x15072 : Shape := ⟨2, ![9216, 15072]⟩
abbrev S9216x8192 : Shape := ⟨2, ![9216, 8192]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x15072, .f32⟩
  | .hbm, ⟨2, _⟩ => ⟨S9216x4096, .f32⟩
  | .hbm, ⟨3, _⟩ => ⟨S9216x15072, .f32⟩
  | .hbm, ⟨4, _⟩ => ⟨S9216x8192, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRkv.lean ====
abbrev S9216x4096 : Shape := ⟨2, ![9216, 4096]⟩
abbrev S4096x15072 : Shape := ⟨2, ![4096, 15072]⟩
abbrev S4 : Shape := ⟨1, ![4]⟩
abbrev S128 : Shape := ⟨1, ![128]⟩
abbrev S9216x6144 : Shape := ⟨2, ![9216, 6144]⟩
abbrev S1024x4096 : Shape := ⟨2, ![1024, 4096]⟩
abbrev S4096x512 : Shape := ⟨2, ![4096, 512]⟩
abbrev S1024x512 : Shape := ⟨2, ![1024, 512]⟩
abbrev S_ : Shape := ⟨0, ![]⟩
abbrev S4x1 : Shape := ⟨2, ![4, 1]⟩
abbrev S4x6144 : Shape := ⟨2, ![4, 6144]⟩
abbrev S128x1 : Shape := ⟨2, ![128, 1]⟩
abbrev S128x6144 : Shape := ⟨2, ![128, 6144]⟩

abbrev nBuf : Space → Nat
  | .hbm => 19
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x15072, .f32⟩
  | .hbm, ⟨2, _⟩ => ⟨S4, .i32⟩
  | .hbm, ⟨3, _⟩ => ⟨S4, .i1⟩
  | .hbm, ⟨4, _⟩ => ⟨S128, .i32⟩
  | .hbm, ⟨5, _⟩ => ⟨S128, .i1⟩
  | .hbm, ⟨6, _⟩ => ⟨S9216x6144, .f32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4x6144, .f32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S128x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRkvRefIdeal.lean ====
abbrev S9216x4096 : Shape := ⟨2, ![9216, 4096]⟩
abbrev S4096x15072 : Shape := ⟨2, ![4096, 15072]⟩
abbrev S8192x4096 : Shape := ⟨2, ![8192, 4096]⟩
abbrev S4x2048x4096 : Shape := ⟨3, ![4, 2048, 4096]⟩
abbrev S4x2048x15072 : Shape := ⟨3, ![4, 2048, 15072]⟩
abbrev S4x2048x6880 : Shape := ⟨3, ![4, 2048, 6880]⟩
abbrev S4x2048x6144 : Shape := ⟨3, ![4, 2048, 6144]⟩
abbrev S1024x4096 : Shape := ⟨2, ![1024, 4096]⟩
abbrev S128x8x4096 : Shape := ⟨3, ![128, 8, 4096]⟩
abbrev S128x8x15072 : Shape := ⟨3, ![128, 8, 15072]⟩
abbrev S128x8x6880 : Shape := ⟨3, ![128, 8, 6880]⟩
abbrev S128x8x6144 : Shape := ⟨3, ![128, 8, 6144]⟩
abbrev S8192x6144 : Shape := ⟨2, ![8192, 6144]⟩
abbrev S1024x6144 : Shape := ⟨2, ![1024, 6144]⟩
abbrev S9216x6144 : Shape := ⟨2, ![9216, 6144]⟩
abbrev S4x1x6144 : Shape := ⟨3, ![4, 1, 6144]⟩
abbrev S4x6144 : Shape := ⟨2, ![4, 6144]⟩
abbrev S128x1x6144 : Shape := ⟨3, ![128, 1, 6144]⟩
abbrev S128x6144 : Shape := ⟨2, ![128, 6144]⟩

abbrev nBuf : Space → Nat
  | .hbm => 21
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x15072, .f32⟩
  | .hbm, ⟨2, _⟩ => ⟨S8192x4096, .bf16⟩
  | .hbm, ⟨3, _⟩ => ⟨S4x2048x4096, .bf16⟩
  | .hbm, ⟨4, _⟩ => ⟨S4x2048x4096, .f32⟩
  | .hbm, ⟨5, _⟩ => ⟨S4x2048x15072, .f32⟩
  | .hbm, ⟨6, _⟩ => ⟨S4x2048x6880, .f32⟩
  | .hbm, ⟨7, _⟩ => ⟨S4x2048x6144, .f32⟩
  | .hbm, ⟨8, _⟩ => ⟨S1024x4096, .bf16⟩
  | .hbm, ⟨9, _⟩ => ⟨S128x8x4096, .bf16⟩
  | .hbm, ⟨10, _⟩ => ⟨S128x8x4096, .f32⟩
  | .hbm, ⟨11, _⟩ => ⟨S128x8x15072, .f32⟩
  | .hbm, ⟨12, _⟩ => ⟨S128x8x6880, .f32⟩
  | .hbm, ⟨13, _⟩ => ⟨S128x8x6144, .f32⟩
  | .hbm, ⟨14, _⟩ => ⟨S8192x6144, .f32⟩
  | .hbm, ⟨15, _⟩ => ⟨S1024x6144, .f32⟩
  | .hbm, ⟨16, _⟩ => ⟨S9216x6144, .f32⟩
  | .hbm, ⟨17, _⟩ => ⟨S4x1x6144, .f32⟩
  | .hbm, ⟨18, _⟩ => ⟨S4x6144, .f32⟩
  | .hbm, ⟨19, _⟩ => ⟨S128x1x6144, .f32⟩
  | .hbm, ⟨20, _⟩ => ⟨S128x6144, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== RwkvPost.lean ====
abbrev S9216x2048 : Shape := ⟨2, ![9216, 2048]⟩
abbrev S2048 : Shape := ⟨1, ![2048]⟩
abbrev S1x2048 : Shape := ⟨2, ![1, 2048]⟩
abbrev S256x512 : Shape := ⟨2, ![256, 512]⟩
abbrev S1x512 : Shape := ⟨2, ![1, 512]⟩
abbrev S128x128 : Shape := ⟨2, ![128, 128]⟩
abbrev S256x128 : Shape := ⟨2, ![256, 128]⟩

abbrev nBuf : Space → Nat
  | .hbm => 8
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S9216x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![36, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RwkvPostRefIdeal.lean ====
abbrev S9216x2048 : Shape := ⟨2, ![9216, 2048]⟩
abbrev S2048 : Shape := ⟨1, ![2048]⟩
abbrev S9216x32x64 : Shape := ⟨3, ![9216, 32, 64]⟩
abbrev S_ : Shape := ⟨0, ![]⟩
abbrev S9216x32 : Shape := ⟨2, ![9216, 32]⟩
abbrev S9216x32x1 : Shape := ⟨3, ![9216, 32, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S9216x2048, .f32⟩
  | .hbm, ⟨3, _⟩ => ⟨S2048, .f32⟩
  | .hbm, ⟨4, _⟩ => ⟨S2048, .f32⟩
  | .hbm, ⟨5, _⟩ => ⟨S9216x32x64, .f32⟩
  | .hbm, ⟨6, _⟩ => ⟨S_, .f32⟩
  | .hbm, ⟨7, _⟩ => ⟨S9216x32, .f32⟩
  | .hbm, ⟨8, _⟩ => ⟨S9216x32x1, .f32⟩
  | .hbm, ⟨9, _⟩ => ⟨S_, .f32⟩
  | .hbm, ⟨10, _⟩ => ⟨S9216x32x1, .f32⟩
  | .hbm, ⟨11, _⟩ => ⟨S9216x32x1, .f32⟩
  | .hbm, ⟨12, _⟩ => ⟨S9216x32x64, .f32⟩
  | .hbm, ⟨13, _⟩ => ⟨S9216x32x64, .f32⟩
  | .hbm, ⟨14, _⟩ => ⟨S9216x32x64, .f32⟩
  | .hbm, ⟨15, _⟩ => ⟨S_, .f32⟩
  | .hbm, ⟨16, _⟩ => ⟨S9216x32, .f32⟩
  | .hbm, ⟨17, _⟩ => ⟨S9216x32x1, .f32⟩
  | .hbm, ⟨18, _⟩ => ⟨S_, .f32⟩
  | .hbm, ⟨19, _⟩ => ⟨S9216x32x1, .f32⟩
  | .hbm, ⟨20, _⟩ => ⟨S9216x32x1, .f32⟩
  | .hbm, ⟨21, _⟩ => ⟨S9216x32x64, .f32⟩
  | .hbm, ⟨22, _⟩ => ⟨S9216x32x64, .f32⟩
  | .hbm, ⟨23, _⟩ => ⟨S_, .f32⟩
  | .hbm, ⟨24, _⟩ => ⟨S9216x32x1, .f32⟩
  | .hbm, ⟨25, _⟩ => ⟨S9216x32x1, .f32⟩
  | .hbm, ⟨26, _⟩ => ⟨S9216x32x1, .f32⟩
  | .hbm, ⟨27, _⟩ => ⟨S9216x32x64, .f32⟩
  | .hbm, ⟨28, _⟩ => ⟨S9216x32x64, .f32⟩
  | .hbm, ⟨29, _⟩ => ⟨S9216x2048, .f32⟩
  | .hbm, ⟨30, _⟩ => ⟨S1x2048, .f32⟩
  | .hbm, ⟨31, _⟩ => ⟨S9216x2048, .f32⟩
  | .hbm, ⟨32, _⟩ => ⟨S9216x2048, .f32⟩
  | .hbm, ⟨33, _⟩ => ⟨S1x2048, .f32⟩
  | .hbm, ⟨34, _⟩ => ⟨S9216x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== OutProj.lean ====
abbrev S9216x2048 : Shape := ⟨2, ![9216, 2048]⟩
abbrev S4096x4096 : Shape := ⟨2, ![4096, 4096]⟩
abbrev S9216x4096 : Shape := ⟨2, ![9216, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S4096x4096, .f32⟩
  | .hbm, ⟨3, _⟩ => ⟨S9216x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S9216x2048 : Shape := ⟨2, ![9216, 2048]⟩
abbrev S4096x4096 : Shape := ⟨2, ![4096, 4096]⟩
abbrev S9216x4096 : Shape := ⟨2, ![9216, 4096]⟩

abbrev nBuf : Space → Nat
  | .hbm => 6
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S4096x4096, .f32⟩
  | .hbm, ⟨3, _⟩ => ⟨S9216x4096, .bf16⟩
  | .hbm, ⟨4, _⟩ => ⟨S9216x4096, .f32⟩
  | .hbm, ⟨5, _⟩ => ⟨S9216x4096, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PeerQ.lean ====
abbrev S9216x4096 : Shape := ⟨2, ![9216, 4096]⟩
abbrev S4096x2048 : Shape := ⟨2, ![4096, 2048]⟩
abbrev S9216x2048 : Shape := ⟨2, ![9216, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x2048, .f32⟩
  | .hbm, ⟨2, _⟩ => ⟨S9216x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQRefIdeal.lean ====
abbrev S9216x4096 : Shape := ⟨2, ![9216, 4096]⟩
abbrev S4096x2048 : Shape := ⟨2, ![4096, 2048]⟩
abbrev S9216x2048 : Shape := ⟨2, ![9216, 2048]⟩

abbrev nBuf : Space → Nat
  | .hbm => 4
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x2048, .f32⟩
  | .hbm, ⟨2, _⟩ => ⟨S9216x4096, .f32⟩
  | .hbm, ⟨3, _⟩ => ⟨S9216x2048, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Finish.Apply.lean ====
/-
  A block of the call `rwkv_post`: the kernel sums a head's 64 lanes by products of 128-lane pieces with a matrix that is
  one where two lanes are of the same head and zero elsewhere. The sums over 64 are the head's mean and variance, by which
  its lanes are normalised; then the weight, the bias, the bonus and the gate.
-/
module

public import proofs.«01_k».proof.Defs
public import proofs.«01_k».proof.Proof.Gen.RwkvPostIdeal.Value
public import Idealize.ShloMosaic.Lib.Pointwise
public import Idealize.ShloMosaic.Lib.IdealHost

@[expose] public section

set_option maxRecDepth 16384

noncomputable section

namespace Cert.Proof.Finish

open Cert.RwkvPostIdeal Cert.RwkvPostIdeal.Gen Idealize.ShloMosaic Idealize.ShloMosaic.TcCoe Idealize.SL.Sem
open scoped BigOperators

/-- Lane `l` of the head that lane `s` is of. -/
def lane {n : ℕ} (s : Fin (64 * n)) (l : Fin 64) : Fin (64 * n) := ⟨64 * (s.val / 64) + l.val, by omega⟩

/-- The mean of 64 lanes. -/
def mean (f : Fin 64 → EReal) : EReal := Ideal.div (∑ l, f l) (Ideal.ofBits .f32 0x42800000#32)

/-- A lane less its head's mean, -/
def centred {n : ℕ} (f : Fin (64 * n) → EReal) (s : Fin (64 * n)) : EReal := f s - mean fun l => f (lane s l)

/-- and over the square root of its head's variance. -/
def normal {n : ℕ} (f : Fin (64 * n) → EReal) (s : Fin (64 * n)) : EReal :=
  centred f s * Ideal.rsqrt ((mean fun l => centred f (lane s l) * centred f (lane s l)) + Ideal.ofBits .f32 0x3A27C5AC#32)

/-- A 64th is one over 64. -/
theorem sixtyfourth (x : EReal) : x * Ideal.ofBits .f32 0x3C800000#32 = Ideal.div x (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by exact_mod_cast (by norm_num : (64 : ℝ) ≠ 0)), ← EReal.coe_inv]
  congr 2
  norm_num

/-- One where two lanes are of the same head. -/
def ones : FVec Ideal S128x128 .f32 :=
  sitofp .f32 (extui 32 (cmpi .eq k0_pay2
    (select (andi k0_pay4 (cmpi .ne (remsi (iota .tc S128x128 32 [1] iota_S128x128_d1_w32) k0_pay5) (broadcast S128x128 0#32)))
      (subi k0_pay3 (broadcast S128x128 1#32)) k0_pay3)) natLt_1_32)

/-- A word over 64, rounded down, as the matrix computes it. -/
def over64 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

theorem over64_eq (a b : Fin 128) :
    BitVec.setWidth 32 (IntOp.cmpi .eq (over64 (BitVec.ofNat 32 a.val)) (over64 (BitVec.ofNat 32 b.val)))
      = if a.val / 64 = b.val / 64 then 1#32 else 0#32 := by
  revert a b; decide +kernel

theorem ones_apply (a b : Fin 128) : ones (ix2 a b) = if a.val / 64 = b.val / 64 then 1 else 0 := by
  pointwise [ones, k0_pay2, k0_pay3, k0_pay4, k0_pay5]
  show FloatOps.sitofp (F := Ideal) .f32
    (BitVec.setWidth 32 (IntOp.cmpi .eq (over64 (BitVec.ofNat 32 a.val)) (over64 (BitVec.ofNat 32 b.val)))) = _
  rw [over64_eq]
  split
  · show (((1#32 : BitVec 32).toInt : ℝ) : EReal) = 1
    simp
  · show (((0#32 : BitVec 32).toInt : ℝ) : EReal) = 0
    simp

/-- A sum over 128 lanes of which only one head's count is a sum over its 64. -/
theorem sum_head (s : Fin (64 * 2)) (f : Fin (64 * 2) → EReal) :
    ∑ j : Fin (64 * 2), f j * (if j.val / 64 = s.val / 64 then 1 else 0) = ∑ l : Fin 64, f (lane s l) := by
  have e : ∀ p : Fin 2 × Fin 64, (finProdFinEquiv p : Fin (2 * 64)).val = 64 * p.1.val + p.2.val := fun p =>
    show p.2.val + 64 * p.1.val = 64 * p.1.val + p.2.val from add_comm _ _
  simp only [mul_ite, mul_one, mul_zero]
  rw [← (finProdFinEquiv (m := 2) (n := 64)).sum_comp fun j : Fin (2 * 64) => if j.val / 64 = s.val / 64 then f j else 0, Fintype.sum_prod_type]
  rw [Finset.sum_eq_single (⟨s.val / 64, by omega⟩ : Fin 2)]
  · refine Finset.sum_congr rfl fun i _ => ?_
    have h := e (⟨s.val / 64, by omega⟩, i)
    rw [if_pos (by rw [h]; show (64 * (s.val / 64) + i.val) / 64 = s.val / 64; omega)]
    exact congrArg f (Fin.ext h)
  · intro s' _ hs
    refine Finset.sum_eq_zero fun i _ => ?_
    have h := e (s', i)
    rw [if_neg]
    rw [h]
    intro h'
    refine hs (Fin.ext ?_)
    show s'.val = s.val / 64
    have := i.isLt
    have h'' : (64 * s'.val + i.val) / 64 = s.val / 64 := h'
    omega
  · exact fun h => absurd (Finset.mem_univ _) h

/-- The sums of the heads, each in its lanes. -/
def pooled (y : FVec Ideal S256x512 .f32) : FVec Ideal S256x512 .f32 :=
  concatenate S256x512 1
    [⟨S256x128, matmul dot_S256x128_S128x128_S256x128_1_0_0_1_n_n (some .fp32)
        (extractStridedSlice S256x128 ![0, 0] y slices_S256x512_o0_0_S256x128) ones (constant S256x128 .f32 0x00000000#32)⟩,
      ⟨S256x128, matmul dot_S256x128_S128x128_S256x128_1_0_0_1_n_n (some .fp32)
        (extractStridedSlice S256x128 ![0, 128] y slices_S256x512_o0_128_S256x128) ones (constant S256x128 .f32 0x00000000#32)⟩,
      ⟨S256x128, matmul dot_S256x128_S128x128_S256x128_1_0_0_1_n_n (some .fp32)
        (extractStridedSlice S256x128 ![0, 256] y slices_S256x512_o0_256_S256x128) ones (constant S256x128 .f32 0x00000000#32)⟩,
      ⟨S256x128, matmul dot_S256x128_S128x128_S256x128_1_0_0_1_n_n (some .fp32)
        (extractStridedSlice S256x128 ![0, 384] y slices_S256x512_o0_384_S256x128) ones (constant S256x128 .f32 0x00000000#32)⟩]
    concatenates_S256x128_S256x128_S256x128_S256x128_S256x512_d1

/-- A piece's sum is its head's. -/
theorem piece (y : Vec Ideal S256x512 .f32) (r : Fin 256) (s : Fin 512) (k : ℕ) (hk : 128 * k ≤ s.val) (hk' : s.val < 128 * k + 128) (hs : k < 4)
    (g : Fin 128 → Fin 512) (hg : ∀ j, (g j).val = 128 * k + j.val) (b : Fin 128) (hb : b.val = s.val - 128 * k) :
    ∑ j : Fin 128, y (ix2 r (g j)) * ones (ix2 j b) = ∑ l : Fin 64, y (ix2 r (lane (n := 8) s l)) := by
  simp only [ones_apply]
  refine (sum_head b fun j => y (ix2 r (g j))).trans (Finset.sum_congr rfl fun l _ => congrArg (fun a => y (ix2 r a)) (Fin.ext ?_))
  refine (hg _).trans ?_
  show 128 * k + (64 * (b.val / 64) + l.val) = 64 * (s.val / 64) + l.val
  omega

theorem pooled_apply (y : Vec Ideal S256x512 .f32) (r : Fin 256) (s : Fin 512) :
    pooled y (ix2 r s) = ∑ l : Fin 64, y (ix2 r (lane (n := 8) s l)) := by
  have h := piece y r s
  unfold pooled
  generalize ones = o at h ⊢
  pointwise
  by_cases h0 : s.val < 128
  · rw [dif_pos h0]
    exact h 0 (by omega) (by omega) (by omega) _ (fun j => by show j.val = 128 * 0 + j.val; omega) _ (by show s.val = s.val - 128 * 0; omega)
  rw [dif_neg h0]
  by_cases h1 : s.val - 128 < 128
  · rw [dif_pos h1]
    exact h 1 (by omega) (by omega) (by omega) _ (fun j => rfl) _ rfl
  rw [dif_neg h1]
  by_cases h2 : s.val - 128 - 128 < 128
  · rw [dif_pos h2]
    exact h 2 (by omega) (by omega) (by omega) _ (fun j => rfl) _ (by show s.val - 128 - 128 = s.val - 128 * 2; omega)
  rw [dif_neg h2]
  exact h 3 (by omega) (by omega) (by omega) _ (fun j => rfl) _ (by show s.val - 128 - 128 - 128 = s.val - 128 * 3; omega)

/-- The heads' means, each in its lanes, -/
def means (y : FVec Ideal S256x512 .f32) : FVec Ideal S256x512 .f32 := mulf (pooled y) (broadcast S256x512 (Scalar.ofBits .f32 0x3C800000#32))

theorem means_apply (y : Vec Ideal S256x512 .f32) (r : Fin 256) (s : Fin 512) :
    means y (ix2 r s) = mean fun l => y (ix2 r (lane (n := 8) s l)) :=
  (sixtyfourth _).trans (congrArg (fun a => Ideal.div a (Ideal.ofBits .f32 0x42800000#32)) (pooled_apply y r s))

/-- and the rows less them. -/
def less (y : FVec Ideal S256x512 .f32) : FVec Ideal S256x512 .f32 := subf y (means y)

theorem less_apply (y : Vec Ideal S256x512 .f32) (r : Fin 256) (s : Fin 512) :
    less y (ix2 r s) = centred (n := 8) (fun l => y (ix2 r l)) s :=
  congrArg (y (ix2 r s) - ·) (means_apply y r s)

/-- The normalised rows with their weight. -/
theorem weighted_apply (y : Vec Ideal S256x512 .f32) (w : Vec Ideal S1x512 .f32) (r : Fin 256) (s : Fin 512) :
    k0_pay6 (F := Ideal) y k0_pay2 (iota .tc S128x128 32 [1] iota_S128x128_d1_w32) k0_pay3 k0_pay4 k0_pay5 w (ix2 r s)
      = normal (n := 8) (fun l => y (ix2 r l)) s * w (ix2 0 s) := by
  have e : k0_pay6 (F := Ideal) y k0_pay2 (iota .tc S128x128 32 [1] iota_S128x128_d1_w32) k0_pay3 k0_pay4 k0_pay5 w
      = mulf (mulf (less y) (rsqrt (addf (means (mulf (less y) (less y))) (broadcast S256x512 (Scalar.ofBits .f32 0x3A27C5AC#32)))))
        (broadcastTo S256x512 (shapeCast S1x512 w shapeCasts_S1x512_S1x512) broadcasts_S1x512_S256x512) := rfl
  have hl := less_apply y r
  have hm := means_apply (mulf (less y) (less y)) r s
  have hq : ∀ l : Fin 64, mulf (less y) (less y) (ix2 r (lane (n := 8) s l))
      = centred (n := 8) (fun l => y (ix2 r l)) (lane (n := 8) s l) * centred (n := 8) (fun l => y (ix2 r l)) (lane (n := 8) s l) := fun l =>
    congrArg₂ (· * ·) (hl _) (hl _)
  simp only [hq] at hm
  rw [e]
  clear hq e
  generalize means (mulf (less y) (less y)) = v at hm ⊢
  generalize less y = z at hl ⊢
  pointwise
  rw [hl, hm]
  rfl

/-- A block of the result. -/
theorem block_apply (y b g : Vec Ideal S256x512 .f32) (w v : Vec Ideal S1x512 .f32) (r : Fin 256) (s : Fin 512) :
    k0_pay1 (F := Ideal) (k0_pay6 (F := Ideal) y k0_pay2 (iota .tc S128x128 32 [1] iota_S128x128_d1_w32) k0_pay3 k0_pay4 k0_pay5 w)
        v b g (ix2 r s)
      = (normal (n := 8) (fun l => y (ix2 r l)) s * w (ix2 0 s) + v (ix2 0 s) + b (ix2 r s)) * g (ix2 r s) := by
  have h := weighted_apply y w r s
  generalize k0_pay6 (F := Ideal) y k0_pay2 (iota .tc S128x128 32 [1] iota_S128x128_d1_w32) k0_pay3 k0_pay4 k0_pay5 w = z at h ⊢
  pointwise [k0_pay1]
  rw [h]

end Cert.Proof.Finish

end
-- ==== Proof.Finish.Equal.lean ====
/-
  The call `rwkv_post`: what the recurrence gave, each head's 64 lanes less their mean and over the square root of their
  variance, with a weight and a bias to each lane, plus the bonus and times the gate. A block of the kernel's is 256 rows
  of eight heads, so a head's lanes lie in one block.
-/
module

public import proofs.«01_k».proof.Defs
public import proofs.«01_k».proof.Proof.Finish.Apply
public import proofs.«01_k».proof.Proof.Gen.RwkvPostIdeal.Value
public import proofs.«01_k».proof.Proof.Gen.RwkvPostRefIdeal.Run
public import proofs.«01_k».proof.Proof.Gen.RwkvPostRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Finish

open Cert.RwkvPostIdeal Cert.RwkvPostIdeal.Gen Idealize.ShloMosaic Idealize.ShloMosaic.TcCoe Idealize.SL.Sem
open scoped BigOperators

/-- The result. -/
def finished (x b g : Vec Ideal S9216x2048 .f32) (w v : Vec Ideal S2048 .f32) (r : Fin 9216) (s : Fin 2048) : EReal :=
  (normal (n := 32) (fun l => x (ix2 r l)) s * w (ix1 s) + v (ix1 s) + b (ix2 r s)) * g (ix2 r s)

variable (m : (ℓ : Loc nD τ sig) → Buf (Elt Ideal) ℓ) (c : Dev nD)

/-- What the recurrence gave, the bonus, the gate, -/
abbrev given : Vec Ideal S9216x2048 .f32 := m ((c.tc : Thread nD τ).loc main_arg0)
abbrev bonus : Vec Ideal S9216x2048 .f32 := m ((c.tc : Thread nD τ).loc main_arg1)
abbrev gate : Vec Ideal S9216x2048 .f32 := m ((c.tc : Thread nD τ).loc main_arg2)
/-- the weight and the bias. -/
abbrev weight : Vec Ideal S2048 .f32 := m ((c.tc : Thread nD τ).loc main_arg3)
abbrev bias : Vec Ideal S2048 .f32 := m ((c.tc : Thread nD τ).loc main_arg4)

theorem weight_eq : V m c main_v0 = shapeCast S1x2048 (weight m c) shapeCasts_S2048_S1x2048 := by
  dsimp only [V, hostOps0]
  after_results
  rfl

theorem bias_eq : V m c main_v1 = shapeCast S1x2048 (bias m c) shapeCasts_S2048_S1x2048 := by
  dsimp only [V, hostOps0]
  after_results
  rfl

theorem flat_apply (b : Vec Ideal S2048 .f32) (s : Fin 2048) :
    (shapeCast S1x2048 b shapeCasts_S2048_S1x2048 : Vec Ideal S1x2048 .f32) (ix2 0 s) = b (ix1 s) := by
  pointwise

/-- Where the blocks of a grid point lie. -/
theorem places : ∀ t : Fin cfg0.N, win0_0.index t = ![t.val / 4, t.val % 4] ∧ win0_1.index t = ![t.val / 4, t.val % 4]
    ∧ win0_2.index t = ![t.val / 4, t.val % 4] ∧ win0_3.index t = ![0, t.val % 4] ∧ win0_4.index t = ![0, t.val % 4]
    ∧ win0_5.index t = ![t.val / 4, t.val % 4] := by
  decide +kernel

theorem points : cfg0.N = 144 := by decide +kernel

/-- The row of a block's row, -/
abbrev rowOf (t : Fin cfg0.N) (r : Fin 256) : Fin 9216 := ⟨256 * (t.val / 4) + r.val, by
  have h : t.val < 144 := lt_of_lt_of_eq t.isLt points
  omega⟩

/-- and the lane of a block's lane. -/
abbrev laneOf (t : Fin cfg0.N) (s : Fin 512) : Fin 2048 := ⟨512 * (t.val % 4) + s.val, by omega⟩

/-- A head's lanes lie in one block. -/
theorem lane_block (t : Fin cfg0.N) (s : Fin 512) (l : Fin 64) : laneOf t (lane (n := 8) s l) = lane (n := 32) (laneOf t s) l :=
  Fin.ext (by
    show 512 * (t.val % 4) + (64 * (s.val / 64) + l.val) = 64 * ((512 * (t.val % 4) + s.val) / 64) + l.val
    omega)

theorem centred_block (t : Fin cfg0.N) (f : Fin 2048 → EReal) (s : Fin 512) :
    centred (n := 8) (fun l => f (laneOf t l)) s = centred (n := 32) f (laneOf t s) := by
  unfold centred
  simp only [lane_block]

theorem normal_block (t : Fin cfg0.N) (f : Fin 2048 → EReal) (s : Fin 512) :
    normal (n := 8) (fun l => f (laneOf t l)) s = normal (n := 32) f (laneOf t s) := by
  unfold normal
  simp only [centred_block, lane_block]

theorem staged0_apply (t : Fin cfg0.N) (r : Fin 256) (s : Fin 512) : iblk m c 0 t (ix2 r s) = given m c (ix2 (rowOf t r) (laneOf t s)) := by
  have e := (places t).1
  rw [show given m c = V m c main_arg0 from (V_main_arg0 m c).symm]
  blk_simp [iblk]
  congr 1
  blk_ext [e]

theorem staged1_apply (t : Fin cfg0.N) (r : Fin 256) (s : Fin 512) : iblk m c 1 t (ix2 r s) = bonus m c (ix2 (rowOf t r) (laneOf t s)) := by
  have e := (places t).2.1
  rw [show bonus m c = V m c main_arg1 from (V_main_arg1 m c).symm]
  blk_simp [iblk]
  congr 1
  blk_ext [e]

theorem staged2_apply (t : Fin cfg0.N) (r : Fin 256) (s : Fin 512) : iblk m c 2 t (ix2 r s) = gate m c (ix2 (rowOf t r) (laneOf t s)) := by
  have e := (places t).2.2.1
  rw [show gate m c = V m c main_arg2 from (V_main_arg2 m c).symm]
  blk_simp [iblk]
  congr 1
  blk_ext [e]

theorem staged3_apply (t : Fin cfg0.N) (s : Fin 512) : iblk m c 3 t (ix2 0 s) = weight m c (ix1 (laneOf t s)) := by
  refine Eq.trans ?_ ((congrFun (weight_eq m c) (ix2 0 (laneOf t s))).trans (flat_apply _ _))
  have e := (places t).2.2.2.1
  blk_simp [iblk]
  congr 1
  blk_ext [e]

theorem staged4_apply (t : Fin cfg0.N) (s : Fin 512) : iblk m c 4 t (ix2 0 s) = bias m c (ix1 (laneOf t s)) := by
  refine Eq.trans ?_ ((congrFun (bias_eq m c) (ix2 0 (laneOf t s))).trans (flat_apply _ _))
  have e := (places t).2.2.2.2.1
  blk_simp [iblk]
  congr 1
  blk_ext [e]

/-- The kernel's array. -/
theorem kernel_eq : (dats m 0 c).arrAt 5 cfg0.N
    = fun i => finished (given m c) (bonus m c) (gate m c) (weight m c) (bias m c) (i 0) (i 1) := by
  refine (dats m 0 c).arrAt_eq_of_covers 5 _ (by decide +kernel) fun t hf y => ?_
  blk_simp
  rw [after0_5]
  frame_out
  obtain ⟨r, s, rfl⟩ : ∃ (r : Fin 256) (s : Fin 512), y = ix2 r s := ⟨y 0, y 1, eq_ix2 y⟩
  refine (block_apply _ _ _ _ _ r s).trans ?_
  have e := (places t).2.2.2.2.2
  have hr : (win0_5.blk t).view.emb (ix2 r s) = (ix2 (rowOf t r) (laneOf t s) : S9216x2048.Idx) := by
    blk_ext [e]
  refine Eq.trans ?_ (congrArg (fun j : S9216x2048.Idx => finished (given m c) (bonus m c) (gate m c) (weight m c) (bias m c) (j 0) (j 1)) hr).symm
  have ho : (fun l => iblk m c 0 t (ix2 r l)) = fun l => given m c (ix2 (rowOf t r) (laneOf t l)) := funext fun l => staged0_apply m c t r l
  have hn := (congrArg (fun f => normal (n := 8) f s) ho).trans (normal_block t (fun l => given m c (ix2 (rowOf t r) l)) s)
  exact congrArg₂ (· * ·) (congrArg₂ (· + ·) (congrArg₂ (· + ·) (congrArg₂ (· * ·) hn (staged3_apply m c t s))
    (staged4_apply m c t s)) (staged1_apply m c t r s)) (staged2_apply m c t r s)

section reference

open Cert.RwkvPostRefIdeal.Read

variable (x b g : Vec Ideal S9216x2048 .f32) (w v : Vec Ideal S2048 .f32)

/-- The lane of a head's lane. -/
abbrev headLane (h : Fin 32) (l : Fin 64) : Fin 2048 := ⟨64 * h.val + l.val, by omega⟩

theorem heads_apply (r : Fin 9216) (h : Fin 32) (l : Fin 64) : val_main_v0 (F := Ideal) x (ix3 r h l) = x (ix2 r (headLane h l)) := by
  pointwise [val_main_v0]
  exact congrArg (fun a => x (ix2 r a)) (Fin.ext (by show h.val * 64 + l.val = 64 * h.val + l.val; omega))

theorem lane_head (h : Fin 32) (l k : Fin 64) : lane (n := 32) (headLane h l) k = headLane h k :=
  Fin.ext (by show 64 * ((64 * h.val + l.val) / 64) + k.val = 64 * h.val + k.val; omega)

theorem centred_apply (r : Fin 9216) (h : Fin 32) (l : Fin 64) :
    val_main_v6 (F := Ideal) x (ix3 r h l) = centred (n := 32) (fun l => x (ix2 r l)) (headLane h l) := by
  have e := heads_apply x r h
  unfold val_main_v6 val_main_v5 val_main_v4 val_main_v2 val_main_v1
  generalize val_main_v0 (F := Ideal) x = y at e ⊢
  pointwise [val_main_v3, val_main_cst_0, val_main_cst]
  unfold centred mean
  simp only [e, lane_head]

theorem normal_apply (r : Fin 9216) (h : Fin 32) (l : Fin 64) :
    val_main_v18 (F := Ideal) x (ix3 r h l) = normal (n := 32) (fun l => x (ix2 r l)) (headLane h l) := by
  have e := centred_apply x r h
  unfold val_main_v18 val_main_v17 val_main_v16 val_main_v15 val_main_v11 val_main_v9 val_main_v8 val_main_v7
  rw [show val_main_v13 (F := Ideal) x = val_main_v6 (F := Ideal) x from rfl]
  generalize val_main_v6 (F := Ideal) x = y at e ⊢
  pointwise [val_main_v14, val_main_v10, val_main_cst_1, val_main_cst_2, val_main_cst_3]
  unfold normal mean
  simp only [e, lane_head]

/-- The reference's array. -/
theorem finished_reference : val_main_v28 (F := Ideal) x b g w v = fun i => finished x b g w v (i 0) (i 1) := by
  funext i
  obtain ⟨r, s, rfl⟩ : ∃ (r : Fin 9216) (s : Fin 2048), i = ix2 r s := ⟨i 0, i 1, eq_ix2 i⟩
  show _ = finished x b g w v r s
  have e := normal_apply x r
  unfold val_main_v28 val_main_v27 val_main_v26 val_main_v25 val_main_v22 val_main_v19
  generalize val_main_v18 (F := Ideal) x = y at e ⊢
  pointwise [val_main_v20, val_main_v21, val_main_v23, val_main_v24]
  simp only [e]
  unfold finished
  rw [show headLane ⟨s.val / 64, by omega⟩ ⟨s.val % 64, by omega⟩ = s from Fin.ext (by show 64 * (s.val / 64) + s.val % 64 = s.val; omega)]

end reference

/-- The reference runs to its end and leaves its arguments and the semaphores as they were. -/
theorem frame_reference : Cert.quiescent_RwkvPostRefIdeal := fun m ρ _ =>
  (θ_run Cert.RwkvPostRefIdeal.defs _ _).mono (fun r h => ⟨fun c => (h c).2, sem_eq_zero_of_no_sems (by decide) r.2⟩)
    (Cert.RwkvPostRefIdeal.Value.run (F := Ideal) m ρ)

/-- Both end with the same rows. -/
theorem algebraic : Cert.algebraic_RwkvPostIdeal_RwkvPostRefIdeal := by
  intro m ρ m' ρ' _ hagree
  refine ⟨fun c => (dats m 0 c).arrAt 5 cfg0.N, Cert.RwkvPostIdeal.Value.run_blocks (F := Ideal) m ρ, ?_⟩
  refine (θ_run _ _ _).mono (fun _ h c => ⟨(h c).1.trans ?_, (h c).2⟩) (Cert.RwkvPostRefIdeal.Value.run (F := Ideal) m' ρ')
  rw [(hagree c).1, (hagree c).2.1, (hagree c).2.2.1, (hagree c).2.2.2.1, (hagree c).2.2.2.2]
  exact (finished_reference (given m c) (bonus m c) (gate m c) (weight m c) (bias m c)).trans (kernel_eq m c).symm

end Cert.Proof.Finish

end
-- ==== Proof.Last.Equal.lean ====
/-
  The call `final`: each token's row plus the gated norm of what the channel mixer gave for it. The gate is the last
  sixth of the token's sequence's modulation. The kernel stacks the rows of both batches and repeats the prompt's
  modulations sixteen times, so that a block of 128 rows always takes sixteen of them, eight rows each; the reference
  treats the batches apart. An element is the same expression.
-/
module

public import proofs.«01_k».proof.Defs
public import proofs.«01_k».proof.Proof.Gen.FinalIdeal.Value
public import proofs.«01_k».proof.Proof.Gen.FinalRefIdeal.Run
public import proofs.«01_k».proof.Proof.Gen.FinalRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Last

open Cert.FinalIdeal Cert.FinalIdeal.Gen Idealize.ShloMosaic Idealize.ShloMosaic.TcCoe Idealize.SL.Sem
open scoped BigOperators

/-- An element of a row over its root mean square, times the element's weight. -/
def normed (o : Fin 4096 → EReal) (g : EReal) (s : Fin 4096) : EReal :=
  o s * Ideal.rsqrt (Ideal.div (∑ l : Fin 4096, o l * o l) (Ideal.ofBits .f32 0x45800000#32) + Ideal.ofBits .f32 0x358637BD#32) * g

/-- A block of the kernel. -/
theorem block_apply (x : Vec Ideal S128x4096 .f32) (gate : Vec Ideal S16x1x4096 .f32) (o : Vec Ideal S128x4096 .f32)
    (g : Vec Ideal S1x4096 .f32) (r : Fin 128) (s : Fin 4096) :
    k0_pay1 (F := Ideal) x gate o g (ix2 r s)
      = x (ix2 r s) + gate (ix3 ⟨r.val / 8, by omega⟩ 0 s) * normed (fun l => o (ix2 r l)) (g (ix2 0 s)) s := by
  pointwise [k0_pay1]
  rfl

/-- The sequence of a row of the stacked batches: four of 2048 rows, then 128 of eight. -/
def seqOf (r : Fin 9216) : Fin 132 :=
  ⟨if r.val < 8192 then r.val / 2048 else 4 + (r.val - 8192) / 8, by split <;> omega⟩

/-- What both programs compute. -/
def ended (x o : Vec Ideal S9216x4096 .f32) (g : Vec Ideal S4096 .f32) (md : Vec Ideal S132x24576 .f32) (r : Fin 9216) (s : Fin 4096) : EReal :=
  x (ix2 r s) + md (ix2 (seqOf r) ⟨20480 + s.val, by omega⟩) * normed (fun l => o (ix2 r l)) (g (ix1 s)) s

/-- The modulation a slot of the kernel's repeated array holds. -/
def slotSeq (q : Fin 192) : Fin 132 := ⟨if q.val < 64 then q.val / 16 else q.val - 60, by split <;> omega⟩

variable (m : (ℓ : Loc nD τ sig) → Buf (Elt Ideal) ℓ) (c : Dev nD)

/-- The rows, what the mixer gave for them, -/
abbrev rows : Vec Ideal S9216x4096 .f32 := m ((c.tc : Thread nD τ).loc main_arg0)
abbrev mixed : Vec Ideal S9216x4096 .f32 := m ((c.tc : Thread nD τ).loc main_arg1)
/-- the norm's weights and the modulation. -/
abbrev weights : Vec Ideal S4096 .f32 := m ((c.tc : Thread nD τ).loc main_arg2)
abbrev modulation : Vec Ideal S132x24576 .f32 := m ((c.tc : Thread nD τ).loc main_arg3)

/-- The kernel's repeated modulations. -/
def repeated (md : Vec Ideal S132x24576 .f32) : Vec Ideal S192x1x24576 .f32 :=
  broadcastInDim S192x1x24576 ![0, 2] bcast_S192x24576_S192x1x24576_0_2
    (concatenate S192x24576 0
      [⟨S64x24576, shapeCast S64x24576 (broadcastInDim S4x16x24576 ![0, 2] bcast_S4x24576_S4x16x24576_0_2
          (extractStridedSlice S4x24576 ![0, 0] md slices_S132x24576_S4x24576_0_0)) shapeCasts_S4x16x24576_S64x24576⟩,
        ⟨S128x24576, extractStridedSlice S128x24576 ![4, 0] md slices_S132x24576_S128x24576_4_0⟩]
      concatenates_S64x24576_S128x24576_S192x24576_d0)

theorem repeated_apply (md : Vec Ideal S132x24576 .f32) (q : Fin 192) (s : Fin 24576) :
    repeated md (ix3 q 0 s) = md (ix2 (slotSeq q) s) := by
  unfold repeated
  pointwise
  by_cases h : q.val < 64
  · rw [dif_pos h]
    exact congrArg (fun a => md (ix2 a s)) (Fin.ext (by show q.val / 16 = if q.val < 64 then q.val / 16 else q.val - 60; rw [if_pos h]))
  · rw [dif_neg h]
    exact congrArg (fun a => md (ix2 a s)) (Fin.ext (by
      show 4 + (q.val - 64) = if q.val < 64 then q.val / 16 else q.val - 60
      rw [if_neg h]
      omega))

theorem modulation_eq : V m c main_v5 = repeated (modulation m c) := by
  dsimp only [V, hostOps0]
  after_results
  rfl

theorem weights_eq : V m c main_v6 = shapeCast S1x4096 (weights m c) shapeCasts_S4096_S1x4096 := by
  dsimp only [V, hostOps0]
  after_results
  rfl

theorem flat_apply (b : Vec Ideal S4096 .f32) (s : Fin 4096) :
    (shapeCast S1x4096 b shapeCasts_S4096_S1x4096 : Vec Ideal S1x4096 .f32) (ix2 0 s) = b (ix1 s) := by
  pointwise

/-- Where the blocks of a grid point lie. -/
theorem places : ∀ t : Fin cfg0.N, win0_0.index t = ![t.val, 0] ∧ win0_1.index t = ![t.val, 0] ∧ win0_2.index t = ![0, 0]
    ∧ win0_3.index t = ![if t.val < 64 then t.val / 16 else t.val - 60, 0, 5] ∧ win0_4.index t = ![t.val, 0] := by
  decide +kernel

theorem points : cfg0.N = 72 := by decide +kernel

theorem row_lt (t : Fin cfg0.N) (r : Fin 128) : 128 * t.val + r.val < 9216 := by
  have h : t.val < 72 := lt_of_lt_of_eq t.isLt points
  omega

/-- The row of a block's row. -/
abbrev rowOf (t : Fin cfg0.N) (r : Fin 128) : Fin 9216 := ⟨128 * t.val + r.val, row_lt t r⟩

theorem staged0_apply (t : Fin cfg0.N) (r : Fin 128) (s : Fin 4096) : iblk m c 0 t (ix2 r s) = rows m c (ix2 (rowOf t r) s) := by
  have e := (places t).1
  rw [show rows m c = V m c main_arg0 from (V_main_arg0 m c).symm]
  blk_simp [iblk]
  congr 1
  blk_ext [e]

theorem staged1_apply (t : Fin cfg0.N) (r : Fin 128) (s : Fin 4096) : iblk m c 1 t (ix2 r s) = mixed m c (ix2 (rowOf t r) s) := by
  have e := (places t).2.1
  rw [show mixed m c = V m c main_arg1 from (V_main_arg1 m c).symm]
  blk_simp [iblk]
  congr 1
  blk_ext [e]

theorem staged2_apply (t : Fin cfg0.N) (s : Fin 4096) : iblk m c 2 t (ix2 0 s) = weights m c (ix1 s) := by
  refine Eq.trans ?_ ((congrFun (weights_eq m c) (ix2 0 s)).trans (flat_apply _ _))
  have e := (places t).2.2.1
  blk_simp [iblk]
  congr 1
  blk_ext [e]

/-- A slot of a point's gates in the repeated modulations. -/
abbrev slotOf (t : Fin cfg0.N) (u : Fin 16) : Fin 192 :=
  ⟨16 * (if t.val < 64 then t.val / 16 else t.val - 60) + u.val, by
    have h : t.val < 72 := lt_of_lt_of_eq t.isLt points
    split <;> omega⟩

theorem slot_seq (t : Fin cfg0.N) (r : Fin 128) : slotSeq (slotOf t ⟨r.val / 8, by omega⟩) = seqOf (rowOf t r) := by
  have h : t.val < 72 := lt_of_lt_of_eq t.isLt points
  apply Fin.ext
  show (if 16 * (if t.val < 64 then t.val / 16 else t.val - 60) + r.val / 8 < 64
      then (16 * (if t.val < 64 then t.val / 16 else t.val - 60) + r.val / 8) / 16
      else 16 * (if t.val < 64 then t.val / 16 else t.val - 60) + r.val / 8 - 60)
    = if 128 * t.val + r.val < 8192 then (128 * t.val + r.val) / 2048 else 4 + (128 * t.val + r.val - 8192) / 8
  by_cases ht : t.val < 64
  · rw [if_pos ht, if_pos (by omega), if_pos (by omega)]
    omega
  · rw [if_neg ht, if_neg (by omega), if_neg (by omega)]
    omega

theorem staged3_apply (t : Fin cfg0.N) (r : Fin 128) (s : Fin 4096) :
    iblk m c 3 t (ix3 ⟨r.val / 8, by omega⟩ 0 s) = modulation m c (ix2 (seqOf (rowOf t r)) ⟨20480 + s.val, by omega⟩) := by
  rw [← slot_seq]
  refine Eq.trans ?_ ((congrFun (modulation_eq m c) (ix3 (slotOf t ⟨r.val / 8, by omega⟩) 0 ⟨20480 + s.val, by omega⟩)).trans
    (repeated_apply _ _ _))
  have e := (places t).2.2.2.1
  blk_simp [iblk]
  congr 1
  blk_ext [e]

/-- The kernel's array. -/
theorem kernel_eq : (dats m 0 c).arrAt 4 cfg0.N
    = fun i => ended (rows m c) (mixed m c) (weights m c) (modulation m c) (i 0) (i 1) := by
  refine (dats m 0 c).arrAt_eq_of_covers 4 _ (by decide +kernel) fun t hf y => ?_
  blk_simp
  rw [after0_4]
  frame_out
  obtain ⟨r, s, rfl⟩ : ∃ (r : Fin 128) (s : Fin 4096), y = ix2 r s := ⟨y 0, y 1, eq_ix2 y⟩
  refine (block_apply _ _ _ _ r s).trans ?_
  have e := (places t).2.2.2.2
  have hr : (win0_4.blk t).view.emb (ix2 r s) = (ix2 (rowOf t r) s : S9216x4096.Idx) := by
    blk_ext [e]
  refine Eq.trans ?_ (congrArg (fun j : S9216x4096.Idx =>
    ended (rows m c) (mixed m c) (weights m c) (modulation m c) (j 0) (j 1)) hr).symm
  have ho : (fun l => iblk m c 1 t (ix2 r l)) = fun l => mixed m c (ix2 (rowOf t r) l) := funext fun l => staged1_apply m c t r l
  exact congrArg₂ (· + ·) (staged0_apply m c t r s) (congrArg₂ (· * ·) (staged3_apply m c t r s)
    (congrArg₂ (fun o g => normed o g s) ho (staged2_apply m c t s)))

section reference

open Cert.FinalRefIdeal.Read

variable (x o : Vec Ideal S9216x4096 .f32) (g : Vec Ideal S4096 .f32) (md : Vec Ideal S132x24576 .f32)

theorem mixedP_apply (b : Fin 4) (t : Fin 2048) (s : Fin 4096) :
    val_main_v3 (F := Ideal) o (ix3 b t s) = o (ix2 ⟨2048 * b.val + t.val, by omega⟩ s) := by
  pointwise [val_main_v3, val_main_v2]
  exact congrArg (fun a => o (ix2 a s)) (Fin.ext (by show b.val * 2048 + t.val = 2048 * b.val + t.val; omega))

theorem mixedS_apply (b : Fin 128) (t : Fin 8) (s : Fin 4096) :
    val_main_v26 (F := Ideal) o (ix3 b t s) = o (ix2 ⟨8192 + (8 * b.val + t.val), by omega⟩ s) := by
  pointwise [val_main_v26, val_main_v25]
  exact congrArg (fun a => o (ix2 a s)) (Fin.ext (by show 8192 + (b.val * 8 + t.val) = 8192 + (8 * b.val + t.val); omega))

theorem normedP_apply (b : Fin 4) (t : Fin 2048) (s : Fin 4096) :
    val_main_v19 (F := Ideal) o g (ix3 b t s) = normed (fun l => o (ix2 ⟨2048 * b.val + t.val, by omega⟩ l)) (g (ix1 s)) s := by
  have h := mixedP_apply o b t
  unfold val_main_v19 val_main_v16 val_main_v15 val_main_v14 val_main_v13 val_main_v11 val_main_v9 val_main_v8 val_main_v7
  generalize val_main_v3 (F := Ideal) o = y at h ⊢
  pointwise [val_main_v18, val_main_v17, val_main_v12, val_main_v10, val_main_cst, val_main_cst_0, val_main_cst_1]
  simp only [h]
  rfl

theorem normedS_apply (b : Fin 128) (t : Fin 8) (s : Fin 4096) :
    val_main_v42 (F := Ideal) o g (ix3 b t s) = normed (fun l => o (ix2 ⟨8192 + (8 * b.val + t.val), by omega⟩ l)) (g (ix1 s)) s := by
  have h := mixedS_apply o b t
  unfold val_main_v42 val_main_v39 val_main_v38 val_main_v37 val_main_v36 val_main_v34 val_main_v32 val_main_v31 val_main_v30
  generalize val_main_v26 (F := Ideal) o = y at h ⊢
  pointwise [val_main_v41, val_main_v40, val_main_v35, val_main_v33, val_main_cst_2, val_main_cst_3, val_main_cst_4]
  simp only [h]
  rfl

theorem prompt_apply (b : Fin 4) (t : Fin 2048) (s : Fin 4096) :
    val_main_v22 (F := Ideal) x o g md (ix3 b t s) = ended x o g md ⟨2048 * b.val + t.val, by omega⟩ s := by
  have h := normedP_apply o g b t s
  have hx : val_main_v1 (F := Ideal) x (ix3 b t s) = x (ix2 ⟨2048 * b.val + t.val, by omega⟩ s) := mixedP_apply x b t s
  unfold val_main_v22 val_main_v21
  generalize val_main_v19 (F := Ideal) o g = y at h ⊢
  generalize val_main_v1 (F := Ideal) x = z at hx ⊢
  pointwise [val_main_v20, val_main_v6, val_main_v5, val_main_v4]
  rw [h, hx]
  have e : seqOf ⟨2048 * b.val + t.val, by omega⟩ = ⟨b.val, by omega⟩ := Fin.ext (by
    show (if 2048 * b.val + t.val < 8192 then (2048 * b.val + t.val) / 2048 else 4 + (2048 * b.val + t.val - 8192) / 8) = b.val
    rw [if_pos (by omega)]
    omega)
  unfold ended
  rw [e]

theorem sample_apply (b : Fin 128) (t : Fin 8) (s : Fin 4096) :
    val_main_v45 (F := Ideal) x o g md (ix3 b t s) = ended x o g md ⟨8192 + (8 * b.val + t.val), by omega⟩ s := by
  have h := normedS_apply o g b t s
  have hx : val_main_v24 (F := Ideal) x (ix3 b t s) = x (ix2 ⟨8192 + (8 * b.val + t.val), by omega⟩ s) := mixedS_apply x b t s
  unfold val_main_v45 val_main_v44
  generalize val_main_v42 (F := Ideal) o g = y at h ⊢
  generalize val_main_v24 (F := Ideal) x = z at hx ⊢
  pointwise [val_main_v43, val_main_v29, val_main_v28, val_main_v27]
  rw [h, hx]
  have e : seqOf ⟨8192 + (8 * b.val + t.val), by omega⟩ = ⟨4 + b.val, by omega⟩ := Fin.ext (by
    show (if 8192 + (8 * b.val + t.val) < 8192 then (8192 + (8 * b.val + t.val)) / 2048
      else 4 + (8192 + (8 * b.val + t.val) - 8192) / 8) = 4 + b.val
    rw [if_neg (by omega)]
    omega)
  unfold ended
  rw [e]

/-- The reference's array. -/
theorem reference_eq : val_main_v48 (F := Ideal) x o g md = fun i => ended x o g md (i 0) (i 1) := by
  funext i
  obtain ⟨r, s, rfl⟩ : ∃ (r : Fin 9216) (s : Fin 4096), i = ix2 r s := ⟨i 0, i 1, eq_ix2 i⟩
  show _ = ended x o g md r s
  have hp := prompt_apply x o g md
  have hs := sample_apply x o g md
  unfold val_main_v48 val_main_v46 val_main_v47
  generalize val_main_v22 (F := Ideal) x o g md = y at hp ⊢
  generalize val_main_v45 (F := Ideal) x o g md = z at hs ⊢
  pointwise
  by_cases h : r.val < 8192
  · rw [dif_pos h, hp]
    exact congrArg (fun a => ended x o g md a s) (Fin.ext (by show 2048 * (r.val / 2048) + r.val % 2048 = r.val; omega))
  · rw [dif_neg h, hs]
    exact congrArg (fun a => ended x o g md a s) (Fin.ext (by
      show 8192 + (8 * ((r.val - 8192) / 8) + (r.val - 8192) % 8) = r.val
      omega))

end reference

/-- The reference runs to its end and leaves its arguments and the semaphores as they were. -/
theorem frame_reference : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- Both end with the same rows. -/
theorem algebraic : Cert.algebraic_FinalIdeal_FinalRefIdeal := by
  intro m ρ m' ρ' _ hagree
  refine ⟨fun c => (dats m 0 c).arrAt 4 cfg0.N, Cert.FinalIdeal.Value.run_blocks (F := Ideal) m ρ, ?_⟩
  refine (θ_run _ _ _).mono (fun _ h c => ⟨(h c).1.trans ?_, (h c).2⟩) (Cert.FinalRefIdeal.Value.run (F := Ideal) m' ρ')
  rw [(hagree c).1, (hagree c).2.1, (hagree c).2.2.1, (hagree c).2.2.2]
  exact (reference_eq (rows m c) (mixed m c) (weights m c) (modulation m c)).trans (kernel_eq m c).symm

end Cert.Proof.Last

end
-- ==== Proof.First.Equal.lean ====
/-
  The call `prenorm`: the norm of each token's row, scaled and shifted. The shift and the scale are the first two sixths
  of the modulation of the token's sequence. The stacked rows and the repeated modulations are as in the call `final`.
-/
module

public import proofs.«01_k».proof.Defs
public import proofs.«01_k».proof.Proof.Last.Equal
public import proofs.«01_k».proof.Proof.Gen.PreNormIdeal.Value
public import proofs.«01_k».proof.Proof.Gen.PreNormRefIdeal.Run
public import proofs.«01_k».proof.Proof.Gen.PreNormRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.First

open Cert.PreNormIdeal Cert.PreNormIdeal.Gen Idealize.ShloMosaic Idealize.ShloMosaic.TcCoe Idealize.SL.Sem
open Cert.Proof.Last (normed seqOf slotSeq)
open scoped BigOperators

/-- A block of the kernel. -/
theorem block_apply (x : Vec Ideal S128x4096 .f32) (g : Vec Ideal S1x4096 .f32) (scale shift : Vec Ideal S16x1x4096 .f32)
    (r : Fin 128) (s : Fin 4096) :
    k0_pay1 (F := Ideal) x g scale shift (ix2 r s)
      = normed (fun l => x (ix2 r l)) (g (ix2 0 s)) s * (Ideal.ofBits .f32 0x3F800000#32 + scale (ix3 ⟨r.val / 8, by omega⟩ 0 s))
        + shift (ix3 ⟨r.val / 8, by omega⟩ 0 s) := by
  pointwise [k0_pay1]
  rfl

/-- What both programs compute. -/
def begun (x : Vec Ideal S9216x4096 .f32) (g : Vec Ideal S4096 .f32) (md : Vec Ideal S132x24576 .f32) (r : Fin 9216) (s : Fin 4096) : EReal :=
  normed (fun l => x (ix2 r l)) (g (ix1 s)) s * (Ideal.ofBits .f32 0x3F800000#32 + md (ix2 (seqOf r) ⟨4096 + s.val, by omega⟩))
    + md (ix2 (seqOf r) ⟨s.val, by omega⟩)

variable (m : (ℓ : Loc nD τ sig) → Buf (Elt Ideal) ℓ) (c : Dev nD)

/-- The rows, the norm's weights and the modulation. -/
abbrev rows : Vec Ideal S9216x4096 .f32 := m ((c.tc : Thread nD τ).loc main_arg0)
abbrev weights : Vec Ideal S4096 .f32 := m ((c.tc : Thread nD τ).loc main_arg1)
abbrev modulation : Vec Ideal S132x24576 .f32 := m ((c.tc : Thread nD τ).loc main_arg2)

/-- The kernel's repeated modulations. -/
def repeated (md : Vec Ideal S132x24576 .f32) : Vec Ideal S192x1x24576 .f32 :=
  broadcastInDim S192x1x24576 ![0, 2] bcast_S192x24576_S192x1x24576_0_2
    (concatenate S192x24576 0
      [⟨S64x24576, shapeCast S64x24576 (broadcastInDim S4x16x24576 ![0, 2] bcast_S4x24576_S4x16x24576_0_2
          (extractStridedSlice S4x24576 ![0, 0] md slices_S132x24576_S4x24576_0_0)) shapeCasts_S4x16x24576_S64x24576⟩,
        ⟨S128x24576, extractStridedSlice S128x24576 ![4, 0] md slices_S132x24576_S128x24576_4_0⟩]
      concatenates_S64x24576_S128x24576_S192x24576_d0)

theorem repeated_apply (md : Vec Ideal S132x24576 .f32) (q : Fin 192) (s : Fin 24576) :
    repeated md (ix3 q 0 s) = md (ix2 (slotSeq q) s) := by
  unfold repeated
  pointwise
  by_cases h : q.val < 64
  · rw [dif_pos h]
    exact congrArg (fun a => md (ix2 a s)) (Fin.ext (by show q.val / 16 = if q.val < 64 then q.val / 16 else q.val - 60; rw [if_pos h]))
  · rw [dif_neg h]
    exact congrArg (fun a => md (ix2 a s)) (Fin.ext (by
      show 4 + (q.val - 64) = if q.val < 64 then q.val / 16 else q.val - 60
      rw [if_neg h]
      omega))

theorem modulation_eq : V m c main_v5 = repeated (modulation m c) := by
  dsimp only [V, hostOps0]
  after_results
  rfl

theorem weights_eq : V m c main_v6 = shapeCast S1x4096 (weights m c) shapeCasts_S4096_S1x4096 := by
  dsimp only [V, hostOps0]
  after_results
  rfl

theorem flat_apply (b : Vec Ideal S4096 .f32) (s : Fin 4096) :
    (shapeCast S1x4096 b shapeCasts_S4096_S1x4096 : Vec Ideal S1x4096 .f32) (ix2 0 s) = b (ix1 s) := by
  pointwise

/-- Where the blocks of a grid point lie. -/
theorem places : ∀ t : Fin cfg0.N, win0_0.index t = ![t.val, 0] ∧ win0_1.index t = ![0, 0]
    ∧ win0_2.index t = ![if t.val < 64 then t.val / 16 else t.val - 60, 0, 0] ∧ win0_3.index t = ![if t.val < 64 then t.val / 16 else t.val - 60, 0, 1] ∧ win0_4.index t = ![t.val, 0] := by
  decide +kernel

theorem points : cfg0.N = 72 := by decide +kernel

theorem row_lt (t : Fin cfg0.N) (r : Fin 128) : 128 * t.val + r.val < 9216 := by
  have h : t.val < 72 := lt_of_lt_of_eq t.isLt points
  omega

/-- The row of a block's row. -/
abbrev rowOf (t : Fin cfg0.N) (r : Fin 128) : Fin 9216 := ⟨128 * t.val + r.val, row_lt t r⟩

theorem staged0_apply (t : Fin cfg0.N) (r : Fin 128) (s : Fin 4096) : iblk m c 0 t (ix2 r s) = rows m c (ix2 (rowOf t r) s) := by
  have e := (places t).1
  rw [show rows m c = V m c main_arg0 from (V_main_arg0 m c).symm]
  blk_simp [iblk]
  congr 1
  blk_ext [e]

theorem staged1_apply (t : Fin cfg0.N) (s : Fin 4096) : iblk m c 1 t (ix2 0 s) = weights m c (ix1 s) := by
  refine Eq.trans ?_ ((congrFun (weights_eq m c) (ix2 0 s)).trans (flat_apply _ _))
  have e := (places t).2.1
  blk_simp [iblk]
  congr 1
  blk_ext [e]

/-- A slot of a point's gates in the repeated modulations. -/
abbrev slotOf (t : Fin cfg0.N) (u : Fin 16) : Fin 192 :=
  ⟨16 * (if t.val < 64 then t.val / 16 else t.val - 60) + u.val, by
    have h : t.val < 72 := lt_of_lt_of_eq t.isLt points
    split <;> omega⟩

theorem slot_seq (t : Fin cfg0.N) (r : Fin 128) : slotSeq (slotOf t ⟨r.val / 8, by omega⟩) = seqOf (rowOf t r) := by
  have h : t.val < 72 := lt_of_lt_of_eq t.isLt points
  apply Fin.ext
  show (if 16 * (if t.val < 64 then t.val / 16 else t.val - 60) + r.val / 8 < 64
      then (16 * (if t.val < 64 then t.val / 16 else t.val - 60) + r.val / 8) / 16
      else 16 * (if t.val < 64 then t.val / 16 else t.val - 60) + r.val / 8 - 60)
    = if 128 * t.val + r.val < 8192 then (128 * t.val + r.val) / 2048 else 4 + (128 * t.val + r.val - 8192) / 8
  by_cases ht : t.val < 64
  · rw [if_pos ht, if_pos (by omega), if_pos (by omega)]
    omega
  · rw [if_neg ht, if_neg (by omega), if_neg (by omega)]
    omega

theorem staged2_apply (t : Fin cfg0.N) (r : Fin 128) (s : Fin 4096) :
    iblk m c 2 t (ix3 ⟨r.val / 8, by omega⟩ 0 s) = modulation m c (ix2 (seqOf (rowOf t r)) ⟨s.val, by omega⟩) := by
  rw [← slot_seq]
  refine Eq.trans ?_ ((congrFun (modulation_eq m c) (ix3 (slotOf t ⟨r.val / 8, by omega⟩) 0 ⟨s.val, by omega⟩)).trans
    (repeated_apply _ _ _))
  have e := (places t).2.2.1
  blk_simp [iblk]
  congr 1
  blk_ext [e]

theorem staged3_apply (t : Fin cfg0.N) (r : Fin 128) (s : Fin 4096) :
    iblk m c 3 t (ix3 ⟨r.val / 8, by omega⟩ 0 s) = modulation m c (ix2 (seqOf (rowOf t r)) ⟨4096 + s.val, by omega⟩) := by
  rw [← slot_seq]
  refine Eq.trans ?_ ((congrFun (modulation_eq m c) (ix3 (slotOf t ⟨r.val / 8, by omega⟩) 0 ⟨4096 + s.val, by omega⟩)).trans
    (repeated_apply _ _ _))
  have e := (places t).2.2.2.1
  blk_simp [iblk]
  congr 1
  blk_ext [e]

/-- The kernel's array. -/
theorem kernel_eq : (dats m 0 c).arrAt 4 cfg0.N = fun i => begun (rows m c) (weights m c) (modulation m c) (i 0) (i 1) := by
  refine (dats m 0 c).arrAt_eq_of_covers 4 _ (by decide +kernel) fun t hf y => ?_
  blk_simp
  rw [after0_4]
  frame_out
  obtain ⟨r, s, rfl⟩ : ∃ (r : Fin 128) (s : Fin 4096), y = ix2 r s := ⟨y 0, y 1, eq_ix2 y⟩
  refine (block_apply _ _ _ _ r s).trans ?_
  have e := (places t).2.2.2.2
  have hr : (win0_4.blk t).view.emb (ix2 r s) = (ix2 (rowOf t r) s : S9216x4096.Idx) := by
    blk_ext [e]
  refine Eq.trans ?_ (congrArg (fun j : S9216x4096.Idx => begun (rows m c) (weights m c) (modulation m c) (j 0) (j 1)) hr).symm
  have ho : (fun l => iblk m c 0 t (ix2 r l)) = fun l => rows m c (ix2 (rowOf t r) l) := funext fun l => staged0_apply m c t r l
  exact congrArg₂ (· + ·) (congrArg₂ (· * ·) (congrArg₂ (fun o g => normed o g s) ho (staged1_apply m c t s))
    (congrArg (Ideal.ofBits .f32 0x3F800000#32 + ·) (staged3_apply m c t r s))) (staged2_apply m c t r s)

section reference

open Cert.PreNormRefIdeal.Read

variable (x : Vec Ideal S9216x4096 .f32) (g : Vec Ideal S4096 .f32) (md : Vec Ideal S132x24576 .f32)

theorem rowsP_apply (b : Fin 4) (t : Fin 2048) (s : Fin 4096) :
    val_main_v1 (F := Ideal) x (ix3 b t s) = x (ix2 ⟨2048 * b.val + t.val, by omega⟩ s) := by
  pointwise [val_main_v1, val_main_v0]
  exact congrArg (fun a => x (ix2 a s)) (Fin.ext (by show b.val * 2048 + t.val = 2048 * b.val + t.val; omega))

theorem rowsS_apply (b : Fin 128) (t : Fin 8) (s : Fin 4096) :
    val_main_v27 (F := Ideal) x (ix3 b t s) = x (ix2 ⟨8192 + (8 * b.val + t.val), by omega⟩ s) := by
  pointwise [val_main_v27, val_main_v26]
  exact congrArg (fun a => x (ix2 a s)) (Fin.ext (by show 8192 + (b.val * 8 + t.val) = 8192 + (8 * b.val + t.val); omega))

theorem normedP_apply (b : Fin 4) (t : Fin 2048) (s : Fin 4096) :
    val_main_v19 (F := Ideal) x g (ix3 b t s) = normed (fun l => x (ix2 ⟨2048 * b.val + t.val, by omega⟩ l)) (g (ix1 s)) s := by
  have h := rowsP_apply x b t
  unfold val_main_v19 val_main_v16 val_main_v15 val_main_v14 val_main_v13 val_main_v11 val_main_v9 val_main_v8 val_main_v7
  generalize val_main_v1 (F := Ideal) x = y at h ⊢
  pointwise [val_main_v18, val_main_v17, val_main_v12, val_main_v10, val_main_cst, val_main_cst_0, val_main_cst_1]
  simp only [h]
  rfl

theorem normedS_apply (b : Fin 128) (t : Fin 8) (s : Fin 4096) :
    val_main_v45 (F := Ideal) x g (ix3 b t s) = normed (fun l => x (ix2 ⟨8192 + (8 * b.val + t.val), by omega⟩ l)) (g (ix1 s)) s := by
  have h := rowsS_apply x b t
  unfold val_main_v45 val_main_v42 val_main_v41 val_main_v40 val_main_v39 val_main_v37 val_main_v35 val_main_v34 val_main_v33
  generalize val_main_v27 (F := Ideal) x = y at h ⊢
  pointwise [val_main_v44, val_main_v43, val_main_v38, val_main_v36, val_main_cst_3, val_main_cst_4, val_main_cst_5]
  simp only [h]
  rfl

theorem prompt_apply (b : Fin 4) (t : Fin 2048) (s : Fin 4096) :
    val_main_v25 (F := Ideal) x g md (ix3 b t s) = begun x g md ⟨2048 * b.val + t.val, by omega⟩ s := by
  have h := normedP_apply x g b t s
  unfold val_main_v25 val_main_v23
  generalize val_main_v19 (F := Ideal) x g = y at h ⊢
  pointwise [val_main_v24, val_main_v22, val_main_v21, val_main_v20, val_main_v6, val_main_v5, val_main_v4, val_main_v3, val_main_v2, val_main_cst_2]
  rw [h]
  have e : seqOf ⟨2048 * b.val + t.val, by omega⟩ = ⟨b.val, by omega⟩ := Fin.ext (by
    show (if 2048 * b.val + t.val < 8192 then (2048 * b.val + t.val) / 2048 else 4 + (2048 * b.val + t.val - 8192) / 8) = b.val
    rw [if_pos (by omega)]
    omega)
  unfold begun
  rw [e, Ideal.ofBits_one_f32]

theorem sample_apply (b : Fin 128) (t : Fin 8) (s : Fin 4096) :
    val_main_v51 (F := Ideal) x g md (ix3 b t s) = begun x g md ⟨8192 + (8 * b.val + t.val), by omega⟩ s := by
  have h := normedS_apply x g b t s
  unfold val_main_v51 val_main_v49
  generalize val_main_v45 (F := Ideal) x g = y at h ⊢
  pointwise [val_main_v50, val_main_v48, val_main_v47, val_main_v46, val_main_v32, val_main_v31, val_main_v30, val_main_v29, val_main_v28, val_main_cst_6]
  rw [h]
  have e : seqOf ⟨8192 + (8 * b.val + t.val), by omega⟩ = ⟨4 + b.val, by omega⟩ := Fin.ext (by
    show (if 8192 + (8 * b.val + t.val) < 8192 then (8192 + (8 * b.val + t.val)) / 2048
      else 4 + (8192 + (8 * b.val + t.val) - 8192) / 8) = 4 + b.val
    rw [if_neg (by omega)]
    omega)
  unfold begun
  rw [e, Ideal.ofBits_one_f32]

/-- The reference's array. -/
theorem begun_reference : val_main_v55 (F := Ideal) x g md = fun i => begun x g md (i 0) (i 1) := by
  funext i
  obtain ⟨r, s, rfl⟩ : ∃ (r : Fin 9216) (s : Fin 4096), i = ix2 r s := ⟨i 0, i 1, eq_ix2 i⟩
  show _ = begun x g md r s
  have hp := prompt_apply x g md
  have hs := sample_apply x g md
  unfold val_main_v55 val_main_v54 val_main_v52 val_main_v53
  generalize val_main_v25 (F := Ideal) x g md = y at hp ⊢
  generalize val_main_v51 (F := Ideal) x g md = z at hs ⊢
  pointwise
  by_cases h : r.val < 8192
  · rw [dif_pos h, hp]
    exact congrArg (fun a => begun x g md a s) (Fin.ext (by show 2048 * (r.val / 2048) + r.val % 2048 = r.val; omega))
  · rw [dif_neg h, hs]
    exact congrArg (fun a => begun x g md a s) (Fin.ext (by
      show 8192 + (8 * ((r.val - 8192) / 8) + (r.val - 8192) % 8) = r.val
      omega))

end reference

/-- The reference runs to its end and leaves its arguments and the semaphores as they were. -/
theorem frame_reference : Cert.quiescent_PreNormRefIdeal := fun m ρ _ =>
  (θ_run Cert.PreNormRefIdeal.defs _ _).mono (fun r h => ⟨fun c => (h c).2, sem_eq_zero_of_no_sems (by decide) r.2⟩)
    (Cert.PreNormRefIdeal.Value.run (F := Ideal) m ρ)

/-- Both end with the same rows. -/
theorem algebraic : Cert.algebraic_PreNormIdeal_PreNormRefIdeal := by
  intro m ρ m' ρ' _ hagree
  refine ⟨fun c => (dats m 0 c).arrAt 4 cfg0.N, Cert.PreNormIdeal.Value.run_blocks (F := Ideal) m ρ, ?_⟩
  refine (θ_run _ _ _).mono (fun _ h c => ⟨(h c).1.trans ?_, (h c).2⟩) (Cert.PreNormRefIdeal.Value.run (F := Ideal) m' ρ')
  rw [(hagree c).1, (hagree c).2.1, (hagree c).2.2]
  exact (begun_reference (rows m c) (weights m c) (modulation m c)).trans (kernel_eq m c).symm

end Cert.Proof.First

end
-- ==== Proof.Middle.Equal.lean ====
/-
  The call `postmix`: each token's row plus the gated norm of what the mixing gave for it, and the norm of that, scaled and
  shifted for the channel mixer. The gate, the shift and the scale are the third, fourth and fifth sixths of the modulation
  of the token's sequence. The stacked rows and the repeated modulations are as in the call `final`.
-/
module

public import proofs.«01_k».proof.Defs
public import proofs.«01_k».proof.Proof.Last.Equal
public import proofs.«01_k».proof.Proof.Gen.PostMixIdeal.Value
public import proofs.«01_k».proof.Proof.Gen.PostMixRefIdeal.Run
public import proofs.«01_k».proof.Proof.Gen.PostMixRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Middle

open Cert.PostMixIdeal Cert.PostMixIdeal.Gen Idealize.ShloMosaic Idealize.ShloMosaic.TcCoe Idealize.SL.Sem
open Cert.Proof.Last (normed seqOf slotSeq)
open scoped BigOperators

/-- A block of the kernel's first result, -/
theorem first_apply (x : Vec Ideal S128x4096 .f32) (gate : Vec Ideal S16x1x4096 .f32) (o : Vec Ideal S128x4096 .f32)
    (g : Vec Ideal S1x4096 .f32) (r : Fin 128) (s : Fin 4096) :
    k0_pay2 (F := Ideal) x gate o g (ix2 r s)
      = x (ix2 r s) + gate (ix3 ⟨r.val / 8, by omega⟩ 0 s) * normed (fun l => o (ix2 r l)) (g (ix2 0 s)) s := by
  pointwise [k0_pay2]
  rfl

/-- the norm of it, -/
theorem norm_apply (x : Vec Ideal S128x4096 .f32) (gate : Vec Ideal S16x1x4096 .f32) (o : Vec Ideal S128x4096 .f32)
    (g g' : Vec Ideal S1x4096 .f32) (r : Fin 128) (s : Fin 4096) :
    k0_pay3 (F := Ideal) x gate o g g' (ix2 r s) = normed (fun l => k0_pay2 (F := Ideal) x gate o g (ix2 r l)) (g' (ix2 0 s)) s := by
  unfold k0_pay3
  generalize k0_pay2 (F := Ideal) x gate o g = y
  pointwise
  rfl

/-- and a block of the second. -/
theorem second_apply (y : FVec Ideal S128x4096 .f32) (scale shift : Vec Ideal S16x1x4096 .f32) (r : Fin 128) (s : Fin 4096) :
    k0_pay1 (F := Ideal) y scale shift (ix2 r s)
      = y (ix2 r s) * (Ideal.ofBits .f32 0x3F800000#32 + scale (ix3 ⟨r.val / 8, by omega⟩ 0 s))
        + shift (ix3 ⟨r.val / 8, by omega⟩ 0 s) := by
  pointwise [k0_pay1]

/-- What both programs compute: the rows after the mixing, -/
def passed (x o : Vec Ideal S9216x4096 .f32) (g : Vec Ideal S4096 .f32) (md : Vec Ideal S132x24576 .f32) (r : Fin 9216) (s : Fin 4096) : EReal :=
  x (ix2 r s) + md (ix2 (seqOf r) ⟨8192 + s.val, by omega⟩) * normed (fun l => o (ix2 r l)) (g (ix1 s)) s

/-- and what the channel mixer gets. -/
def given (x o : Vec Ideal S9216x4096 .f32) (g g' : Vec Ideal S4096 .f32) (md : Vec Ideal S132x24576 .f32) (r : Fin 9216) (s : Fin 4096) : EReal :=
  normed (passed x o g md r) (g' (ix1 s)) s * (Ideal.ofBits .f32 0x3F800000#32 + md (ix2 (seqOf r) ⟨16384 + s.val, by omega⟩))
    + md (ix2 (seqOf r) ⟨12288 + s.val, by omega⟩)

variable (m : (ℓ : Loc nD τ sig) → Buf (Elt Ideal) ℓ) (c : Dev nD)

/-- The rows, what the mixing gave for them, -/
abbrev rows : Vec Ideal S9216x4096 .f32 := m ((c.tc : Thread nD τ).loc main_arg0)
abbrev mixed : Vec Ideal S9216x4096 .f32 := m ((c.tc : Thread nD τ).loc main_arg1)
/-- the weights of the two norms and the modulation. -/
abbrev weights : Vec Ideal S4096 .f32 := m ((c.tc : Thread nD τ).loc main_arg2)
abbrev weights₂ : Vec Ideal S4096 .f32 := m ((c.tc : Thread nD τ).loc main_arg3)
abbrev modulation : Vec Ideal S132x24576 .f32 := m ((c.tc : Thread nD τ).loc main_arg4)

/-- The kernel's repeated modulations. -/
def repeated (md : Vec Ideal S132x24576 .f32) : Vec Ideal S192x1x24576 .f32 :=
  broadcastInDim S192x1x24576 ![0, 2] bcast_S192x24576_S192x1x24576_0_2
    (concatenate S192x24576 0
      [⟨S64x24576, shapeCast S64x24576 (broadcastInDim S4x16x24576 ![0, 2] bcast_S4x24576_S4x16x24576_0_2
          (extractStridedSlice S4x24576 ![0, 0] md slices_S132x24576_S4x24576_0_0)) shapeCasts_S4x16x24576_S64x24576⟩,
        ⟨S128x24576, extractStridedSlice S128x24576 ![4, 0] md slices_S132x24576_S128x24576_4_0⟩]
      concatenates_S64x24576_S128x24576_S192x24576_d0)

theorem repeated_apply (md : Vec Ideal S132x24576 .f32) (q : Fin 192) (s : Fin 24576) :
    repeated md (ix3 q 0 s) = md (ix2 (slotSeq q) s) := by
  unfold repeated
  pointwise
  by_cases h : q.val < 64
  · rw [dif_pos h]
    exact congrArg (fun a => md (ix2 a s)) (Fin.ext (by show q.val / 16 = if q.val < 64 then q.val / 16 else q.val - 60; rw [if_pos h]))
  · rw [dif_neg h]
    exact congrArg (fun a => md (ix2 a s)) (Fin.ext (by
      show 4 + (q.val - 64) = if q.val < 64 then q.val / 16 else q.val - 60
      rw [if_neg h]
      omega))

theorem modulation_eq : V m c main_v5 = repeated (modulation m c) := by
  dsimp only [V, hostOps0]
  after_results
  rfl

theorem weights_eq : V m c main_v6 = shapeCast S1x4096 (weights m c) shapeCasts_S4096_S1x4096 := by
  dsimp only [V, hostOps0]
  after_results
  rfl

theorem weights₂_eq : V m c main_v7 = shapeCast S1x4096 (weights₂ m c) shapeCasts_S4096_S1x4096 := by
  dsimp only [V, hostOps0]
  after_results
  rfl

theorem flat_apply (b : Vec Ideal S4096 .f32) (s : Fin 4096) :
    (shapeCast S1x4096 b shapeCasts_S4096_S1x4096 : Vec Ideal S1x4096 .f32) (ix2 0 s) = b (ix1 s) := by
  pointwise

/-- Where the blocks of a grid point lie. -/
theorem places : ∀ t : Fin cfg0.N, win0_0.index t = ![t.val, 0] ∧ win0_1.index t = ![t.val, 0] ∧ win0_2.index t = ![0, 0]
    ∧ win0_3.index t = ![0, 0] ∧ win0_4.index t = ![if t.val < 64 then t.val / 16 else t.val - 60, 0, 2] ∧ win0_5.index t = ![if t.val < 64 then t.val / 16 else t.val - 60, 0, 3]
    ∧ win0_6.index t = ![if t.val < 64 then t.val / 16 else t.val - 60, 0, 4] ∧ win0_7.index t = ![t.val, 0] ∧ win0_8.index t = ![t.val, 0] := by
  decide +kernel

theorem points : cfg0.N = 72 := by decide +kernel

theorem row_lt (t : Fin cfg0.N) (r : Fin 128) : 128 * t.val + r.val < 9216 := by
  have h : t.val < 72 := lt_of_lt_of_eq t.isLt points
  omega

/-- The row of a block's row. -/
abbrev rowOf (t : Fin cfg0.N) (r : Fin 128) : Fin 9216 := ⟨128 * t.val + r.val, row_lt t r⟩

theorem staged0_apply (t : Fin cfg0.N) (r : Fin 128) (s : Fin 4096) : iblk m c 0 t (ix2 r s) = rows m c (ix2 (rowOf t r) s) := by
  have e := (places t).1
  rw [show rows m c = V m c main_arg0 from (V_main_arg0 m c).symm]
  blk_simp [iblk]
  congr 1
  blk_ext [e]

theorem staged1_apply (t : Fin cfg0.N) (r : Fin 128) (s : Fin 4096) : iblk m c 1 t (ix2 r s) = mixed m c (ix2 (rowOf t r) s) := by
  have e := (places t).2.1
  rw [show mixed m c = V m c main_arg1 from (V_main_arg1 m c).symm]
  blk_simp [iblk]
  congr 1
  blk_ext [e]

theorem staged2_apply (t : Fin cfg0.N) (s : Fin 4096) : iblk m c 2 t (ix2 0 s) = weights m c (ix1 s) := by
  refine Eq.trans ?_ ((congrFun (weights_eq m c) (ix2 0 s)).trans (flat_apply _ _))
  have e := (places t).2.2.1
  blk_simp [iblk]
  congr 1
  blk_ext [e]

theorem staged3_apply (t : Fin cfg0.N) (s : Fin 4096) : iblk m c 3 t (ix2 0 s) = weights₂ m c (ix1 s) := by
  refine Eq.trans ?_ ((congrFun (weights₂_eq m c) (ix2 0 s)).trans (flat_apply _ _))
  have e := (places t).2.2.2.1
  blk_simp [iblk]
  congr 1
  blk_ext [e]

/-- A slot of a point's gates in the repeated modulations. -/
abbrev slotOf (t : Fin cfg0.N) (u : Fin 16) : Fin 192 :=
  ⟨16 * (if t.val < 64 then t.val / 16 else t.val - 60) + u.val, by
    have h : t.val < 72 := lt_of_lt_of_eq t.isLt points
    split <;> omega⟩

theorem slot_seq (t : Fin cfg0.N) (r : Fin 128) : slotSeq (slotOf t ⟨r.val / 8, by omega⟩) = seqOf (rowOf t r) := by
  have h : t.val < 72 := lt_of_lt_of_eq t.isLt points
  apply Fin.ext
  show (if 16 * (if t.val < 64 then t.val / 16 else t.val - 60) + r.val / 8 < 64
      then (16 * (if t.val < 64 then t.val / 16 else t.val - 60) + r.val / 8) / 16
      else 16 * (if t.val < 64 then t.val / 16 else t.val - 60) + r.val / 8 - 60)
    = if 128 * t.val + r.val < 8192 then (128 * t.val + r.val) / 2048 else 4 + (128 * t.val + r.val - 8192) / 8
  by_cases ht : t.val < 64
  · rw [if_pos ht, if_pos (by omega), if_pos (by omega)]
    omega
  · rw [if_neg ht, if_neg (by omega), if_neg (by omega)]
    omega

theorem staged4_apply (t : Fin cfg0.N) (r : Fin 128) (s : Fin 4096) :
    iblk m c 4 t (ix3 ⟨r.val / 8, by omega⟩ 0 s) = modulation m c (ix2 (seqOf (rowOf t r)) ⟨8192 + s.val, by omega⟩) := by
  rw [← slot_seq]
  refine Eq.trans ?_ ((congrFun (modulation_eq m c) (ix3 (slotOf t ⟨r.val / 8, by omega⟩) 0 ⟨8192 + s.val, by omega⟩)).trans
    (repeated_apply _ _ _))
  have e := (places t).2.2.2.2.1
  blk_simp [iblk]
  congr 1
  blk_ext [e]

theorem staged5_apply (t : Fin cfg0.N) (r : Fin 128) (s : Fin 4096) :
    iblk m c 5 t (ix3 ⟨r.val / 8, by omega⟩ 0 s) = modulation m c (ix2 (seqOf (rowOf t r)) ⟨12288 + s.val, by omega⟩) := by
  rw [← slot_seq]
  refine Eq.trans ?_ ((congrFun (modulation_eq m c) (ix3 (slotOf t ⟨r.val / 8, by omega⟩) 0 ⟨12288 + s.val, by omega⟩)).trans
    (repeated_apply _ _ _))
  have e := (places t).2.2.2.2.2.1
  blk_simp [iblk]
  congr 1
  blk_ext [e]

theorem staged6_apply (t : Fin cfg0.N) (r : Fin 128) (s : Fin 4096) :
    iblk m c 6 t (ix3 ⟨r.val / 8, by omega⟩ 0 s) = modulation m c (ix2 (seqOf (rowOf t r)) ⟨16384 + s.val, by omega⟩) := by
  rw [← slot_seq]
  refine Eq.trans ?_ ((congrFun (modulation_eq m c) (ix3 (slotOf t ⟨r.val / 8, by omega⟩) 0 ⟨16384 + s.val, by omega⟩)).trans
    (repeated_apply _ _ _))
  have e := (places t).2.2.2.2.2.2.1
  blk_simp [iblk]
  congr 1
  blk_ext [e]

/-- A row of a point's first result. -/
theorem passed_point (t : Fin cfg0.N) (r : Fin 128) (s : Fin 4096) :
    k0_pay2 (F := Ideal) (iblk m c 0 t) (iblk m c 4 t) (iblk m c 1 t) (iblk m c 2 t) (ix2 r s)
      = passed (rows m c) (mixed m c) (weights m c) (modulation m c) (rowOf t r) s := by
  refine (first_apply _ _ _ _ r s).trans ?_
  have ho : (fun l => iblk m c 1 t (ix2 r l)) = fun l => mixed m c (ix2 (rowOf t r) l) := funext fun l => staged1_apply m c t r l
  exact congrArg₂ (· + ·) (staged0_apply m c t r s) (congrArg₂ (· * ·) (staged4_apply m c t r s)
    (congrArg₂ (fun o g => normed o g s) ho (staged2_apply m c t s)))

/-- The kernel's two arrays. -/
theorem passed_kernel : (dats m 0 c).arrAt 7 cfg0.N = fun i => passed (rows m c) (mixed m c) (weights m c) (modulation m c) (i 0) (i 1) := by
  refine (dats m 0 c).arrAt_eq_of_covers 7 _ (by decide +kernel) fun t hf y => ?_
  blk_simp
  rw [after0_7]
  frame_out
  obtain ⟨r, s, rfl⟩ : ∃ (r : Fin 128) (s : Fin 4096), y = ix2 r s := ⟨y 0, y 1, eq_ix2 y⟩
  refine (passed_point m c t r s).trans ?_
  have e := (places t).2.2.2.2.2.2.2.1
  have hr : (win0_7.blk t).view.emb (ix2 r s) = (ix2 (rowOf t r) s : S9216x4096.Idx) := by
    blk_ext [e]
  refine Eq.trans ?_ (congrArg (fun j : S9216x4096.Idx => passed (rows m c) (mixed m c) (weights m c) (modulation m c) (j 0) (j 1)) hr).symm
  rfl

theorem given_kernel : (dats m 0 c).arrAt 8 cfg0.N = fun i => given (rows m c) (mixed m c) (weights m c) (weights₂ m c) (modulation m c) (i 0) (i 1) := by
  refine (dats m 0 c).arrAt_eq_of_covers 8 _ (by decide +kernel) fun t hf y => ?_
  blk_simp
  rw [after0_8]
  frame_out
  obtain ⟨r, s, rfl⟩ : ∃ (r : Fin 128) (s : Fin 4096), y = ix2 r s := ⟨y 0, y 1, eq_ix2 y⟩
  refine (second_apply _ _ _ r s).trans ?_
  have e := (places t).2.2.2.2.2.2.2.2
  have hr : (win0_8.blk t).view.emb (ix2 r s) = (ix2 (rowOf t r) s : S9216x4096.Idx) := by
    blk_ext [e]
  refine Eq.trans ?_ (congrArg (fun j : S9216x4096.Idx => given (rows m c) (mixed m c) (weights m c) (weights₂ m c) (modulation m c) (j 0) (j 1)) hr).symm
  refine congrArg₂ (· + ·) (congrArg₂ (· * ·) ((norm_apply _ _ _ _ _ r s).trans ?_)
    (congrArg (Ideal.ofBits .f32 0x3F800000#32 + ·) (staged6_apply m c t r s))) (staged5_apply m c t r s)
  exact congrArg₂ (fun o g => normed o g s) (funext fun l => passed_point m c t r l) (staged3_apply m c t s)

section reference

open Cert.PostMixRefIdeal.Read

variable (x o : Vec Ideal S9216x4096 .f32) (g g' : Vec Ideal S4096 .f32) (md : Vec Ideal S132x24576 .f32)

theorem rowsP_apply (b : Fin 4) (t : Fin 2048) (s : Fin 4096) :
    val_main_v1 (F := Ideal) x (ix3 b t s) = x (ix2 ⟨2048 * b.val + t.val, by omega⟩ s) := by
  pointwise [val_main_v1, val_main_v0]
  exact congrArg (fun a => x (ix2 a s)) (Fin.ext (by show b.val * 2048 + t.val = 2048 * b.val + t.val; omega))

theorem rowsS_apply (b : Fin 128) (t : Fin 8) (s : Fin 4096) :
    val_main_v47 (F := Ideal) x (ix3 b t s) = x (ix2 ⟨8192 + (8 * b.val + t.val), by omega⟩ s) := by
  pointwise [val_main_v47, val_main_v46]
  exact congrArg (fun a => x (ix2 a s)) (Fin.ext (by show 8192 + (b.val * 8 + t.val) = 8192 + (8 * b.val + t.val); omega))

theorem mixedP_apply (b : Fin 4) (t : Fin 2048) (s : Fin 4096) : val_main_v3 (F := Ideal) o (ix3 b t s) = o (ix2 ⟨2048 * b.val + t.val, by omega⟩ s) := rowsP_apply o b t s

theorem mixedS_apply (b : Fin 128) (t : Fin 8) (s : Fin 4096) : val_main_v49 (F := Ideal) o (ix3 b t s) = o (ix2 ⟨8192 + (8 * b.val + t.val), by omega⟩ s) := rowsS_apply o b t s

theorem normedP_apply (b : Fin 4) (t : Fin 2048) (s : Fin 4096) :
    val_main_v23 (F := Ideal) o g (ix3 b t s) = normed (fun l => o (ix2 ⟨2048 * b.val + t.val, by omega⟩ l)) (g (ix1 s)) s := by
  have h := mixedP_apply o b t
  unfold val_main_v23 val_main_v20 val_main_v19 val_main_v18 val_main_v17 val_main_v15 val_main_v13 val_main_v12 val_main_v11
  generalize val_main_v3 (F := Ideal) o = y at h ⊢
  pointwise [val_main_v22, val_main_v21, val_main_v16, val_main_v14, val_main_cst, val_main_cst_0, val_main_cst_1]
  simp only [h]
  rfl

theorem normedS_apply (b : Fin 128) (t : Fin 8) (s : Fin 4096) :
    val_main_v69 (F := Ideal) o g (ix3 b t s) = normed (fun l => o (ix2 ⟨8192 + (8 * b.val + t.val), by omega⟩ l)) (g (ix1 s)) s := by
  have h := mixedS_apply o b t
  unfold val_main_v69 val_main_v66 val_main_v65 val_main_v64 val_main_v63 val_main_v61 val_main_v59 val_main_v58 val_main_v57
  generalize val_main_v49 (F := Ideal) o = y at h ⊢
  pointwise [val_main_v68, val_main_v67, val_main_v62, val_main_v60, val_main_cst_6, val_main_cst_7, val_main_cst_8]
  simp only [h]
  rfl

theorem passedP_apply (b : Fin 4) (t : Fin 2048) (s : Fin 4096) :
    val_main_v26 (F := Ideal) x o g md (ix3 b t s) = passed x o g md ⟨2048 * b.val + t.val, by omega⟩ s := by
  have h := normedP_apply o g b t s
  have hx := rowsP_apply x b t s
  unfold val_main_v26 val_main_v25
  generalize val_main_v23 (F := Ideal) o g = y at h ⊢
  generalize val_main_v1 (F := Ideal) x = z at hx ⊢
  pointwise [val_main_v24, val_main_v6, val_main_v5, val_main_v4]
  rw [h, hx]
  have e : seqOf ⟨2048 * b.val + t.val, by omega⟩ = ⟨b.val, by omega⟩ := Fin.ext (by
    show (if 2048 * b.val + t.val < 8192 then (2048 * b.val + t.val) / 2048 else 4 + (2048 * b.val + t.val - 8192) / 8) = b.val
    rw [if_pos (by omega)]
    omega)
  unfold passed
  rw [e]

theorem passedS_apply (b : Fin 128) (t : Fin 8) (s : Fin 4096) :
    val_main_v72 (F := Ideal) x o g md (ix3 b t s) = passed x o g md ⟨8192 + (8 * b.val + t.val), by omega⟩ s := by
  have h := normedS_apply o g b t s
  have hx := rowsS_apply x b t s
  unfold val_main_v72 val_main_v71
  generalize val_main_v69 (F := Ideal) o g = y at h ⊢
  generalize val_main_v47 (F := Ideal) x = z at hx ⊢
  pointwise [val_main_v70, val_main_v52, val_main_v51, val_main_v50]
  rw [h, hx]
  have e : seqOf ⟨8192 + (8 * b.val + t.val), by omega⟩ = ⟨4 + b.val, by omega⟩ := Fin.ext (by
    show (if 8192 + (8 * b.val + t.val) < 8192 then (8192 + (8 * b.val + t.val)) / 2048
      else 4 + (8192 + (8 * b.val + t.val) - 8192) / 8) = 4 + b.val
    rw [if_neg (by omega)]
    omega)
  unfold passed
  rw [e]

theorem againP_apply (b : Fin 4) (t : Fin 2048) (s : Fin 4096) :
    val_main_v39 (F := Ideal) x o g g' md (ix3 b t s) = normed (fun l => passed x o g md ⟨2048 * b.val + t.val, by omega⟩ l) (g' (ix1 s)) s := by
  have h := passedP_apply x o g md b t
  unfold val_main_v39 val_main_v36 val_main_v35 val_main_v34 val_main_v33 val_main_v31 val_main_v29 val_main_v28 val_main_v27
  generalize val_main_v26 (F := Ideal) x o g md = y at h ⊢
  pointwise [val_main_v38, val_main_v37, val_main_v32, val_main_v30, val_main_cst_2, val_main_cst_3, val_main_cst_4]
  simp only [h]
  rfl

theorem againS_apply (b : Fin 128) (t : Fin 8) (s : Fin 4096) :
    val_main_v85 (F := Ideal) x o g g' md (ix3 b t s) = normed (fun l => passed x o g md ⟨8192 + (8 * b.val + t.val), by omega⟩ l) (g' (ix1 s)) s := by
  have h := passedS_apply x o g md b t
  unfold val_main_v85 val_main_v82 val_main_v81 val_main_v80 val_main_v79 val_main_v77 val_main_v75 val_main_v74 val_main_v73
  generalize val_main_v72 (F := Ideal) x o g md = y at h ⊢
  pointwise [val_main_v84, val_main_v83, val_main_v78, val_main_v76, val_main_cst_9, val_main_cst_10, val_main_cst_11]
  simp only [h]
  rfl

theorem givenP_apply (b : Fin 4) (t : Fin 2048) (s : Fin 4096) :
    val_main_v45 (F := Ideal) x o g g' md (ix3 b t s) = given x o g g' md ⟨2048 * b.val + t.val, by omega⟩ s := by
  have h := againP_apply x o g g' md b t s
  unfold val_main_v45 val_main_v43
  generalize val_main_v39 (F := Ideal) x o g g' md = y at h ⊢
  pointwise [val_main_v44, val_main_v42, val_main_v41, val_main_v40, val_main_v10, val_main_v9, val_main_v8, val_main_v7, val_main_v4, val_main_cst_5]
  rw [h]
  have e : seqOf ⟨2048 * b.val + t.val, by omega⟩ = ⟨b.val, by omega⟩ := Fin.ext (by
    show (if 2048 * b.val + t.val < 8192 then (2048 * b.val + t.val) / 2048 else 4 + (2048 * b.val + t.val - 8192) / 8) = b.val
    rw [if_pos (by omega)]
    omega)
  unfold given
  rw [e, Ideal.ofBits_one_f32]

theorem givenS_apply (b : Fin 128) (t : Fin 8) (s : Fin 4096) :
    val_main_v91 (F := Ideal) x o g g' md (ix3 b t s) = given x o g g' md ⟨8192 + (8 * b.val + t.val), by omega⟩ s := by
  have h := againS_apply x o g g' md b t s
  unfold val_main_v91 val_main_v89
  generalize val_main_v85 (F := Ideal) x o g g' md = y at h ⊢
  pointwise [val_main_v90, val_main_v88, val_main_v87, val_main_v86, val_main_v56, val_main_v55, val_main_v54, val_main_v53, val_main_v50, val_main_cst_12]
  rw [h]
  have e : seqOf ⟨8192 + (8 * b.val + t.val), by omega⟩ = ⟨4 + b.val, by omega⟩ := Fin.ext (by
    show (if 8192 + (8 * b.val + t.val) < 8192 then (8192 + (8 * b.val + t.val)) / 2048
      else 4 + (8192 + (8 * b.val + t.val) - 8192) / 8) = 4 + b.val
    rw [if_neg (by omega)]
    omega)
  unfold given
  rw [e, Ideal.ofBits_one_f32]

/-- The reference's two arrays. -/
theorem passed_reference : val_main_v94 (F := Ideal) x o g md = fun i => passed x o g md (i 0) (i 1) := by
  funext i
  obtain ⟨r, s, rfl⟩ : ∃ (r : Fin 9216) (s : Fin 4096), i = ix2 r s := ⟨i 0, i 1, eq_ix2 i⟩
  show _ = passed x o g md r s
  have hp := passedP_apply x o g md
  have hs := passedS_apply x o g md
  unfold val_main_v94 val_main_v92 val_main_v93
  generalize val_main_v26 (F := Ideal) x o g md = y at hp ⊢
  generalize val_main_v72 (F := Ideal) x o g md = z at hs ⊢
  pointwise
  by_cases h : r.val < 8192
  · rw [dif_pos h, hp]
    exact congrArg (fun a => passed x o g md a s) (Fin.ext (by show 2048 * (r.val / 2048) + r.val % 2048 = r.val; omega))
  · rw [dif_neg h, hs]
    exact congrArg (fun a => passed x o g md a s) (Fin.ext (by
      show 8192 + (8 * ((r.val - 8192) / 8) + (r.val - 8192) % 8) = r.val
      omega))

theorem given_reference : val_main_v98 (F := Ideal) x o g g' md = fun i => given x o g g' md (i 0) (i 1) := by
  funext i
  obtain ⟨r, s, rfl⟩ : ∃ (r : Fin 9216) (s : Fin 4096), i = ix2 r s := ⟨i 0, i 1, eq_ix2 i⟩
  show _ = given x o g g' md r s
  have hp := givenP_apply x o g g' md
  have hs := givenS_apply x o g g' md
  unfold val_main_v98 val_main_v97 val_main_v95 val_main_v96
  generalize val_main_v45 (F := Ideal) x o g g' md = y at hp ⊢
  generalize val_main_v91 (F := Ideal) x o g g' md = z at hs ⊢
  pointwise
  by_cases h : r.val < 8192
  · rw [dif_pos h, hp]
    exact congrArg (fun a => given x o g g' md a s) (Fin.ext (by show 2048 * (r.val / 2048) + r.val % 2048 = r.val; omega))
  · rw [dif_neg h, hs]
    exact congrArg (fun a => given x o g g' md a s) (Fin.ext (by
      show 8192 + (8 * ((r.val - 8192) / 8) + (r.val - 8192) % 8) = r.val
      omega))

end reference

/-- The reference runs to its end and leaves its arguments and the semaphores as they were. -/
theorem frame_reference : Cert.quiescent_PostMixRefIdeal := fun m ρ _ =>
  (θ_run Cert.PostMixRefIdeal.defs _ _).mono (fun r h => ⟨fun c => (h c).2.2, sem_eq_zero_of_no_sems (by decide) r.2⟩)
    (Cert.PostMixRefIdeal.Value.run (F := Ideal) m ρ)

/-- Both end with the same rows. -/
theorem algebraic : Cert.algebraic_PostMixIdeal_PostMixRefIdeal := by
  intro m ρ m' ρ' _ hagree
  refine ⟨fun c => (dats m 0 c).arrAt 7 cfg0.N, fun c => (dats m 0 c).arrAt 8 cfg0.N,
    Cert.PostMixIdeal.Value.run_blocks (F := Ideal) m ρ, ?_⟩
  refine (θ_run _ _ _).mono (fun _ h c => ⟨(h c).1.trans ?_, (h c).2.1.trans ?_, (h c).2.2⟩)
    (Cert.PostMixRefIdeal.Value.run (F := Ideal) m' ρ')
  · rw [(hagree c).1, (hagree c).2.1, (hagree c).2.2.1, (hagree c).2.2.2.2]
    exact (passed_reference (rows m c) (mixed m c) (weights m c) (modulation m c)).trans (passed_kernel m c).symm
  · refine (Cert.PostMixRefIdeal.Read.val_main_v98_eq _ _).trans ?_
    rw [(hagree c).1, (hagree c).2.1, (hagree c).2.2.1, (hagree c).2.2.2.1, (hagree c).2.2.2.2]
    exact (given_reference (rows m c) (mixed m c) (weights m c) (weights₂ m c) (modulation m c)).trans (given_kernel m c).symm

end Cert.Proof.Middle

end
-- ==== Proof.Products.Ada.lean ====
/-
  The call `ada`: the conditioning of the prompt and of the samples, through the swish, times the modulation weights,
  plus the bias. The kernel joins the two conditionings into one array of rows and makes 512 columns at a time; the
  reference makes the two products apart and joins them. An element is the same sum.
-/
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Products.Ada

open Cert.AdaIdeal Cert.AdaIdeal.Gen Idealize.ShloMosaic Idealize.ShloMosaic.TcCoe Idealize.SL.Sem
open scoped BigOperators

/-- The swish of a number. -/
def swish (x : EReal) : EReal := x * Ideal.logistic x

/-- A block of the product. -/
theorem block_apply (x : Vec Ideal S132x4096 .f32) (w : Vec Ideal S4096x512 .f32) (b : Vec Ideal S1x512 .f32) (r : Fin 132) (s : Fin 512) :
    k0_pay1 x w b (ix2 r s) = (∑ k : Fin 4096, swish (x (ix2 r k)) * w (ix2 k s)) + b (ix2 0 s) := by
  pointwise [k0_pay1]
  rfl

/-- The rows of both conditionings, the prompt's first. -/
def joined (cp : Vec Ideal S4x4096 .f32) (cs : Vec Ideal S128x4096 .f32) (r : Fin 132) (k : Fin 4096) : EReal :=
  if h : r.val < 4 then cp (ix2 ⟨r.val, h⟩ k) else cs (ix2 ⟨r.val - 4, by omega⟩ k)

/-- What both programs compute. -/
def modulation (cp : Vec Ideal S4x4096 .f32) (cs : Vec Ideal S128x4096 .f32) (w : Vec Ideal S4096x24576 .f32) (b : Vec Ideal S24576 .f32)
    (r : Fin 132) (s : Fin 24576) : EReal :=
  (∑ k : Fin 4096, swish (joined cp cs r k) * w (ix2 k s)) + b (ix1 s)

theorem joined_apply (cp : Vec Ideal S4x4096 .f32) (cs : Vec Ideal S128x4096 .f32) (r : Fin 132) (k : Fin 4096) :
    (concatenate S132x4096 0 [⟨S4x4096, cp⟩, ⟨S128x4096, cs⟩] concatenates_S4x4096_S128x4096_S132x4096_d0 : Vec Ideal S132x4096 .f32) (ix2 r k)
      = joined cp cs r k := by
  pointwise
  rfl

theorem flat_apply (b : Vec Ideal S24576 .f32) (s : Fin 24576) :
    (shapeCast S1x24576 b shapeCasts_S24576_S1x24576 : Vec Ideal S1x24576 .f32) (ix2 0 s) = b (ix1 s) := by
  pointwise

variable (m : (ℓ : Loc nD τ sig) → Buf (Elt Ideal) ℓ) (c : Dev nD)

/-- The prompt's conditioning, the samples', -/
abbrev condP : Vec Ideal S4x4096 .f32 := m ((c.tc : Thread nD τ).loc main_arg0)
abbrev condS : Vec Ideal S128x4096 .f32 := m ((c.tc : Thread nD τ).loc main_arg1)
/-- the weights and the bias. -/
abbrev weights : Vec Ideal S4096x24576 .f32 := m ((c.tc : Thread nD τ).loc main_arg2)
abbrev bias : Vec Ideal S24576 .f32 := m ((c.tc : Thread nD τ).loc main_arg3)

theorem rows_eq : V m c main_v0
    = concatenate S132x4096 0 [⟨S4x4096, condP m c⟩, ⟨S128x4096, condS m c⟩] concatenates_S4x4096_S128x4096_S132x4096_d0 := by
  dsimp only [V, hostOps0]
  after_results

theorem bias_eq : V m c main_v1 = shapeCast S1x24576 (bias m c) shapeCasts_S24576_S1x24576 := by
  dsimp only [V, hostOps0]
  after_results
  rfl

/-- Where the blocks of a grid point lie. -/
theorem places : ∀ t : Fin cfg0.N, win0_0.index t = ![0, 0] ∧ win0_1.index t = ![0, t.val] ∧ win0_2.index t = ![0, t.val]
    ∧ win0_3.index t = ![0, t.val] := by
  decide +kernel

theorem points : cfg0.N = 48 := by decide +kernel

theorem column_lt (t : Fin cfg0.N) (s : Fin 512) : 512 * t.val + s.val < 24576 := by
  have h : t.val < 48 := lt_of_lt_of_eq t.isLt points
  omega

theorem staged0_apply (t : Fin cfg0.N) (r : Fin 132) (k : Fin 4096) :
    iblk m c 0 t (ix2 r k) = joined (condP m c) (condS m c) r k := by
  refine Eq.trans ?_ ((congrFun (rows_eq m c) (ix2 r k)).trans (joined_apply _ _ r k))
  have e := (places t).1
  blk_simp [iblk]
  congr 1
  blk_ext [e]

theorem staged1_apply (t : Fin cfg0.N) (k : Fin 4096) (s : Fin 512) :
    iblk m c 1 t (ix2 k s) = weights m c (ix2 k ⟨512 * t.val + s.val, column_lt t s⟩) := by
  have e := (places t).2.1
  rw [show weights m c = V m c main_arg2 from (V_main_arg2 m c).symm]
  blk_simp [iblk]
  congr 1
  blk_ext [e]

theorem staged2_apply (t : Fin cfg0.N) (s : Fin 512) :
    iblk m c 2 t (ix2 0 s) = bias m c (ix1 ⟨512 * t.val + s.val, column_lt t s⟩) := by
  refine Eq.trans ?_ ((congrFun (bias_eq m c) (ix2 0 ⟨512 * t.val + s.val, column_lt t s⟩)).trans (flat_apply _ _))
  have e := (places t).2.2.1
  blk_simp [iblk]
  congr 1
  blk_ext [e]

/-- The kernel's array is the modulation. -/
theorem kernel_eq : (dats m 0 c).arrAt 3 cfg0.N
    = fun i => modulation (condP m c) (condS m c) (weights m c) (bias m c) (i 0) (i 1) := by
  refine (dats m 0 c).arrAt_eq_of_covers 3 _ (by decide +kernel) fun t hf y => ?_
  blk_simp
  rw [after0_3]
  frame_out
  obtain ⟨r, s, rfl⟩ : ∃ (r : Fin 132) (s : Fin 512), y = ix2 r s := ⟨y 0, y 1, eq_ix2 y⟩
  refine (block_apply _ _ _ r s).trans ?_
  have e := (places t).2.2.2
  have hr : (win0_3.blk t).view.emb (ix2 r s) = (ix2 r ⟨512 * t.val + s.val, column_lt t s⟩ : S132x24576.Idx) := by
    blk_ext [e]
  refine Eq.trans ?_ (congrArg (fun j : S132x24576.Idx =>
    modulation (condP m c) (condS m c) (weights m c) (bias m c) (j 0) (j 1)) hr).symm
  exact congrArg₂ (· + ·) (Finset.sum_congr rfl fun k _ =>
    congrArg₂ (fun a b => swish a * b) (staged0_apply m c t r k) (staged1_apply m c t k s)) (staged2_apply m c t s)

/-- The reference's array is the modulation. -/
theorem reference_eq (cp : Vec Ideal S4x4096 .f32) (cs : Vec Ideal S128x4096 .f32) (w : Vec Ideal S4096x24576 .f32) (b : Vec Ideal S24576 .f32) :
    Cert.AdaRefIdeal.Read.val_main_v10 (F := Ideal) cp cs w b = fun i => modulation cp cs w b (i 0) (i 1) := by
  funext i
  obtain ⟨r, s, rfl⟩ : ∃ (r : Fin 132) (s : Fin 24576), i = ix2 r s := ⟨i 0, i 1, eq_ix2 i⟩
  show _ = modulation cp cs w b r s
  have hp : ∀ t : Fin 4, Cert.AdaRefIdeal.Read.val_main_v4 (F := Ideal) cp w b (ix2 t s)
      = (∑ k : Fin 4096, swish (cp (ix2 t k)) * w (ix2 k s)) + b (ix1 s) := by
    intro t
    pointwise [Cert.AdaRefIdeal.Read.val_main_v4, Cert.AdaRefIdeal.Read.val_main_v3, Cert.AdaRefIdeal.Read.val_main_v2,
      Cert.AdaRefIdeal.Read.val_main_v1, Cert.AdaRefIdeal.Read.val_main_v0, Cert.AdaRefIdeal.Read.val_main_call0_v5,
      Cert.AdaRefIdeal.Read.val_main_call0_v4, Cert.AdaRefIdeal.Read.val_main_call0_v3, Cert.AdaRefIdeal.Read.val_main_call0_v2,
      Cert.AdaRefIdeal.Read.val_main_call0_v1, Cert.AdaRefIdeal.Read.val_main_call0_v0, Cert.AdaRefIdeal.Read.val_main_call0_cst,
      Cert.AdaRefIdeal.Read.val_main_call0_cst_0]
    rfl
  have hs : ∀ t : Fin 128, Cert.AdaRefIdeal.Read.val_main_v9 (F := Ideal) cs w b (ix2 t s)
      = (∑ k : Fin 4096, swish (cs (ix2 t k)) * w (ix2 k s)) + b (ix1 s) := by
    intro t
    pointwise [Cert.AdaRefIdeal.Read.val_main_v9, Cert.AdaRefIdeal.Read.val_main_v8, Cert.AdaRefIdeal.Read.val_main_v7,
      Cert.AdaRefIdeal.Read.val_main_v6, Cert.AdaRefIdeal.Read.val_main_v5, Cert.AdaRefIdeal.Read.val_main_call1_v5,
      Cert.AdaRefIdeal.Read.val_main_call1_v4, Cert.AdaRefIdeal.Read.val_main_call1_v3, Cert.AdaRefIdeal.Read.val_main_call1_v2,
      Cert.AdaRefIdeal.Read.val_main_call1_v1, Cert.AdaRefIdeal.Read.val_main_call1_v0, Cert.AdaRefIdeal.Read.val_main_call1_cst,
      Cert.AdaRefIdeal.Read.val_main_call1_cst_0]
    rfl
  unfold Cert.AdaRefIdeal.Read.val_main_v10
  generalize Cert.AdaRefIdeal.Read.val_main_v4 (F := Ideal) cp w b = y at hp ⊢
  generalize Cert.AdaRefIdeal.Read.val_main_v9 (F := Ideal) cs w b = z at hs ⊢
  pointwise
  unfold modulation joined
  by_cases h : r.val < 4
  · simp only [dif_pos h, hp]
  · simp only [dif_neg h, hs]

/-- The reference runs to its end and leaves its arguments and the semaphores as they were. -/
theorem frame_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- Both end with the same modulation. -/
theorem algebraic : Cert.algebraic_AdaIdeal_AdaRefIdeal := by
  intro m ρ m' ρ' _ hagree
  refine ⟨fun c => (dats m 0 c).arrAt 3 cfg0.N, Cert.AdaIdeal.Value.run_blocks (F := Ideal) m ρ, ?_⟩
  refine (θ_run _ _ _).mono (fun _ h c => ⟨(h c).1.trans ?_, (h c).2⟩) (Cert.AdaRefIdeal.Value.run (F := Ideal) m' ρ')
  rw [(hagree c).1, (hagree c).2.1, (hagree c).2.2.1, (hagree c).2.2.2]
  exact (reference_eq (condP m c) (condS m c) (weights m c) (bias m c)).trans (kernel_eq m c).symm

end Cert.Proof.Products.Ada

end
-- ==== Proof.Products.InRet.lean ====
/-
  The call `in_proj_ret`: the retention columns of the input projection. The kernel makes them in blocks of 1024
  rows and 512 columns, each over the whole inner dimension; the reference makes the whole projection and takes the
  first 8192 columns. An element of both is one sum over the inner dimension.
-/
module

public import proofs.«01_k».proof.Defs
public import proofs.«01_k».proof.Proof.Gen.InRetIdeal.Value
public import proofs.«01_k».proof.Proof.Gen.InRetRefIdeal.Run
public import proofs.«01_k».proof.Proof.Gen.InRetRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Products.InRet

open Cert.InRetIdeal Cert.InRetIdeal.Gen Idealize.ShloMosaic Idealize.ShloMosaic.TcCoe Idealize.SL.Sem
open scoped BigOperators

/-- A block of the product. -/
theorem block_apply (x : Vec Ideal S1024x4096 .bf16) (w : Vec Ideal S4096x512 .f32) (r : Fin 1024) (s : Fin 512) :
    k0_pay1 x w (ix2 r s) = ∑ k : Fin 4096, x (ix2 r k) * w (ix2 k s) := by
  pointwise [k0_pay1]

variable (m : (ℓ : Loc nD τ sig) → Buf (Elt Ideal) ℓ) (c : Dev nD)

/-- The rows, -/
abbrev rows : Vec Ideal S9216x4096 .bf16 := m ((c.tc : Thread nD τ).loc main_arg0)
/-- and the weights. -/
abbrev weights : Vec Ideal S4096x15072 .f32 := m ((c.tc : Thread nD τ).loc main_arg1)

/-- Where the blocks of a grid point lie. -/
theorem places : ∀ t : Fin cfg0.N, win0_0.index t = ![(grid0.coords t 1).val, 0] ∧ win0_1.index t = ![0, (grid0.coords t 0).val]
    ∧ win0_2.index t = ![(grid0.coords t 1).val, (grid0.coords t 0).val] := by
  decide +kernel

/-- The column of the weights that belongs to a column of the result. -/
def column (s : Fin 8192) : Fin 15072 := ⟨s.val, by omega⟩

/-- A staged block of rows holds the rows at its place. -/
theorem rowsBlock_apply (t : Fin cfg0.N) (r : Fin 1024) (k : Fin 4096) (i : Fin 9216) (hi : i.val = (grid0.coords t 1).val * 1024 + r.val) :
    (iblk m c 0 t : Vec Ideal S1024x4096 .bf16) (ix2 r k) = rows m c (ix2 i k) := by
  obtain ⟨h0, _, _⟩ := places t
  blk_ext [iblk, V, h0, hi]

/-- A staged block of weights holds the columns at its place: no block reaches past the last column. -/
theorem staged_apply (t : Fin cfg0.N) (k : Fin 4096) (s : Fin 512) (j : Fin 8192) (hj : j.val = (grid0.coords t 0).val * 512 + s.val) :
    X0_1 m c t (ix2 k s) = weights m c (ix2 k (column j)) := by
  obtain ⟨_, h1, _⟩ := places t
  unfold X0_1 Pipeline.Window.fill
  rw [dif_pos (moved0_1 _ _)]
  blk_simp [iblk]
  show m _ _ = m _ _
  congr 1
  blk_ext [h1, column, hj]

/-- What a grid point leaves: its block of rows times its block of weights, -/
theorem point_eq (t : Fin cfg0.N) : outsAt0 m c t = k0_pay1 (iblk m c 0 t) (X0_1 m c t) := by
  unfold outsAt0
  generalize iblk m c 0 t = x
  generalize X0_1 m c t = w
  frame_out

/-- an element of it one sum. -/
theorem point_apply (t : Fin cfg0.N) (r : Fin 1024) (s : Fin 512) (i : Fin 9216) (j : Fin 8192)
    (hi : i.val = (grid0.coords t 1).val * 1024 + r.val) (hj : j.val = (grid0.coords t 0).val * 512 + s.val) :
    outsAt0 m c t (ix2 r s) = ∑ k : Fin 4096, rows m c (ix2 i k) * weights m c (ix2 k (column j)) := by
  rw [point_eq, block_apply]
  refine Finset.sum_congr rfl fun k _ => ?_
  rw [rowsBlock_apply m c t r k i hi, staged_apply m c t k s j hj]

/-- The kernel's array is the product's columns. -/
theorem kernel_eq : (dats m 0 c).arrAt 2 cfg0.N
    = fun i => ∑ k : Fin 4096, rows m c (ix2 (i 0) k) * weights m c (ix2 k (column (i 1))) := by
  refine (dats m 0 c).arrAt_eq_of_covers 2 _ (by decide +kernel) fun t hf y => ?_
  blk_simp
  rw [after0_2]
  obtain ⟨r, s, rfl⟩ : ∃ (r : Fin 1024) (s : Fin 512), y = ix2 r s := ⟨y 0, y 1, eq_ix2 y⟩
  obtain ⟨_, _, h2⟩ := places t
  exact point_apply m c t r s _ _ (by blk_simp [h2]) (by blk_simp [h2])

/-- The reference's array is the product's columns. -/
theorem reference_eq (x : Vec Ideal S9216x4096 .bf16) (w : Vec Ideal S4096x15072 .f32) :
    Cert.InRetRefIdeal.Read.val_main_v2 (F := Ideal) x w = fun i => ∑ k : Fin 4096, x (ix2 (i 0) k) * w (ix2 k (column (i 1))) := by
  funext i
  rw [Cert.InRetRefIdeal.Read.val_main_v2_apply, Cert.InRetRefIdeal.Read.val_main_v1_apply]
  refine Finset.sum_congr rfl fun k _ => ?_
  congr 1
  · exact congrArg x (eq_ix2 _)
  · exact congrArg w (eq_ix2 _)

/-- The reference runs to its end and leaves its arguments and the semaphores as they were. -/
theorem frame_reference : Cert.quiescent_InRetRefIdeal := fun m ρ _ =>
  (θ_run Cert.InRetRefIdeal.defs _ _).mono (fun r h => ⟨fun c => (h c).2, sem_eq_zero_of_no_sems (by decide) r.2⟩)
    (Cert.InRetRefIdeal.Value.run (F := Ideal) m ρ)

/-- Both end with the same product. -/
theorem algebraic : Cert.algebraic_InRetIdeal_InRetRefIdeal := by
  intro m ρ m' ρ' _ hagree
  refine ⟨fun c => (dats m 0 c).arrAt 2 cfg0.N, Cert.InRetIdeal.Value.run_blocks (F := Ideal) m ρ, ?_⟩
  refine (θ_run _ _ _).mono (fun _ h c => ⟨(h c).1.trans ?_, (h c).2⟩) (Cert.InRetRefIdeal.Value.run (F := Ideal) m' ρ')
  rw [(hagree c).1, (hagree c).2]
  exact (reference_eq (rows m c) (weights m c)).trans (kernel_eq m c).symm

end Cert.Proof.Products.InRet

end
-- ==== Proof.Products.InRkv.lean ====
/-
  The call `in_proj_rkv`: the columns of the input projection for the recurrence's receptance, key and value. The
  kernel makes them in blocks of 1024 rows and 512 columns, the weights' blocks taken sixteen to the right; the
  reference makes the whole projection of each batch and takes columns 8192 to 14336. An element of both is one sum over
  the inner dimension. The rows of the sequences' last tokens are results of their own: the kernel gathers them at the
  rows' numbers, the reference takes the last of each sequence.
-/
module

public import proofs.«01_k».proof.Defs
public import proofs.«01_k».proof.Proof.Gen.InRkvIdeal.Frame
public import proofs.«01_k».proof.Proof.Gen.InRkvRefIdeal.Run
public import proofs.«01_k».proof.Proof.Gen.InRkvRefIdeal.Read
public import Idealize.ShloMosaic.Lib.Pipeline.ValueKit
public import Idealize.ShloMosaic.Lib.Pointwise
public import Idealize.ShloMosaic.Lib.Quiescent
public import Idealize.ShloMosaic.Lib.Routing.Ops

@[expose] public section

set_option maxRecDepth 16384

noncomputable section

namespace Cert.Proof.Products.InRkv

open Cert.InRkvIdeal Cert.InRkvIdeal.Gen Idealize.ShloMosaic Idealize.ShloMosaic.TcCoe Idealize.SL.Sem
open scoped BigOperators

/-- A block of the product. -/
theorem block_apply (x : Vec Ideal S1024x4096 .bf16) (w : Vec Ideal S4096x512 .f32) (r : Fin 1024) (s : Fin 512) :
    k0_pay1 x w (ix2 r s) = ∑ k : Fin 4096, x (ix2 r k) * w (ix2 k s) := by
  pointwise [k0_pay1]

variable (m : (ℓ : Loc nD τ sig) → Buf (Elt Ideal) ℓ) (c : Dev nD)

/-- The rows, -/
abbrev rows : Vec Ideal S9216x4096 .bf16 := m ((c.tc : Thread nD τ).loc main_arg0)
/-- and the weights. -/
abbrev weights : Vec Ideal S4096x15072 .f32 := m ((c.tc : Thread nD τ).loc main_arg1)

/-- Where the blocks of a grid point lie. -/
theorem places : ∀ t : Fin cfg0.N, win0_0.index t = ![(grid0.coords t 1).val, 0] ∧ win0_1.index t = ![0, (grid0.coords t 0).val + 16]
    ∧ win0_2.index t = ![(grid0.coords t 1).val, (grid0.coords t 0).val] := by
  decide +kernel

/-- The column of the weights that belongs to a column of the result. -/
def column (s : Fin 6144) : Fin 15072 := ⟨8192 + s.val, by omega⟩

/-- A staged block of rows holds the rows at its place. -/
theorem rowsBlock_apply (t : Fin cfg0.N) (r : Fin 1024) (k : Fin 4096) (i : Fin 9216) (hi : i.val = (grid0.coords t 1).val * 1024 + r.val) :
    (iblk m c 0 t : Vec Ideal S1024x4096 .bf16) (ix2 r k) = rows m c (ix2 i k) := by
  obtain ⟨h0, _, _⟩ := places t
  rw [show rows m c = V m c main_arg0 from (V_main_arg0 m c).symm]
  blk_simp [iblk]
  congr 1
  blk_ext [h0, hi]

/-- A staged block of weights holds the columns at its place: no block reaches past the last column. -/
theorem staged_apply (t : Fin cfg0.N) (k : Fin 4096) (s : Fin 512) (j : Fin 6144) (hj : j.val = (grid0.coords t 0).val * 512 + s.val) :
    X0_1 m c t (ix2 k s) = weights m c (ix2 k (column j)) := by
  obtain ⟨_, h1, _⟩ := places t
  unfold X0_1 Pipeline.Window.fill
  rw [dif_pos (moved0_1 _ _), show weights m c = V m c main_arg1 from (V_main_arg1 m c).symm]
  blk_simp [iblk]
  congr 1
  blk_ext [h1, column, hj]

/-- What a grid point leaves: its block of rows times its block of weights, -/
theorem point_eq (t : Fin cfg0.N) : outsAt0 m c t = k0_pay1 (iblk m c 0 t) (X0_1 m c t) := by
  unfold outsAt0
  generalize iblk m c 0 t = x
  generalize X0_1 m c t = w
  frame_out

/-- an element of it one sum. -/
theorem point_apply (t : Fin cfg0.N) (r : Fin 1024) (s : Fin 512) (i : Fin 9216) (j : Fin 6144)
    (hi : i.val = (grid0.coords t 1).val * 1024 + r.val) (hj : j.val = (grid0.coords t 0).val * 512 + s.val) :
    outsAt0 m c t (ix2 r s) = ∑ k : Fin 4096, rows m c (ix2 i k) * weights m c (ix2 k (column j)) := by
  rw [point_eq, block_apply]
  refine Finset.sum_congr rfl fun k _ => ?_
  rw [rowsBlock_apply m c t r k i hi, staged_apply m c t k s j hj]

/-- The kernel's array is the product's columns. -/
theorem kernel_eq : (dats m 0 c).arrAt 2 cfg0.N
    = fun i => ∑ k : Fin 4096, rows m c (ix2 (i 0) k) * weights m c (ix2 k (column (i 1))) := by
  refine (dats m 0 c).arrAt_eq_of_covers 2 _ (by decide +kernel) fun t hf y => ?_
  blk_simp
  rw [after0_2]
  obtain ⟨r, s, rfl⟩ : ∃ (r : Fin 1024) (s : Fin 512), y = ix2 r s := ⟨y 0, y 1, eq_ix2 y⟩
  obtain ⟨_, _, h2⟩ := places t
  exact point_apply m c t r s _ _ (by blk_simp [h2]) (by blk_simp [h2])

/-- The numbers of the rows of the sequences' last tokens: the prompt's, -/
def rowsP : IVec S4 32 := fun i => lit0 (S4.rowMajor i)
/-- and the samples'. -/
def rowsS : IVec S128 32 := fun i => lit1 (S128.rowMajor i)

/-- Their rows. -/
abbrev lastP (b : Fin 4) : Fin 9216 := ⟨2048 * b.val + 2047, by omega⟩
abbrev lastS (b : Fin 128) : Fin 9216 := ⟨8192 + (8 * b.val + 7), by omega⟩

theorem rowsP_apply (b : Fin 4) : rowsP (ix1 b) = BitVec.ofNat 32 (lastP b).val := by
  have hl : ∀ b : Fin 4, lit0 b = BitVec.ofNat 32 (2048 * b.val + 2047) := by decide +kernel
  exact (congrArg lit0 (Fin.ext (Shape.rowMajor_val_one (d := ![4]) (ix1 b)))).trans (hl b)

theorem rowsS_apply (b : Fin 128) : rowsS (ix1 b) = BitVec.ofNat 32 (lastS b).val := by
  have hl : ∀ b : Fin 128, lit1 b = BitVec.ofNat 32 (8192 + (8 * b.val + 7)) := by decide +kernel
  exact (congrArg lit1 (Fin.ext (Shape.rowMajor_val_one (d := ![128]) (ix1 b)))).trans (hl b)

/-- The indices the kernel gathers at: a row's number, or from the end where it were negative. -/
def atP : IVec S4x1 32 := broadcastInDim S4x1 ![0] bcast_S4_S4x1_0
  (select (constantI S4 1 0#1) (addi rowsP (broadcastInDim S4 ![] bcast_S_S4 (constantI S_ 32 9216#32))) rowsP)
def atS : IVec S128x1 32 := broadcastInDim S128x1 ![0] bcast_S128_S128x1_0
  (select (constantI S128 1 0#1) (addi rowsS (broadcastInDim S128 ![] bcast_S_S128 (constantI S_ 32 9216#32))) rowsS)

theorem atP_apply (b : Fin 4) : atP (ix2 b 0) = BitVec.ofNat 32 (lastP b).val := by
  rw [← rowsP_apply]
  pointwise [atP]

theorem atS_apply (b : Fin 128) : atS (ix2 b 0) = BitVec.ofNat 32 (lastS b).val := by
  rw [← rowsS_apply]
  pointwise [atS]

/-- The gathered rows. -/
theorem gatherP_apply (x : Vec Ideal S9216x6144 .f32) (b : Fin 4) (s : Fin 6144) :
    Host.gather gather_S9216x6144_S4x1_S4x6144_1_0_n_n_0_1_16144 x atP (ix2 b s) = x (ix2 (lastP b) s) :=
  Routing.gather_row _ rfl rfl rfl rfl rfl x atP b s (lastP b) (atP_apply b) (by decide)

theorem gatherS_apply (x : Vec Ideal S9216x6144 .f32) (b : Fin 128) (s : Fin 6144) :
    Host.gather gather_S9216x6144_S128x1_S128x6144_1_0_n_n_0_1_16144 x atS (ix2 b s) = x (ix2 (lastS b) s) :=
  Routing.gather_row _ rfl rfl rfl rfl rfl x atS b s (lastS b) (atS_apply b) (by decide)

/-- What is written before the grid's call. -/
abbrev constants : List (HloOp τ sig (Elt Ideal)) :=
  [StableHlo.nullary main_c rowsP, StableHlo.nullary main_c_0 (constantI S4 1 0#1),
    StableHlo.nullary main_c_1 rowsS, StableHlo.nullary main_c_2 (constantI S128 1 0#1)]

/-- The contents where the grid's call ends: -/
abbrev after0 : Valuation τ sig (Elt Ideal) :=
  Pipeline.withArrays (cfgs 0).spec c (V0 m c) fun w => (dats m 0 c).arrAt w (cfgs 0).N

/-- the product in its own array, -/
theorem after0_product : after0 m c (Proc.devRef .tc main_v0) = (dats m 0 c).arrAt 2 cfg0.N :=
  Pipeline.withArrays_arr (cfgs 0).spec winFacts0.arr_inj c (V0 m c) (fun w => (dats m 0 c).arrAt w (cfgs 0).N) 2

/-- and the constants as they were written before the call. -/
theorem after0_rowsP : after0 m c (Proc.devRef .tc main_c) = rowsP := by
  rw [after0, Pipeline.withArrays_of_ne _ _ _ _ main_c (by decide)]
  change StableHlo.after constants _ _ = _
  dsimp only [constants]
  after_results

theorem after0_plainP : after0 m c (Proc.devRef .tc main_c_0) = constantI S4 1 0#1 := by
  rw [after0, Pipeline.withArrays_of_ne _ _ _ _ main_c_0 (by decide)]
  change StableHlo.after constants _ _ = _
  dsimp only [constants]
  after_results

theorem after0_rowsS : after0 m c (Proc.devRef .tc main_c_1) = rowsS := by
  rw [after0, Pipeline.withArrays_of_ne _ _ _ _ main_c_1 (by decide)]
  change StableHlo.after constants _ _ = _
  dsimp only [constants]
  after_results

theorem after0_plainS : after0 m c (Proc.devRef .tc main_c_2) = constantI S128 1 0#1 := by
  rw [after0, Pipeline.withArrays_of_ne _ _ _ _ main_c_2 (by decide)]
  change StableHlo.after constants _ _ = _
  dsimp only [constants]
  after_results

/-- So the prompt's last rows are gathered from the product, -/
theorem last_prompt : Pipeline.afterTail₀ cfgs (dats m) 0 (V0 m) [hostOps1] c main_v5
    = Host.gather gather_S9216x6144_S4x1_S4x6144_1_0_n_n_0_1_16144 ((dats m 0 c).arrAt 2 cfg0.N) atP := by
  rw [← after0_product]
  have hc := after0_rowsP m c
  have hc0 := after0_plainP m c
  unfold Pipeline.afterTail₀
  change StableHlo.after hostOps1 (after0 m c) (Proc.devRef .tc main_v5) = _
  generalize after0 m c = W at hc hc0 ⊢
  dsimp only [hostOps1]
  after_results
  rw [hc, hc0]
  rfl

/-- and the samples' too. -/
theorem last_sample : Pipeline.afterTail₀ cfgs (dats m) 0 (V0 m) [hostOps1] c main_v10
    = Host.gather gather_S9216x6144_S128x1_S128x6144_1_0_n_n_0_1_16144 ((dats m 0 c).arrAt 2 cfg0.N) atS := by
  rw [← after0_product]
  have hc := after0_rowsS m c
  have hc0 := after0_plainS m c
  unfold Pipeline.afterTail₀
  change StableHlo.after hostOps1 (after0 m c) (Proc.devRef .tc main_v10) = _
  generalize after0 m c = W at hc hc0 ⊢
  dsimp only [hostOps1]
  after_results
  rw [hc, hc0]
  rfl

/-- An element of the product. -/
def entry (x : Vec Ideal S9216x4096 .bf16) (w : Vec Ideal S4096x15072 .f32) (r : Fin 9216) (s : Fin 6144) : EReal :=
  ∑ k : Fin 4096, x (ix2 r k) * w (ix2 k (column s))

/-- The reference's product of the prompt, -/
theorem prompt_apply (x : Vec Ideal S9216x4096 .bf16) (w : Vec Ideal S4096x15072 .f32) (b : Fin 4) (t : Fin 2048) (s : Fin 6144) (r : Fin 9216)
    (hr : r.val = 2048 * b.val + t.val) : Cert.InRkvRefIdeal.Read.val_main_v5 (F := Ideal) x w (ix3 b t s) = entry x w r s := by
  rw [Cert.InRkvRefIdeal.Read.val_main_v5_apply, Cert.InRkvRefIdeal.Read.val_main_v4_apply, Cert.InRkvRefIdeal.Read.val_main_v3_apply]
  refine Finset.sum_congr rfl fun k _ => ?_
  rw [Cert.InRkvRefIdeal.Read.val_main_v2_apply, Cert.InRkvRefIdeal.Read.val_main_v1_apply, Cert.InRkvRefIdeal.Read.val_main_v0_apply]
  refine congrArg₂ (· * ·) (congrArg x ?_) (congrArg w ?_)
  · exact (eq_ix2 _).trans (congrArg₂ ix2 (Fin.ext (by
      show ((b.val * 2048 + t.val) * 4096 + k.val) / 4096 = r.val
      omega)) (Fin.ext (by
      show ((b.val * 2048 + t.val) * 4096 + k.val) % 4096 = k.val
      omega)))
  · exact eq_ix2 _

/-- and of the samples. -/
theorem sample_apply (x : Vec Ideal S9216x4096 .bf16) (w : Vec Ideal S4096x15072 .f32) (b : Fin 128) (t : Fin 8) (s : Fin 6144) (r : Fin 9216)
    (hr : r.val = 8192 + (8 * b.val + t.val)) : Cert.InRkvRefIdeal.Read.val_main_v11 (F := Ideal) x w (ix3 b t s) = entry x w r s := by
  rw [Cert.InRkvRefIdeal.Read.val_main_v11_apply, Cert.InRkvRefIdeal.Read.val_main_v10_apply, Cert.InRkvRefIdeal.Read.val_main_v9_apply]
  refine Finset.sum_congr rfl fun k _ => ?_
  rw [Cert.InRkvRefIdeal.Read.val_main_v8_apply, Cert.InRkvRefIdeal.Read.val_main_v7_apply, Cert.InRkvRefIdeal.Read.val_main_v6_apply]
  refine congrArg₂ (· * ·) (congrArg x ?_) (congrArg w ?_)
  · exact (eq_ix2 _).trans (congrArg₂ ix2 (Fin.ext (by
      show 8192 + ((b.val * 8 + t.val) * 4096 + k.val) / 4096 = r.val
      omega)) (Fin.ext (by
      show ((b.val * 8 + t.val) * 4096 + k.val) % 4096 = k.val
      omega)))
  · exact eq_ix2 _

/-- The reference's last rows of the prompt, -/
theorem reference_prompt (x : Vec Ideal S9216x4096 .bf16) (w : Vec Ideal S4096x15072 .f32) (b : Fin 4) (s : Fin 6144) :
    Cert.InRkvRefIdeal.Read.val_main_v16 (F := Ideal) x w (ix2 b s) = entry x w (lastP b) s := by
  refine Eq.trans ?_ (prompt_apply x w b ⟨2047, by omega⟩ s (lastP b) rfl)
  pointwise [Cert.InRkvRefIdeal.Read.val_main_v16, Cert.InRkvRefIdeal.Read.val_main_v15]

/-- of the samples, -/
theorem reference_sample (x : Vec Ideal S9216x4096 .bf16) (w : Vec Ideal S4096x15072 .f32) (b : Fin 128) (s : Fin 6144) :
    Cert.InRkvRefIdeal.Read.val_main_v18 (F := Ideal) x w (ix2 b s) = entry x w (lastS b) s := by
  refine Eq.trans ?_ (sample_apply x w b ⟨7, by omega⟩ s (lastS b) rfl)
  pointwise [Cert.InRkvRefIdeal.Read.val_main_v18, Cert.InRkvRefIdeal.Read.val_main_v17]

/-- and its whole array. -/
theorem reference_eq (x : Vec Ideal S9216x4096 .bf16) (w : Vec Ideal S4096x15072 .f32) (r : Fin 9216) (s : Fin 6144) :
    Cert.InRkvRefIdeal.Read.val_main_v14 (F := Ideal) x w (ix2 r s) = entry x w r s := by
  by_cases hr : r.val < 8192
  · refine Eq.trans ?_ (prompt_apply x w ⟨r.val / 2048, by omega⟩ ⟨r.val % 2048, by omega⟩ s r (by simp only; omega))
    pointwise [Cert.InRkvRefIdeal.Read.val_main_v14, Cert.InRkvRefIdeal.Read.val_main_v12]
    rw [dif_pos hr]
  · refine Eq.trans ?_ (sample_apply x w ⟨(r.val - 8192) / 8, by omega⟩ ⟨(r.val - 8192) % 8, by omega⟩ s r (by simp only; omega))
    pointwise [Cert.InRkvRefIdeal.Read.val_main_v14, Cert.InRkvRefIdeal.Read.val_main_v13]
    rw [dif_neg hr]

/-- The kernel's three results are the reference's. -/
theorem whole_eq : Cert.InRkvRefIdeal.Read.val_main_v14 (F := Ideal) (rows m c) (weights m c) = (dats m 0 c).arrAt 2 cfg0.N := by
  rw [kernel_eq]
  funext i
  rw [eq_ix2 i]
  exact reference_eq (rows m c) (weights m c) (i 0) (i 1)

theorem prompt_eq : Cert.InRkvRefIdeal.Read.val_main_v16 (F := Ideal) (rows m c) (weights m c)
    = Host.gather gather_S9216x6144_S4x1_S4x6144_1_0_n_n_0_1_16144 ((dats m 0 c).arrAt 2 cfg0.N) atP := by
  rw [kernel_eq]
  funext i
  rw [eq_ix2 i]
  exact (reference_prompt (rows m c) (weights m c) (i 0) (i 1)).trans (gatherP_apply (fun i => entry (rows m c) (weights m c) (i 0) (i 1)) (i 0) (i 1)).symm

theorem sample_eq : Cert.InRkvRefIdeal.Read.val_main_v18 (F := Ideal) (rows m c) (weights m c)
    = Host.gather gather_S9216x6144_S128x1_S128x6144_1_0_n_n_0_1_16144 ((dats m 0 c).arrAt 2 cfg0.N) atS := by
  rw [kernel_eq]
  funext i
  rw [eq_ix2 i]
  exact (reference_sample (rows m c) (weights m c) (i 0) (i 1)).trans (gatherS_apply (fun i => entry (rows m c) (weights m c) (i 0) (i 1)) (i 0) (i 1)).symm

/-- The kernel's program runs to its end and leaves the product, the rows gathered from it, and its arguments as they were. -/
theorem run_kernel (ρ : Dev nD → PrngReg) : θ_run (defs (F := Ideal)) (onTc (τ := τ) (main (F := Ideal))) ⟨m, fun _ => 0, ρ⟩ fun r => ∀ c : Dev nD,
    r.2.mem ((c.tc : Thread nD τ).loc main_v0) = (dats m 0 c).arrAt 2 cfg0.N
      ∧ r.2.mem ((c.tc : Thread nD τ).loc main_v5) = Host.gather gather_S9216x6144_S4x1_S4x6144_1_0_n_n_0_1_16144 ((dats m 0 c).arrAt 2 cfg0.N) atP
      ∧ r.2.mem ((c.tc : Thread nD τ).loc main_v10) = Host.gather gather_S9216x6144_S128x1_S128x6144_1_0_n_n_0_1_16144 ((dats m 0 c).arrAt 2 cfg0.N) atS
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1 2,
      ((h c).2 main_v5 (Pipeline.mem_restRefs_of main_v5 (by decide) (by decide))).trans (last_prompt m c),
      ((h c).2 main_v10 (Pipeline.mem_restRefs_of main_v10 (by decide) (by decide))).trans (last_sample m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main (F := Ideal) m ρ)

/-- The reference runs to its end and leaves its arguments and the semaphores as they were. -/
theorem frame_reference : Cert.quiescent_InRkvRefIdeal := fun m ρ _ =>
  (θ_run Cert.InRkvRefIdeal.defs _ _).mono (fun r h => ⟨fun c => (h c).2.2.2, sem_eq_zero_of_no_sems (by decide) r.2⟩)
    (Cert.InRkvRefIdeal.Value.run (F := Ideal) m ρ)

/-- Both end with the same product and the same last rows. -/
theorem algebraic : Cert.algebraic_InRkvIdeal_InRkvRefIdeal := by
  intro m ρ m' ρ' _ hagree
  refine ⟨_, _, _, run_kernel m ρ, ?_⟩
  refine (θ_run _ _ _).mono (fun _ h c => ⟨(h c).1.trans ?_, (h c).2.1.trans ?_, (h c).2.2.1.trans ?_, (h c).2.2.2⟩)
    (Cert.InRkvRefIdeal.Value.run (F := Ideal) m' ρ')
  · rw [(hagree c).1, (hagree c).2]
    exact whole_eq m c
  · rw [(hagree c).1, (hagree c).2]
    exact prompt_eq m c
  · rw [(hagree c).1, (hagree c).2]
    exact sample_eq m c

end Cert.Proof.Products.InRkv

end
-- ==== Proof.Products.OutProj.lean ====
/-
  The call `out_proj`: the two head groups' outputs, side by side, times the output weights. The kernel multiplies
  each group by its half of the weights and adds the two products; the reference puts the groups side by side and
  multiplies once. Its sum over 4096 is the two halves' sums.
-/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Products.OutProj

open Cert.OutProjIdeal Cert.OutProjIdeal.Gen Idealize.ShloMosaic Idealize.ShloMosaic.TcCoe Idealize.SL.Sem
open scoped BigOperators

/-- A block of the two products' sum. -/
theorem block_apply (x x' : Vec Ideal S1024x2048 .bf16) (w w' : Vec Ideal S2048x512 .f32) (r : Fin 1024) (s : Fin 512) :
    k0_pay1 x w x' w' (ix2 r s) = (∑ k : Fin 2048, x (ix2 r k) * w (ix2 k s)) + ∑ k : Fin 2048, x' (ix2 r k) * w' (ix2 k s) := by
  pointwise [k0_pay1]

variable (m : (ℓ : Loc nD τ sig) → Buf (Elt Ideal) ℓ) (c : Dev nD)

/-- The retention heads' rows, -/
abbrev rowsA : Vec Ideal S9216x2048 .bf16 := m ((c.tc : Thread nD τ).loc main_arg0)
/-- the recurrence heads' rows -/
abbrev rowsB : Vec Ideal S9216x2048 .bf16 := m ((c.tc : Thread nD τ).loc main_arg1)
/-- and the weights. -/
abbrev weights : Vec Ideal S4096x4096 .f32 := m ((c.tc : Thread nD τ).loc main_arg2)

/-- Where the blocks of a grid point lie. -/
theorem places : ∀ t : Fin cfg0.N, win0_0.index t = ![(grid0.coords t 1).val, 0] ∧ win0_1.index t = ![(grid0.coords t 1).val, 0]
    ∧ win0_2.index t = ![0, (grid0.coords t 0).val] ∧ win0_3.index t = ![1, (grid0.coords t 0).val]
    ∧ win0_4.index t = ![(grid0.coords t 1).val, (grid0.coords t 0).val] := by
  decide +kernel

/-- A row of the weights' first half, -/
def upper (k : Fin 2048) : Fin 4096 := ⟨k.val, by omega⟩
/-- and one of its second. -/
def lower (k : Fin 2048) : Fin 4096 := ⟨2048 + k.val, by omega⟩

/-- The two groups' product, as the kernel sums it. -/
def mixed (x x' : Vec Ideal S9216x2048 .bf16) (w : Vec Ideal S4096x4096 .f32) : Vec Ideal S9216x4096 .f32 := fun i =>
  (∑ k : Fin 2048, x (ix2 (i 0) k) * w (ix2 (upper k) (i 1))) + ∑ k : Fin 2048, x' (ix2 (i 0) k) * w (ix2 (lower k) (i 1))

/-- The kernel's array is the product. -/
theorem kernel_eq : (dats m 0 c).arrAt 4 cfg0.N = mixed (rowsA m c) (rowsB m c) (weights m c) := by
  refine (dats m 0 c).arrAt_eq_of_covers 4 _ (by decide +kernel) fun t hf y => ?_
  blk_simp
  rw [after0_4]
  frame_out
  obtain ⟨r, s, rfl⟩ : ∃ (r : Fin 1024) (s : Fin 512), y = ix2 r s := ⟨y 0, y 1, eq_ix2 y⟩
  refine (block_apply _ _ _ _ r s).trans ?_
  obtain ⟨h0, h1, h2, h3, h4⟩ := places t
  unfold mixed
  congr 1 <;> refine Finset.sum_congr rfl fun k _ => ?_ <;> congr 1 <;> blk_ext [iblk, V, upper, lower, h0, h1, h2, h3, h4]

/-- The groups side by side: the first 2048 columns are the retention's, -/
theorem joined_upper (x x' : Vec Ideal S9216x2048 .bf16) (i : Fin 9216) (k : Fin 2048) :
    Cert.OutProjRefIdeal.Read.val_main_v1 (F := Ideal) x x' (ix2 i (upper k)) = x (ix2 i k) := by
  unfold Cert.OutProjRefIdeal.Read.val_main_v1 Cert.OutProjRefIdeal.Read.val_main_v0
  pointwise
  simp [upper]

/-- the others the recurrence's. -/
theorem joined_lower (x x' : Vec Ideal S9216x2048 .bf16) (i : Fin 9216) (k : Fin 2048) :
    Cert.OutProjRefIdeal.Read.val_main_v1 (F := Ideal) x x' (ix2 i (lower k)) = x' (ix2 i k) := by
  unfold Cert.OutProjRefIdeal.Read.val_main_v1 Cert.OutProjRefIdeal.Read.val_main_v0
  pointwise
  simp [lower]

/-- The reference's array is the product. -/
theorem reference_eq (x x' : Vec Ideal S9216x2048 .bf16) (w : Vec Ideal S4096x4096 .f32) :
    Cert.OutProjRefIdeal.Read.val_main_v2 (F := Ideal) x x' w = mixed x x' w := by
  funext i
  rw [Cert.OutProjRefIdeal.Read.val_main_v2_apply]
  refine (Fin.sum_univ_add (a := 2048) (b := 2048) _).trans ?_
  unfold mixed
  congr 1 <;> refine Finset.sum_congr rfl fun k _ => congrArg₂ (· * ·) ?_ (congrArg w (eq_ix2 _))
  · exact (congrArg _ (eq_ix2 _)).trans (joined_upper x x' (i 0) k)
  · exact (congrArg _ (eq_ix2 _)).trans (joined_lower x x' (i 0) k)

/-- The reference runs to its end and leaves its arguments and the semaphores as they were. -/
theorem frame_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- Both end with the same product. -/
theorem algebraic : Cert.algebraic_OutProjIdeal_OutProjRefIdeal := by
  intro m ρ m' ρ' _ hagree
  refine ⟨fun c => (dats m 0 c).arrAt 4 cfg0.N, Cert.OutProjIdeal.Value.run_blocks (F := Ideal) m ρ, ?_⟩
  refine (θ_run _ _ _).mono (fun _ h c => ⟨(h c).1.trans ?_, (h c).2⟩) (Cert.OutProjRefIdeal.Value.run (F := Ideal) m' ρ')
  rw [(hagree c).1, (hagree c).2.1, (hagree c).2.2]
  exact (reference_eq (rowsA m c) (rowsB m c) (weights m c)).trans (kernel_eq m c).symm

end Cert.Proof.Products.OutProj

end
-- ==== Proof.Products.PeerQ.lean ====
/-
  The call `peer_q`: the retrieval queries are the rows times the query weights. The kernel makes the product in
  blocks of 1024 rows and 512 columns, each over the whole inner dimension; so an element is one sum over it, and
  the reference's element is the same sum.
-/
module

public import proofs.«01_k».proof.Defs
public import proofs.«01_k».proof.Proof.Gen.PeerQIdeal.Value
public import proofs.«01_k».proof.Proof.Gen.PeerQRefIdeal.Run
public import proofs.«01_k».proof.Proof.Gen.PeerQRefIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Proof.Products.PeerQ

open Cert.PeerQIdeal Cert.PeerQIdeal.Gen Idealize.ShloMosaic Idealize.ShloMosaic.TcCoe Idealize.SL.Sem
open scoped BigOperators

/-- A block of the product. -/
theorem block_apply (x : Vec Ideal S1024x4096 .bf16) (w : Vec Ideal S4096x512 .f32) (r : Fin 1024) (s : Fin 512) :
    k0_pay1 x w (ix2 r s) = ∑ k : Fin 4096, x (ix2 r k) * w (ix2 k s) := by
  pointwise [k0_pay1]

variable (m : (ℓ : Loc nD τ sig) → Buf (Elt Ideal) ℓ) (c : Dev nD)

/-- The rows, -/
abbrev rows : Vec Ideal S9216x4096 .bf16 := m ((c.tc : Thread nD τ).loc main_arg0)
/-- and the weights. -/
abbrev weights : Vec Ideal S4096x2048 .f32 := m ((c.tc : Thread nD τ).loc main_arg1)

/-- Where the blocks of a grid point lie. -/
theorem places : ∀ t : Fin cfg0.N, win0_0.index t = ![(grid0.coords t 1).val, 0] ∧ win0_1.index t = ![0, (grid0.coords t 0).val]
    ∧ win0_2.index t = ![(grid0.coords t 1).val, (grid0.coords t 0).val] := by
  decide +kernel

/-- The kernel's array is the product. -/
theorem kernel_eq : (dats m 0 c).arrAt 2 cfg0.N
    = fun i => ∑ k : Fin 4096, rows m c (ix2 (i 0) k) * weights m c (ix2 k (i 1)) := by
  refine (dats m 0 c).arrAt_eq_of_covers 2 _ (by decide +kernel) fun t hf y => ?_
  blk_simp
  rw [after0_2]
  frame_out
  obtain ⟨r, s, rfl⟩ : ∃ (r : Fin 1024) (s : Fin 512), y = ix2 r s := ⟨y 0, y 1, eq_ix2 y⟩
  refine (block_apply _ _ r s).trans (Finset.sum_congr rfl fun k _ => ?_)
  obtain ⟨h0, h1, h2⟩ := places t
  congr 1 <;> blk_ext [iblk, V, h0, h1, h2]

/-- The reference's array is the product. -/
theorem reference_eq (x : Vec Ideal S9216x4096 .bf16) (w : Vec Ideal S4096x2048 .f32) :
    Cert.PeerQRefIdeal.Read.val_main_v1 (F := Ideal) x w = fun i => ∑ k : Fin 4096, x (ix2 (i 0) k) * w (ix2 k (i 1)) := by
  funext i
  rw [Cert.PeerQRefIdeal.Read.val_main_v1_apply]
  refine Finset.sum_congr rfl fun k _ => ?_
  congr 1
  · exact congrArg x (eq_ix2 _)
  · exact congrArg w (eq_ix2 _)

/-- The reference runs to its end and leaves its arguments and the semaphores as they were. -/
theorem frame_reference : Cert.quiescent_PeerQRefIdeal := fun m ρ _ =>
  (θ_run Cert.PeerQRefIdeal.defs _ _).mono (fun r h => ⟨fun c => (h c).2, sem_eq_zero_of_no_sems (by decide) r.2⟩)
    (Cert.PeerQRefIdeal.Value.run (F := Ideal) m ρ)

/-- Both end with the same product. -/
theorem algebraic : Cert.algebraic_PeerQIdeal_PeerQRefIdeal := by
  intro m ρ m' ρ' _ hagree
  refine ⟨fun c => (dats m 0 c).arrAt 2 cfg0.N, Cert.PeerQIdeal.Value.run_blocks (F := Ideal) m ρ, ?_⟩
  refine (θ_run _ _ _).mono (fun _ h c => ⟨(h c).1.trans ?_, (h c).2⟩) (Cert.PeerQRefIdeal.Value.run (F := Ideal) m' ρ')
  rw [(hagree c).1, (hagree c).2]
  exact (reference_eq (rows m c) (weights m c)).trans (kernel_eq m c).symm

end Cert.Proof.Products.PeerQ

end
-- ==== Proof.Prompt.Spec.lean ====
/-
  Chunked retention of one head of one batch row, over the extended reals.

  The 2048 tokens are walked in sixteen chunks of 128. The state carried between chunks is a 128 × 128
  matrix; a chunk's output is its attention inside the chunk, weighted by powers of the head's decay,
  plus what the carried state adds. Each output row is then normalised by its root mean square and
  multiplied by the swish of the gate row.

  Both programs are shown to compute these functions, the kernel and the reference alike.
-/
module

public import Idealize.ShloMosaic.Lib.Pointwise

@[expose] public section

noncomputable section

namespace Cert.Proof.Prompt

open Idealize.ShloMosaic
open scoped BigOperators

/-- A function of the token and the lane: one head of one batch row. -/
abbrev Rows := Fin 2048 → Fin 128 → EReal

/-- Token `i` of chunk `n`. -/
def tok (n : Fin 16) (i : Fin 128) : Fin 2048 := ⟨128 * n.val + i.val, by omega⟩

/-- A number as the programs make it from its index word. -/
abbrev num (n : ℕ) : EReal := FloatOps.sitofp (F := Ideal) .f32 (BitVec.ofNat 32 n)

/-- An index word below `2 ^ 31` denotes its number. -/
theorem num_eq (n : ℕ) (h : n < 2 ^ 31) : num n = ((n : ℝ) : EReal) := by
  show (((BitVec.ofNat 32 n).toInt : ℝ) : EReal) = _
  have hn : (BitVec.ofNat 32 n).toNat = n := by rw [BitVec.toNat_ofNat]; exact Nat.mod_eq_of_lt (by omega)
  have : (BitVec.ofNat 32 n).toInt = (n : ℤ) := by
    rw [BitVec.toInt_eq_toNat_cond, hn]; split <;> omega
  rw [this]; norm_cast

/-- The weight of the carried state on row `i` of a chunk: the decay to the power `i + 1`. -/
def qDecay (lg : EReal) (i : Fin 128) : EReal := Ideal.exp ((num i.val + 1) * lg)

/-- The weight of row `j` of a chunk in the state after it: the decay to the power `127 - j`. -/
def kDecay (lg : EReal) (j : Fin 128) : EReal := Ideal.exp ((Ideal.ofBits .f32 0x42FE0000#32 - num j.val) * lg)

/-- The weight of the state before a chunk in the state after it: the decay to the power 128. -/
def cDecay (lg : EReal) : EReal := Ideal.exp (Ideal.ofBits .f32 0x43000000#32 * lg)

/-- The weight of row `j` on row `i` inside a chunk: the decay to the power `i - j`, and none from later rows. -/
def mask (lg : EReal) (i j : Fin 128) : EReal :=
  if j ≤ i then Ideal.exp ((((i.val : ℝ) - (j.val : ℝ) : ℝ) : EReal) * lg) else 0

/-- The state before chunk `n` (after the last chunk it stays). -/
def state (lg : EReal) (K V : Rows) : ℕ → Fin 128 → Fin 128 → EReal
  | 0 => fun _ _ => 0
  | n + 1 => fun d e =>
    if h : n < 16 then
      state lg K V n d e * cDecay lg + ∑ j : Fin 128, K (tok ⟨n, h⟩ j) d * kDecay lg j * V (tok ⟨n, h⟩ j) e
    else state lg K V n d e

theorem state_succ (lg : EReal) (K V : Rows) (n : Fin 16) (d e : Fin 128) :
    state lg K V (n.val + 1) d e
      = state lg K V n.val d e * cDecay lg + ∑ j : Fin 128, K (tok n j) d * kDecay lg j * V (tok n j) e := by
  rw [state]; exact dif_pos n.isLt

/-- Row `i` of chunk `n`'s retention. -/
def retOut (lg : EReal) (Q K V : Rows) (n : Fin 16) (i e : Fin 128) : EReal :=
  (∑ j : Fin 128, (∑ d : Fin 128, Q (tok n i) d * K (tok n j) d) * mask lg i j * V (tok n j) e)
    + ∑ d : Fin 128, Q (tok n i) d * qDecay lg i * state lg K V n.val d e

/-- The same, normalised over the lanes and gated. -/
def gated (lg : EReal) (Q K V G : Rows) (n : Fin 16) (i e : Fin 128) : EReal :=
  retOut lg Q K V n i e
    * Ideal.rsqrt (Ideal.div (∑ l : Fin 128, retOut lg Q K V n i l * retOut lg Q K V n i l) (Ideal.ofBits .f32 0x43000000#32)
        + Ideal.ofBits .f32 0x358637BD#32)
    * (G (tok n i) e * Ideal.logistic (G (tok n i) e))

/-- The rotation of a head's lanes in pairs `(l, l + 64)` by the token's angles, given their cosines and sines. -/
def rope (cos sin : Fin 2048 → Fin 64 → EReal) (X : Rows) : Rows := fun t l =>
  if h : l.val < 64 then
    X t l * cos t ⟨l.val, h⟩ - X t ⟨l.val + 64, by omega⟩ * sin t ⟨l.val, h⟩
  else
    X t ⟨l.val - 64, by omega⟩ * sin t ⟨l.val - 64, by omega⟩ + X t l * cos t ⟨l.val - 64, by omega⟩

end Cert.Proof.Prompt

end
-- ==== Proof.Prompt.RefTables.lean ====
/-
  What the reference computes before its scan, element by element: the decays, the causal mask, and the
  rotated queries and keys in chunks.
-/
module

public import proofs.«01_k».proof.Proof.Gen.ReferenceIdeal.Step
public import proofs.«01_k».proof.Proof.Prompt.Spec

@[expose] public section

noncomputable section

namespace Cert.Proof.Prompt

open Cert.ReferenceIdeal Cert.ReferenceIdeal.Gen Cert.ReferenceIdeal.Step Idealize.ShloMosaic
open scoped BigOperators

/-- The logarithm of head `h`'s decay. -/
def lgOf (h : Fin 16) : EReal := K_main_v13 (F := Ideal) (ix1 h)

/-- The cosine of a token's angle of a lane pair, and the sine. -/
def cosOf (t : Fin 2048) (l : Fin 64) : EReal := K_main_v27 (F := Ideal) (ix2 t l)

def sinOf (t : Fin 2048) (l : Fin 64) : EReal := K_main_v29 (F := Ideal) (ix2 t l)

/-- The projected columns of one part (0 the queries, 1 the keys, 2 the values, 3 the gate), batch row and head. -/
def headRows (arg : Vec Ideal S9216x8192 .f32) (p : Fin 4) (b : Fin 4) (h : Fin 16) : Rows := fun t l =>
  arg (ix2 ⟨2048 * b.val + t.val, by omega⟩ ⟨2048 * p.val + (128 * h.val + l.val), by omega⟩)

/-- The factor of the keys, as the literal the programs hold. -/
abbrev keyScale : EReal := Ideal.ofBits .f32 0x3DB504F3#32

def queries (arg : Vec Ideal S9216x8192 .f32) (b : Fin 4) (h : Fin 16) : Rows := rope cosOf sinOf (headRows arg 0 b h)

def keys (arg : Vec Ideal S9216x8192 .f32) (b : Fin 4) (h : Fin 16) : Rows := fun t l =>
  rope cosOf sinOf (headRows arg 1 b h) t l * keyScale

theorem qdec_apply (i : Fin 128) (h : Fin 16) : K_main_v101 (F := Ideal) (ix2 i h) = qDecay (lgOf h) i := by
  pointwise [K_main_v101, K_main_v100, K_main_v99, K_main_v98, K_main_v97, K_main_v96, K_main_v95, K_main_cst_9, K_main_v94, K_main_v77]
  rfl

theorem kdec_apply (i : Fin 128) (h : Fin 16) : K_main_v109 (F := Ideal) (ix2 i h) = kDecay (lgOf h) i := by
  pointwise [K_main_v109, K_main_v108, K_main_v107, K_main_v106, K_main_v105, K_main_v104, K_main_v103, K_main_cst_10, K_main_v102, K_main_v77]
  rfl

theorem cdec_apply (h : Fin 16) : K_main_v112 (F := Ideal) (ix1 h) = cDecay (lgOf h) := by
  pointwise [K_main_v112, K_main_v111, K_main_v110, K_main_cst_11]
  rfl

theorem diff_apply (i j : Fin 128) : K_main_v82 (F := Ideal) (ix2 i j) = (((i.val : ℝ) - (j.val : ℝ) : ℝ) : EReal) := by
  have hi := num_eq i.val (by omega)
  have hj := num_eq j.val (by omega)
  pointwise [K_main_v82, K_main_v81, K_main_v80, K_main_v79, K_main_v78, K_main_v77]
  exact (congrArg₂ (fun a b : EReal => a - b) hi hj).trans (EReal.coe_sub _ _).symm

theorem causal_apply (i j : Fin 128) : K_main_v84 (F := Ideal) (ix2 i j) = if j ≤ i then 1#1 else 0#1 := by
  pointwise [K_main_v84, K_main_v83, K_main_cst_6]
  rw [diff_apply]
  have e : ((0 : EReal) ≤ (((i.val : ℝ) - (j.val : ℝ) : ℝ) : EReal)) ↔ j ≤ i := by
    rw [← EReal.coe_zero, EReal.coe_le_coe_iff, sub_nonneg, Nat.cast_le, Fin.le_def]
  by_cases h : j ≤ i
  · rw [if_pos h, decide_eq_true (e.2 h)]; rfl
  · rw [if_neg h, decide_eq_false (fun h' => h (e.1 h'))]; rfl

theorem mask_apply (h : Fin 16) (i j : Fin 128) : K_main_v93 (F := Ideal) (ix3 h i j) = mask (lgOf h) i j := by
  pointwise [K_main_v93, K_main_call1_v2, K_main_call1_v1, K_main_call1_v0, K_main_cst_8, K_main_v92, K_main_v91, K_main_v90, K_main_v89, K_main_v88, K_main_v87, K_main_v86, K_main_v85]
  rw [causal_apply, diff_apply]
  unfold mask
  by_cases hij : j ≤ i
  · rw [if_pos hij, if_pos hij]
    rfl
  · rw [if_neg hij, if_neg hij]
    exact Ideal.ofBits_zero_f32

end Cert.Proof.Prompt

end
-- ==== Proof.Prompt.Tables.lean ====
/-
  The tables the kernel's host code prepares, element by element: the decay of a head, and the cosines and
  signed sines of the tokens' angles, each twice along the lanes. They are made of the reference's own decays,
  cosines and sines.
-/
module

public import proofs.«01_k».proof.Proof.Gen.KernelIdeal.Value
public import proofs.«01_k».proof.Proof.Prompt.RefTables

@[expose] public section

noncomputable section

namespace Cert.Proof.Prompt

open Cert.KernelIdeal Cert.KernelIdeal.Gen Idealize.ShloMosaic Idealize.ShloMosaic.TcCoe Idealize.SL.Sem

variable (m : (ℓ : Loc nD τ sig) → Buf (Elt Ideal) ℓ) (c : Dev nD)

set_option maxRecDepth 8192 in
theorem decayTable_eq : V m c main_v9 = broadcastInDim S16x8x128 ![0, 1, 2] bcast_S16x1x1_S16x8x128_0_1_2
    (broadcastInDim S16x1x1 ![0] bcast_S16_S16x1x1_0 (Cert.ReferenceIdeal.Step.K_main_v13 (F := Ideal))) := by
  dsimp only [V, hostOps0]
  after_results
  rfl

set_option maxRecDepth 8192 in
theorem cosTable_eq : V m c main_v25 = concatenate S2048x128 1
    [⟨S2048x64, Cert.ReferenceIdeal.Step.K_main_v27 (F := Ideal)⟩, ⟨S2048x64, Cert.ReferenceIdeal.Step.K_main_v27 (F := Ideal)⟩]
    concatenates_S2048x64_S2048x64_S2048x128_d1 := by
  dsimp only [V, hostOps0]
  after_results
  rfl

set_option maxRecDepth 8192 in
theorem sinTable_eq : V m c main_v27 = concatenate S2048x128 1
    [⟨S2048x64, (Host.negf (F := Ideal) (s := S2048x64) (φ := .f32) (Cert.ReferenceIdeal.Step.K_main_v29 (F := Ideal)))⟩,
      ⟨S2048x64, Cert.ReferenceIdeal.Step.K_main_v29 (F := Ideal)⟩]
    concatenates_S2048x64_S2048x64_S2048x128_d1 := by
  dsimp only [V, hostOps0]
  after_results
  rfl

theorem spread_apply (x : Vec Ideal S16 .f32) (h : Fin 16) (s : Fin 8) (l : Fin 128) :
    broadcastInDim S16x8x128 ![0, 1, 2] bcast_S16x1x1_S16x8x128_0_1_2 (broadcastInDim S16x1x1 ![0] bcast_S16_S16x1x1_0 x) (ix3 h s l)
      = x (ix1 h) := by
  pointwise

theorem twice_apply (x y : Vec Ideal S2048x64 .f32) (t : Fin 2048) (l : Fin 128) :
    (concatenate S2048x128 1 [⟨S2048x64, x⟩, ⟨S2048x64, y⟩] concatenates_S2048x64_S2048x64_S2048x128_d1 : Vec Ideal S2048x128 .f32)
      (ix2 t l) = if h : l.val < 64 then x (ix2 t ⟨l.val, h⟩) else y (ix2 t ⟨l.val - 64, by omega⟩) := by
  pointwise

/-- The decay table holds a head's decay in every row and lane. -/
theorem decayTable_apply (h : Fin 16) (s : Fin 8) (l : Fin 128) : V m c main_v9 (ix3 h s l) = lgOf h := by
  rw [decayTable_eq]; exact spread_apply _ h s l

/-- The cosine table, along the lanes. -/
theorem cosTable_apply (t : Fin 2048) (l : Fin 128) :
    V m c main_v25 (ix2 t l) = if h : l.val < 64 then cosOf t ⟨l.val, h⟩ else cosOf t ⟨l.val - 64, by omega⟩ := by
  rw [cosTable_eq]; exact twice_apply _ _ t l

/-- The sine table, along the lanes: the lower half with the sign turned. -/
theorem sinTable_apply (t : Fin 2048) (l : Fin 128) :
    V m c main_v27 (ix2 t l) = if h : l.val < 64 then -sinOf t ⟨l.val, h⟩ else sinOf t ⟨l.val - 64, by omega⟩ := by
  rw [sinTable_eq]; exact twice_apply _ _ t l

end Cert.Proof.Prompt

end
-- ==== Proof.Prompt.Staged.lean ====
/-
  What the kernel's windows stage at a grid point, element by element: at batch row `b` and head `h` the columns of
  the projection that belong to them, the whole tables, and the head's decay.
-/
module

public import proofs.«01_k».proof.Proof.Prompt.Tables
public import Idealize.ShloMosaic.Lib.Pipeline.ValueKit

@[expose] public section

noncomputable section

namespace Cert.Proof.Prompt

open Cert.KernelIdeal Cert.KernelIdeal.Gen Idealize.ShloMosaic Idealize.ShloMosaic.TcCoe Idealize.SL.Sem

variable (m : (ℓ : Loc nD τ sig) → Buf (Elt Ideal) ℓ) (c : Dev nD)

/-- The projection. -/
abbrev proj : Vec Ideal S9216x8192 .f32 := m ((c.tc : Thread nD τ).loc main_arg0)

/-- The grid point of a batch row and a head. -/
def point (b : Fin 4) (h : Fin 16) : Fin cfg0.N :=
  ⟨16 * b.val + h.val, lt_of_lt_of_eq (show 16 * b.val + h.val < 64 by omega) (by decide +kernel : 64 = cfg0.N)⟩

theorem index_part (b : Fin 4) (h : Fin 16) :
    win0_0.index (point b h) = ![b.val, h.val] ∧ win0_1.index (point b h) = ![b.val, 16 + h.val]
      ∧ win0_2.index (point b h) = ![b.val, 32 + h.val] ∧ win0_3.index (point b h) = ![b.val, 48 + h.val] := by
  revert b h; decide +kernel

theorem index_table (b : Fin 4) (h : Fin 16) :
    win0_4.index (point b h) = ![0, 0] ∧ win0_5.index (point b h) = ![0, 0] ∧ win0_6.index (point b h) = ![h.val, 0, 0] := by
  revert b h; decide +kernel

theorem index_out (b : Fin 4) (h : Fin 16) :
    win0_7.index (point b h) = ![b.val, h.val] ∧ win0_8.index (point b h) = ![b.val, h.val, 0, 0] := by
  revert b h; decide +kernel

theorem cosBlock_apply (b : Fin 4) (h : Fin 16) (t : Fin 2048) (l : Fin 128) :
    iblk m c 4 (point b h) (ix2 t l) = V m c main_v25 (ix2 t l) := by
  have e := (index_table b h).1
  blk_simp [iblk]
  congr 1
  blk_ext [e]

theorem sinBlock_apply (b : Fin 4) (h : Fin 16) (t : Fin 2048) (l : Fin 128) :
    iblk m c 5 (point b h) (ix2 t l) = V m c main_v27 (ix2 t l) := by
  have e := (index_table b h).2.1
  blk_simp [iblk]
  congr 1
  blk_ext [e]

theorem decayBlock_apply (b : Fin 4) (h : Fin 16) (s : Fin 8) (l : Fin 128) :
    iblk m c 6 (point b h) (ix3 0 s l) = V m c main_v9 (ix3 h s l) := by
  have e := (index_table b h).2.2
  blk_simp [iblk]
  congr 1
  blk_ext [e]

theorem staged0_apply (b : Fin 4) (h : Fin 16) (t : Fin 2048) (l : Fin 128) :
    X0_0 m c (point b h) (ix2 t l) = headRows (proj m c) 0 b h t l := by
  have e := (index_part b h).1
  unfold X0_0 Pipeline.Window.fill headRows
  rw [dif_pos (moved0_0 _ _), show proj m c = V m c main_arg0 from (V_main_arg0 m c).symm]
  blk_simp [iblk]
  congr 1
  blk_ext [e]

theorem staged1_apply (b : Fin 4) (h : Fin 16) (t : Fin 2048) (l : Fin 128) :
    X0_1 m c (point b h) (ix2 t l) = headRows (proj m c) 1 b h t l := by
  have e := (index_part b h).2.1
  unfold X0_1 Pipeline.Window.fill headRows
  rw [dif_pos (moved0_1 _ _), show proj m c = V m c main_arg0 from (V_main_arg0 m c).symm]
  blk_simp [iblk]
  congr 1
  blk_ext [e]

theorem staged2_apply (b : Fin 4) (h : Fin 16) (t : Fin 2048) (l : Fin 128) :
    X0_2 m c (point b h) (ix2 t l) = headRows (proj m c) 2 b h t l := by
  have e := (index_part b h).2.2.1
  unfold X0_2 Pipeline.Window.fill headRows
  rw [dif_pos (moved0_2 _ _), show proj m c = V m c main_arg0 from (V_main_arg0 m c).symm]
  blk_simp [iblk]
  congr 1
  blk_ext [e]

theorem staged3_apply (b : Fin 4) (h : Fin 16) (t : Fin 2048) (l : Fin 128) :
    X0_3 m c (point b h) (ix2 t l) = headRows (proj m c) 3 b h t l := by
  have e := (index_part b h).2.2.2
  unfold X0_3 Pipeline.Window.fill headRows
  rw [dif_pos (moved0_3 _ _), show proj m c = V m c main_arg0 from (V_main_arg0 m c).symm]
  blk_simp [iblk]
  congr 1
  blk_ext [e]

end Cert.Proof.Prompt

end
-- ==== Proof.Prompt.Trip.lean ====
/-
  One chunk of the kernel's loop: what it carries on and what it stores.

  A grid point of the kernel walks the 2048 tokens of one batch row in sixteen chunks of 128. Here the
  chunk's effect is read off: with `rows x k` for the 128 rows of chunk `k` of a staged block `x`, the
  carried state becomes `k0_pay14` of the chunk's rows and the stored rows are `k0_pay8` of them.
-/
module

public import proofs.«01_k».proof.Proof.Gen.KernelIdeal.Value

@[expose] public section

noncomputable section

namespace Cert.Proof.Prompt

open Cert.KernelIdeal Cert.KernelIdeal.Gen Idealize.ShloMosaic Idealize.ShloMosaic.TcCoe Idealize.SL.Sem

variable {F : FTy → Type} [FloatOps F]

/-- The rectangle of chunk `k`: rows `128 k` up to `128 k + 127`, every lane. -/
abbrev chunkRect (k : Fin k0_t1_loop.trips) : Rect S2048x128 :=
  Rect.unit (s := S2048x128) (k0_off1 k) S128x128.size (k0_off1_inb k)

/-- The rows of chunk `k` of a staged block. -/
def rows (x : Vec F S2048x128 .f32) (k : Fin k0_t1_loop.trips) : Vec F S128x128 .f32 :=
  View.ld x (chunkRect k)

/-- What the loop carries out of chunk `k`, from what it carried in. -/
def carry (x1 x2 x4 x5 : Vec F S2048x128 .f32) (v0 : Vec F S1x1x128 .f32) (k : Fin k0_t1_loop.trips)
    (acc : FVec F S128x128 .f32) : FVec F S128x128 .f32 :=
  k0_pay14 (k0_pay5 v0) (k0_pay6 v0) acc (rows x4 k) (rows x5 k) (rows x1 k) (rows x2 k)

/-- What chunk `k` stores into its rows of the result. -/
def stored (x0 x1 x2 x3 x4 x5 : Vec F S2048x128 .f32) (v0 : Vec F S1x1x128 .f32) (k : Fin k0_t1_loop.trips)
    (acc : FVec F S128x128 .f32) : FVec F S128x128 .bf16 :=
  k0_pay8 (k0_pay13 (k0_pay2 v0) (k0_pay4 v0) acc (rows x4 k) (rows x5 k) (rows x0 k) (rows x1 k) (rows x2 k))
    (rows x3 k)
    (k0_pay15 (k0_pay2 v0) (k0_pay4 v0) acc (rows x4 k) (rows x5 k) (rows x0 k) (rows x1 k) (rows x2 k))
    (Scalar.ofBits .f32 0x358637BD#32)

variable (𝒱 : Variants) (c : Dev nD) (bd : Option 𝒱.V) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S1x8x128 .f32) (harg8 : arg8.IsWhole) (arg9 : Memref sig .tc .vmem S2048x128 .bf16) (harg9 : arg9.IsWhole)
  (arg10 : Memref sig .tc .vmem S1x1x128x128 .f32) (harg10 : arg10.IsWhole)
  (v0 : Vec F S1x1x128 .f32) (x0 x1 x2 x3 x4 x5 : Vec F S2048x128 .f32)

set_option maxRecDepth 65536 in
/-- The carried value of the trip. -/
theorem tripR_eq (k : Fin k0_t1_loop.trips) (acc : FVec F S128x128 .f32) :
    tripR_k0_t1 𝒱 c bd i arg2 harg2 arg3 harg3 arg4 harg4 arg5 harg5 arg6 harg6 arg7 harg7 arg8 harg8 arg9 harg9 arg10 harg10 v0
      (harg2.unread x0) (harg3.unread x1) (harg4.unread x2) (harg5.unread x3) (harg6.unread x4) (harg7.unread x5) k acc
      = carry x1 x2 x4 x5 v0 k acc := by
  unfold tripR_k0_t1 trip_k0_t1
  dsimp only
  sl_unfold_words
  simp only [View.readAt_eq_ld, harg2.read_unread, harg3.read_unread, harg4.read_unread, harg5.read_unread, harg6.read_unread,
    harg7.read_unread]
  rfl

set_option maxRecDepth 65536 in
/-- The one store of the trip. -/
theorem tripL_eq (k : Fin k0_t1_loop.trips) (acc : FVec F S128x128 .f32) :
    tripL_k0_t1 𝒱 c bd i arg2 harg2 arg3 harg3 arg4 harg4 arg5 harg5 arg6 harg6 arg7 harg7 arg8 harg8 arg9 harg9 arg10 harg10 v0
      (harg2.unread x0) (harg3.unread x1) (harg4.unread x2) (harg5.unread x3) (harg6.unread x4) (harg7.unread x5) k acc
      = [⟨chunkRect k, stored x0 x1 x2 x3 x4 x5 v0 k acc⟩] := by
  unfold tripL_k0_t1 trip_k0_t1
  dsimp only
  sl_unfold_words
  simp only [View.readAt_eq_ld, harg2.read_unread, harg3.read_unread, harg4.read_unread, harg5.read_unread, harg6.read_unread,
    harg7.read_unread]
  rfl

/-- The loop's state after chunks `0 … n-1` on the staged blocks. -/
abbrev loopSt (n : ℕ) : FVec F S128x128 .f32 × List (View.Piece (Elt F) S2048x128 .bf16) :=
  st_k0_t1 𝒱 c bd i arg2 harg2 arg3 harg3 arg4 harg4 arg5 harg5 arg6 harg6 arg7 harg7 arg8 harg8 arg9 harg9 arg10 harg10 v0
    (harg2.unread x0) (harg3.unread x1) (harg4.unread x2) (harg5.unread x3) (harg6.unread x4) (harg7.unread x5) (k0_pay7 (F := F)) n

/-- What the loop carries into chunk `n`. -/
def carried : ℕ → FVec F S128x128 .f32
  | 0 => k0_pay7
  | n + 1 => if h : n < k0_t1_loop.trips then carry x1 x2 x4 x5 v0 ⟨n, h⟩ (carried n) else carried n

theorem carried_succ (k : Fin k0_t1_loop.trips) :
    carried v0 x1 x2 x4 x5 (k.val + 1) = carry x1 x2 x4 x5 v0 k (carried v0 x1 x2 x4 x5 k.val) := by
  rw [carried, dif_pos k.isLt]

/-- The generated state's carried value is `carried`. -/
theorem loopSt_carried : ∀ (n : ℕ) (hn : n ≤ k0_t1_loop.trips),
    (loopSt 𝒱 c bd i arg2 harg2 arg3 harg3 arg4 harg4 arg5 harg5 arg6 harg6 arg7 harg7 arg8 harg8 arg9 harg9 arg10 harg10
      v0 x0 x1 x2 x3 x4 x5 n).1 = carried v0 x1 x2 x4 x5 n
  | 0, _ => rfl
  | n + 1, hn => by
    have ih := loopSt_carried n (Nat.le_of_succ_le hn)
    have h := st_k0_t1_succ 𝒱 c bd i arg2 harg2 arg3 harg3 arg4 harg4 arg5 harg5 arg6 harg6 arg7 harg7 arg8 harg8 arg9 harg9
      arg10 harg10 v0 (harg2.unread x0) (harg3.unread x1) (harg4.unread x2) (harg5.unread x3) (harg6.unread x4)
      (harg7.unread x5) (k0_pay7 (F := F)) ⟨n, hn⟩
    refine (congrArg Prod.fst h).trans ((tripR_eq ..).trans ?_)
    rw [carried_succ v0 x1 x2 x4 x5 ⟨n, hn⟩]
    exact congrArg (carry x1 x2 x4 x5 v0 ⟨n, hn⟩) ih

/-- Every store so far is a chunk's. -/
theorem loopSt_pieces : ∀ (n : ℕ) (hn : n ≤ k0_t1_loop.trips) (p : View.Piece (Elt F) S2048x128 .bf16) (hp : p ∈
    (loopSt 𝒱 c bd i arg2 harg2 arg3 harg3 arg4 harg4 arg5 harg5 arg6 harg6 arg7 harg7 arg8 harg8 arg9 harg9 arg10 harg10
      v0 x0 x1 x2 x3 x4 x5 n).2), ∃ k : Fin k0_t1_loop.trips,
        p = ⟨chunkRect k, stored x0 x1 x2 x3 x4 x5 v0 k (carried v0 x1 x2 x4 x5 k.val)⟩
  | 0, _, p, hp => absurd hp List.not_mem_nil
  | n + 1, hn, p, hp => by
    have h := st_k0_t1_succ 𝒱 c bd i arg2 harg2 arg3 harg3 arg4 harg4 arg5 harg5 arg6 harg6 arg7 harg7 arg8 harg8 arg9 harg9
      arg10 harg10 v0 (harg2.unread x0) (harg3.unread x1) (harg4.unread x2) (harg5.unread x3) (harg6.unread x4)
      (harg7.unread x5) (k0_pay7 (F := F)) ⟨n, hn⟩
    have hp' := (congrArg Prod.snd h) ▸ hp
    rcases List.mem_append.mp hp' with hp | hp
    · rw [tripL_eq] at hp
      refine ⟨⟨n, hn⟩, (List.mem_singleton.mp hp).trans ?_⟩
      rw [loopSt_carried _ _ _ _ _ _ _ _ _ _ _ _ _ _ _ _ _ _ _ _ _ _ _ _ _ _ _ _ _ n (Nat.le_of_succ_le hn)]
    · exact loopSt_pieces n (Nat.le_of_succ_le hn) p hp

end Cert.Proof.Prompt

end
-- ==== Proof.Prompt.Block.lean ====
/-
  What a grid point leaves in its two result blocks, from its staged input blocks.

  The first block holds, chunk by chunk, the stored rows; the second holds what the loop carries out
  of its last chunk.
-/
module

public import proofs.«01_k».proof.Proof.Prompt.Trip
public import Idealize.ShloMosaic.Lib.Pointwise
public import Idealize.ShloMosaic.Lib.Pipeline.ValueKit.Tiles

@[expose] public section

noncomputable section

namespace Cert.Proof.Prompt

open Cert.KernelIdeal Cert.KernelIdeal.Gen Idealize.ShloMosaic Idealize.ShloMosaic.TcCoe Idealize.SL.Sem

attribute [local irreducible] st_k0_t1 stored carried

variable {F : FTy → Type} [FloatOps F]

/-- The loop runs sixteen times. -/
theorem trips_eq : k0_t1_loop.trips = 16 := by decide +kernel

/-- Rows of a chunk are rows of the block. -/
theorem chunk_lt (k : Fin k0_t1_loop.trips) (r : Fin 128) : 128 * k.val + r.val < 2048 := by
  have h : k.val < 16 := lt_of_lt_of_eq k.isLt trips_eq
  omega

/-- The decay row of the staged decay block: its first row. -/
abbrev decayRow (x6 : Vec F S1x8x128 .f32) : Vec F S1x1x128 .f32 :=
  View.ld x6 (Rect.unit (s := S1x8x128) ![0, 0, 0] S1x1x128.size inb_S1x8x128_S1x1x128_0_0_0)

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S1x8x128 .f32) (harg8 : arg8.IsWhole) (arg9 : Memref sig .tc .vmem S2048x128 .bf16) (harg9 : arg9.IsWhole)
  (arg10 : Memref sig .tc .vmem S1x1x128x128 .f32) (harg10 : arg10.IsWhole)
  (x0 x1 x2 x3 x4 x5 : Vec F S2048x128 .f32) (x6 : Vec F S1x8x128 .f32)

/-- The element of a block at row `r` of chunk `k`. -/
theorem chunk_emb (k : Fin k0_t1_loop.trips) (r l : Fin 128) :
    (chunkRect k).emb (ix2 r l) = ix2 (⟨128 * k.val + r.val, chunk_lt k r⟩ : Fin 2048) l := by
  funext a
  apply Fin.ext
  rw [show (chunkRect k).emb (ix2 r l) = (chunkRect k).idx (ix2 r l) from rfl, Rect.idx_unit_val, congrFun (k0_off1_eq k) a]
  match a with
  | ⟨0, _⟩ => rfl
  | ⟨1, _⟩ => exact Nat.zero_add _

/-- Row `r` of chunk `k` of a staged block. -/
theorem rows_apply (x : Vec F S2048x128 .f32) (k : Fin k0_t1_loop.trips) (r l : Fin 128) :
    rows x k (ix2 r l) = x (ix2 (⟨128 * k.val + r.val, chunk_lt k r⟩ : Fin 2048) l) :=
  congrArg x (chunk_emb k r l)

/-- The chunk a row lies in. -/
def chunkOf (y : S2048x128.Idx) : Fin k0_t1_loop.trips :=
  ⟨(y 0).val / 128, lt_of_lt_of_eq (Nat.div_lt_of_lt_mul (y 0).isLt) trips_eq.symm⟩

/-- Where a row lies in its chunk. -/
def inChunk (y : S2048x128.Idx) : S128x128.Idx :=
  ix2 (⟨(y 0).val % 128, Nat.mod_lt _ (by decide)⟩ : Fin 128) (⟨(y 1).val, (y 1).isLt⟩ : Fin 128)

/-- The whole first result block, as one function of the row. -/
def outRow (y : S2048x128.Idx) : Elt F .bf16 :=
  stored x0 x1 x2 x3 x4 x5 (decayRow x6) (chunkOf y) (carried (decayRow x6) x1 x2 x4 x5 (chunkOf y).val) (inChunk y)

theorem chunkOf_emb (k : Fin k0_t1_loop.trips) (r l : Fin 128) :
    chunkOf (ix2 (⟨128 * k.val + r.val, chunk_lt k r⟩ : Fin 2048) l) = k :=
  Fin.ext (show (128 * k.val + r.val) / 128 = k.val by omega)

theorem inChunk_emb (k : Fin k0_t1_loop.trips) (r l : Fin 128) :
    inChunk (ix2 (⟨128 * k.val + r.val, chunk_lt k r⟩ : Fin 2048) l) = ix2 r l := by
  have hm : (⟨(128 * k.val + r.val) % 128, Nat.mod_lt _ (by decide)⟩ : Fin 128) = r :=
    Fin.ext (show (128 * k.val + r.val) % 128 = r.val by omega)
  exact congrArg (fun q : Fin 128 => (ix2 q l : S128x128.Idx)) hm

/-- A chunk's store is that function on the chunk's rows. -/
theorem stored_eq_outRow (k : Fin k0_t1_loop.trips) (x : S128x128.Idx) :
    stored x0 x1 x2 x3 x4 x5 (decayRow x6) k (carried (decayRow x6) x1 x2 x4 x5 k.val) x
      = outRow x0 x1 x2 x3 x4 x5 x6 ((chunkRect k).emb x) := by
  obtain ⟨r, l, rfl⟩ : ∃ r l : Fin 128, x = ix2 r l := ⟨x 0, x 1, eq_ix2 x⟩
  rw [chunk_emb, outRow, chunkOf_emb, inChunk_emb]

/-- The first result block. -/
theorem out7_eq : out0_A_7 c i arg2 harg2 arg3 harg3 arg4 harg4 arg5 harg5 arg6 harg6 arg7 harg7 arg8 harg8 arg9 harg9 arg10 harg10
      x0 x1 x2 x3 x4 x5 x6 = outRow x0 x1 x2 x3 x4 x5 x6 := by
  have hcov := cover0_A_7 c i arg2 harg2 arg3 harg3 arg4 harg4 arg5 harg5 arg6 harg6 arg7 harg7 arg8 harg8 arg9 harg9 arg10 harg10
      x0 x1 x2 x3 x4 x5 x6
  unfold out0_A_7
  rw [View.read_writes_eq_canon _ _ _ hcov]
  funext y
  refine View.canon_apply_of_pieces (outRow x0 x1 x2 x3 x4 x5 x6) _ ?_ y (hcov y)
  intro p hp x
  have hp' : p ∈ (loopSt Variants.none c none i arg2 harg2 arg3 harg3 arg4 harg4 arg5 harg5 arg6 harg6 arg7 harg7 arg8 harg8
      arg9 harg9 arg10 harg10 (decayRow x6) x0 x1 x2 x3 x4 x5 k0_t1_loop.trips).2 := by
    have hv : View.readAt (Elt F) arg8.view (Rect.unit (s := S1x8x128) ![0, 0, 0] S1x1x128.size inb_S1x8x128_S1x1x128_0_0_0) (harg8.unread x6)
        = decayRow x6 := by rw [View.readAt_eq_ld, harg8.read_unread]
    rw [← hv]
    unfold kernelRun0_A at hp
    dsimp only at hp
    exact hp
  obtain ⟨k, rfl⟩ := loopSt_pieces (hn := le_refl k0_t1_loop.trips) (hp := hp')
  exact stored_eq_outRow x0 x1 x2 x3 x4 x5 x6 k x

/-- The second result block. -/
theorem out8_eq : out0_A_8 c i arg2 harg2 arg3 harg3 arg4 harg4 arg5 harg5 arg6 harg6 arg7 harg7 arg8 harg8 arg9 harg9 arg10 harg10
      x0 x1 x2 x3 x4 x5 x6 = k0_pay9 (carried (decayRow x6) x1 x2 x4 x5 k0_t1_loop.trips) := by
  have hcov := cover0_A_8 c i arg2 harg2 arg3 harg3 arg4 harg4 arg5 harg5 arg6 harg6 arg7 harg7 arg8 harg8 arg9 harg9 arg10 harg10
      x0 x1 x2 x3 x4 x5 x6
  unfold out0_A_8
  rw [View.read_writes_eq_canon _ _ _ hcov]
  unfold kernelRun0_A
  dsimp only
  sl_unfold_words
  refine (View.canon_cons_unit_zero (by funext a; fin_cases a <;> rfl) _ _ _).trans ?_
  refine congrArg k0_pay9 ?_
  simp only [View.readAt_eq_ld, harg8.read_unread]
  have hn : ∀ n, n = k0_t1_loop.trips → (loopSt Variants.none c none i arg2 harg2 arg3 harg3 arg4 harg4 arg5 harg5 arg6 harg6 arg7
      harg7 arg8 harg8 arg9 harg9 arg10 harg10 (decayRow x6) x0 x1 x2 x3 x4 x5 n).1 = carried (decayRow x6) x1 x2 x4 x5 k0_t1_loop.trips := by
    intro n h
    rw [loopSt_carried (hn := h.le), h]
  exact hn _ rfl

end Cert.Proof.Prompt

end
-- ==== Proof.Prompt.Chunk.lean ====
/-
  The kernel's block, element by element: the state it carries and the rows it stores are the
  retention of `Spec.lean`, of the staged queries, keys, values and gate.
-/
module

public import proofs.«01_k».proof.Proof.Prompt.Block
public import proofs.«01_k».proof.Proof.Prompt.Spec

@[expose] public section

noncomputable section

namespace Cert.Proof.Prompt

open Cert.KernelIdeal Cert.KernelIdeal.Gen Idealize.ShloMosaic Idealize.ShloMosaic.TcCoe Idealize.SL.Sem
open scoped BigOperators

/-- The lane a rotation by 64 brings to lane `l`. -/
def swap (l : Fin 128) : Fin 128 := ⟨(l.val + 128 - 64) % 128, Nat.mod_lt _ (by decide)⟩

/-- The chunk number of a trip. -/
def chunk (k : Fin k0_t1_loop.trips) : Fin 16 := ⟨k.val, lt_of_lt_of_eq k.isLt trips_eq⟩

theorem rows_tok (x : Vec Ideal S2048x128 .f32) (k : Fin k0_t1_loop.trips) (r l : Fin 128) :
    rows x k (ix2 r l) = x (ix2 (tok (chunk k) r) l) := rows_apply x k r l

/-- Small index words compare as their numbers. -/
theorem sge_ofNat (i j : Fin 128) :
    IntOp.cmpi .sge (BitVec.ofNat 32 i.val) (BitVec.ofNat 32 j.val) = if j ≤ i then 1#1 else 0#1 := by
  revert i j; decide +kernel

/-- Small index words subtract as their numbers, where the difference is not negative. -/
theorem toInt_sub_ofNat (i j : Fin 128) (h : j ≤ i) :
    (BitVec.ofNat 32 i.val - BitVec.ofNat 32 j.val).toInt = (i.val : ℤ) - (j.val : ℤ) := by
  revert i j; decide +kernel

/-- The rotated and scaled keys of a chunk, of its rows. -/
theorem pay12_apply (c s k : Vec Ideal S128x128 .f32) (j d : Fin 128) :
    k0_pay12 c s k (ix2 j d)
      = (k (ix2 j d) * c (ix2 j d) + k (ix2 j (swap d)) * s (ix2 j d)) * Ideal.ofBits .f32 0x3DB504F3#32 := by
  pointwise [k0_pay12, k0_pay10, k0_pay11]
  rfl

/-- The state after a chunk, of its rows. -/
theorem pay14_apply (kd : Vec Ideal S128x128 .f32) (cd : Vec Ideal S1x128 .f32) (acc c s k v : Vec Ideal S128x128 .f32) (d e : Fin 128) :
    k0_pay14 (F := Ideal) kd cd acc c s k v (ix2 d e)
      = acc (ix2 d e) * cd (ix2 0 e) + ∑ j : Fin 128, k0_pay12 c s k (ix2 j d) * kd (ix2 j d) * v (ix2 j e) := by
  pointwise [k0_pay14]

/-- A chunk's retention, of its rows. -/
theorem pay13_apply (m qd acc c s q k v : Vec Ideal S128x128 .f32) (i e : Fin 128) :
    k0_pay13 (F := Ideal) m qd acc c s q k v (ix2 i e)
      = (∑ j : Fin 128, (∑ d : Fin 128, (q (ix2 i d) * c (ix2 i d) + q (ix2 i (swap d)) * s (ix2 i d)) * k0_pay12 c s k (ix2 j d))
            * m (ix2 i j) * v (ix2 j e))
        + ∑ d : Fin 128, (q (ix2 i d) * c (ix2 i d) + q (ix2 i (swap d)) * s (ix2 i d)) * qd (ix2 i d) * acc (ix2 d e) := by
  pointwise [k0_pay13, k0_pay10, k0_pay11]
  rfl

/-- The stored rows, of the retention's and the gate's. -/
theorem pay8_apply (o g : Vec Ideal S128x128 .f32) (ms : Vec Ideal S128x1 .f32) (ep : EReal) (i e : Fin 128) :
    k0_pay8 (F := Ideal) o g ms ep (ix2 i e)
      = o (ix2 i e) * Ideal.rsqrt (ms (ix2 i 0) + ep) * (g (ix2 i e) * Ideal.logistic (g (ix2 i e))) := by
  pointwise [k0_pay8]

/-- The mean of squares of a retention row. -/
theorem pay15_apply (m qd acc c s q k v : Vec Ideal S128x128 .f32) (i : Fin 128) :
    k0_pay15 (F := Ideal) m qd acc c s q k v (ix2 i 0)
      = Ideal.div (∑ l : Fin 128, k0_pay13 m qd acc c s q k v (ix2 i l) * k0_pay13 m qd acc c s q k v (ix2 i l))
          (Ideal.ofBits .f32 0x43000000#32) := by
  pointwise [k0_pay15]

section
variable (v0 : Vec Ideal S1x1x128 .f32) (lg : EReal) (hlg : ∀ l : Fin 128, v0 (ix3 0 0 l) = lg)
include hlg

theorem pay2_apply (i j : Fin 128) : k0_pay2 v0 (ix2 i j) = mask lg i j := by
  pointwise [k0_pay2, k0_pay1]
  rw [hlg, sge_ofNat, mask]
  by_cases h : j ≤ i
  · rw [if_pos h, if_pos h]
    show Ideal.exp ((((BitVec.ofNat 32 i.val - BitVec.ofNat 32 j.val).toInt : ℝ) : EReal) * lg) = _
    rw [toInt_sub_ofNat i j h]
    norm_num
  · rw [if_neg h, if_neg h]; rfl

theorem pay4_apply (i l : Fin 128) : k0_pay4 v0 (ix2 i l) = qDecay lg i := by
  pointwise [k0_pay4, k0_pay1, k0_pay3]
  rw [hlg]; rfl

theorem pay5_apply (j l : Fin 128) : k0_pay5 v0 (ix2 j l) = kDecay lg j := by
  pointwise [k0_pay5, k0_pay1, k0_pay3]
  rw [hlg]; rfl

theorem pay6_apply (l : Fin 128) : k0_pay6 v0 (ix2 0 l) = cDecay lg := by
  pointwise [k0_pay6, k0_pay1]
  rw [hlg]; rfl

variable (x0 x1 x2 x3 x4 x5 : Vec Ideal S2048x128 .f32) (Q K V G : Rows)
  (hQ : ∀ t l, x0 (ix2 t l) * x4 (ix2 t l) + x0 (ix2 t (swap l)) * x5 (ix2 t l) = Q t l)
  (hK : ∀ t l, (x1 (ix2 t l) * x4 (ix2 t l) + x1 (ix2 t (swap l)) * x5 (ix2 t l)) * Ideal.ofBits .f32 0x3DB504F3#32 = K t l)
  (hV : ∀ t l, x2 (ix2 t l) = V t l) (hG : ∀ t l, x3 (ix2 t l) = G t l)

omit hlg in
include hK in
/-- The rotated and scaled keys of a chunk. -/
theorem keys_apply (k : Fin k0_t1_loop.trips) (j d : Fin 128) :
    k0_pay12 (rows x4 k) (rows x5 k) (rows x1 k) (ix2 j d) = K (tok (chunk k) j) d := by
  rw [pay12_apply, ← hK]
  simp only [rows_tok]

include hK hV in
/-- The carried state moves as `state` does. -/
theorem carry_apply (k : Fin k0_t1_loop.trips) (acc : Vec Ideal S128x128 .f32) (d e : Fin 128) :
    carry x1 x2 x4 x5 v0 k acc (ix2 d e)
      = acc (ix2 d e) * cDecay lg + ∑ j : Fin 128, K (tok (chunk k) j) d * kDecay lg j * V (tok (chunk k) j) e := by
  unfold carry
  simp only [pay14_apply, keys_apply x1 x4 x5 K hK, pay5_apply v0 lg hlg, pay6_apply v0 lg hlg, rows_tok, hV]

include hK hV in
/-- What the loop carries into chunk `n` is the state before it. -/
theorem carried_apply : ∀ (n : ℕ) (_ : n ≤ k0_t1_loop.trips) (d e : Fin 128),
    carried v0 x1 x2 x4 x5 n (ix2 d e) = state lg K V n d e
  | 0, _, d, e => by
    show k0_pay7 (F := Ideal) (ix2 d e) = 0
    pointwise [k0_pay7]
  | n + 1, hn, d, e => by
    rw [carried_succ v0 x1 x2 x4 x5 ⟨n, hn⟩, carry_apply v0 lg hlg x1 x2 x4 x5 K V hK hV,
      carried_apply n (Nat.le_of_succ_le hn)]
    exact (state_succ lg K V (chunk ⟨n, hn⟩) d e).symm

include hQ hK hV in
/-- A chunk's retention. -/
theorem ret_apply (k : Fin k0_t1_loop.trips) (i e : Fin 128) :
    k0_pay13 (k0_pay2 v0) (k0_pay4 v0) (carried v0 x1 x2 x4 x5 k.val) (rows x4 k) (rows x5 k) (rows x0 k) (rows x1 k) (rows x2 k)
      (ix2 i e) = retOut lg Q K V (chunk k) i e := by
  simp only [pay13_apply, keys_apply x1 x4 x5 K hK, pay2_apply v0 lg hlg, pay4_apply v0 lg hlg,
    carried_apply v0 lg hlg x1 x2 x4 x5 K V hK hV k.val k.isLt.le, rows_tok, hV, hQ]
  rfl

include hQ hK hV hG in
/-- What a chunk stores. -/
theorem stored_apply (k : Fin k0_t1_loop.trips) (i e : Fin 128) :
    stored x0 x1 x2 x3 x4 x5 v0 k (carried v0 x1 x2 x4 x5 k.val) (ix2 i e) = gated lg Q K V G (chunk k) i e := by
  unfold stored
  simp only [pay8_apply, pay15_apply, ret_apply v0 lg hlg x0 x1 x2 x4 x5 Q K V hQ hK hV, rows_tok, hG]
  rfl
end

end Cert.Proof.Prompt

end
-- ==== Proof.Prompt.KernelValue.lean ====
/-
  The kernel's two result arrays, element by element: the gated retention of every batch row and head, and the
  states after the last chunk, of the functions of the projection that the reference computes them from.
-/
module

public import proofs.«01_k».proof.Proof.Prompt.Staged
public import proofs.«01_k».proof.Proof.Prompt.Chunk

@[expose] public section

noncomputable section

namespace Cert.Proof.Prompt

open Cert.KernelIdeal Cert.KernelIdeal.Gen Idealize.ShloMosaic Idealize.ShloMosaic.TcCoe Idealize.SL.Sem

/-- Rotating lanes and turning a sign is the rotation in pairs. -/
theorem rope_of_swap (C S : Fin 2048 → Fin 128 → EReal) (cos sin : Fin 2048 → Fin 64 → EReal) (X : Rows)
    (hC : ∀ t l, C t l = if h : l.val < 64 then cos t ⟨l.val, h⟩ else cos t ⟨l.val - 64, by omega⟩)
    (hS : ∀ t l, S t l = if h : l.val < 64 then -sin t ⟨l.val, h⟩ else sin t ⟨l.val - 64, by omega⟩) (t : Fin 2048) (l : Fin 128) :
    X t l * C t l + X t (swap l) * S t l = rope cos sin X t l := by
  rw [hC, hS, rope]
  by_cases h : l.val < 64
  · have e : swap l = ⟨l.val + 64, by omega⟩ := Fin.ext (by show (l.val + 128 - 64) % 128 = l.val + 64; omega)
    rw [dif_pos h, dif_pos h, dif_pos h, e, mul_neg, sub_eq_add_neg]
  · have e : swap l = ⟨l.val - 64, by omega⟩ := Fin.ext (by show (l.val + 128 - 64) % 128 = l.val - 64; omega)
    rw [dif_neg h, dif_neg h, dif_neg h, e, add_comm]

/-- A staged block's decay row holds the head's decay. -/
theorem decayRow_apply (x6 : Vec Ideal S1x8x128 .f32) (l : Fin 128) : decayRow x6 (ix3 0 0 l) = x6 (ix3 0 0 l) := by
  refine congrArg x6 (funext fun a => Fin.ext ?_)
  rw [Rect.idx_unit_val]
  match a with
  | ⟨0, _⟩ => rfl
  | ⟨1, _⟩ => rfl
  | ⟨2, _⟩ => exact Nat.zero_add _

variable (m : (ℓ : Loc nD τ sig) → Buf (Elt Ideal) ℓ) (c : Dev nD) (b : Fin 4) (h : Fin 16)

/-- The staged blocks: queries, keys, values, gate, cosines, sines. -/
abbrev stQ : Vec Ideal S2048x128 .f32 := X0_0 m c (point b h)
abbrev stK : Vec Ideal S2048x128 .f32 := X0_1 m c (point b h)
abbrev stV : Vec Ideal S2048x128 .f32 := X0_2 m c (point b h)
abbrev stG : Vec Ideal S2048x128 .f32 := X0_3 m c (point b h)
abbrev stCos : Vec Ideal S2048x128 .f32 := iblk m c 4 (point b h)
abbrev stSin : Vec Ideal S2048x128 .f32 := iblk m c 5 (point b h)

theorem decay_staged (l : Fin 128) : decayRow (iblk m c 6 (point b h)) (ix3 0 0 l) = lgOf h :=
  (decayRow_apply _ l).trans ((decayBlock_apply m c b h 0 l).trans (decayTable_apply m c h 0 l))

theorem queries_staged (t : Fin 2048) (l : Fin 128) :
    stQ m c b h (ix2 t l) * stCos m c b h (ix2 t l) + stQ m c b h (ix2 t (swap l)) * stSin m c b h (ix2 t l)
      = queries (proj m c) b h t l := by
  have e0 : ∀ t l, stQ m c b h (ix2 t l) = headRows (proj m c) 0 b h t l := staged0_apply m c b h
  have e1 : ∀ t l, stCos m c b h (ix2 t l) = V m c main_v25 (ix2 t l) := cosBlock_apply m c b h
  have e2 : ∀ t l, stSin m c b h (ix2 t l) = V m c main_v27 (ix2 t l) := sinBlock_apply m c b h
  rw [e0, e0, e1, e2]
  exact rope_of_swap (fun t l => V m c main_v25 (ix2 t l)) (fun t l => V m c main_v27 (ix2 t l)) cosOf sinOf _
    (cosTable_apply m c) (sinTable_apply m c) t l

theorem keys_staged (t : Fin 2048) (l : Fin 128) :
    (stK m c b h (ix2 t l) * stCos m c b h (ix2 t l) + stK m c b h (ix2 t (swap l)) * stSin m c b h (ix2 t l))
      * Ideal.ofBits .f32 0x3DB504F3#32 = keys (proj m c) b h t l := by
  have e0 : ∀ t l, stK m c b h (ix2 t l) = headRows (proj m c) 1 b h t l := staged1_apply m c b h
  have e1 : ∀ t l, stCos m c b h (ix2 t l) = V m c main_v25 (ix2 t l) := cosBlock_apply m c b h
  have e2 : ∀ t l, stSin m c b h (ix2 t l) = V m c main_v27 (ix2 t l) := sinBlock_apply m c b h
  rw [e0, e0, e1, e2]
  exact congrArg (· * keyScale) (rope_of_swap (fun t l => V m c main_v25 (ix2 t l)) (fun t l => V m c main_v27 (ix2 t l)) cosOf sinOf _
    (cosTable_apply m c) (sinTable_apply m c) t l)

/-- The kernel's rows. -/
theorem kernelOut_apply (n : Fin 16) (i e : Fin 128) :
    (dats m 0 c).arrAt 7 cfg0.N (ix2 ⟨2048 * b.val + (tok n i).val, by omega⟩ ⟨128 * h.val + e.val, by omega⟩)
      = gated (lgOf h) (queries (proj m c) b h) (keys (proj m c) b h) (headRows (proj m c) 2 b h) (headRows (proj m c) 3 b h) n i e := by
  have hb := congrFun (Cert.KernelIdeal.Value.blocks7 m c (point b h) (flush0_7 _)) (ix2 (tok n i) e)
  rw [Cert.KernelIdeal.Value.flushed7_A, out7_eq] at hb
  have ex := (index_out b h).1
  blk_simp at hb
  have hemb : (win0_7.blk (point b h)).view.emb (ix2 (tok n i) e)
      = (ix2 ⟨2048 * b.val + (tok n i).val, by omega⟩ ⟨128 * h.val + e.val, by omega⟩ : S8192x2048.Idx) := by
    blk_ext [ex]
  rw [hemb] at hb
  refine hb.trans ?_
  have hn : chunkOf (ix2 (tok n i) e) = ⟨n.val, lt_of_lt_of_eq n.isLt trips_eq.symm⟩ := chunkOf_emb ⟨n.val, _⟩ i e
  have hi : inChunk (ix2 (tok n i) e) = ix2 i e := inChunk_emb ⟨n.val, lt_of_lt_of_eq n.isLt trips_eq.symm⟩ i e
  show outRow (stQ m c b h) (stK m c b h) (stV m c b h) (stG m c b h) (stCos m c b h) (stSin m c b h)
    (iblk m c 6 (point b h)) (ix2 (tok n i) e) = _
  rw [outRow, hn, hi]
  exact stored_apply _ (lgOf h) (decay_staged m c b h) (stQ m c b h) (stK m c b h) (stV m c b h) (stG m c b h) (stCos m c b h)
    (stSin m c b h) _ _ _ _ (queries_staged m c b h) (keys_staged m c b h) (staged2_apply m c b h) (staged3_apply m c b h)
    ⟨n.val, lt_of_lt_of_eq n.isLt trips_eq.symm⟩ i e

/-- The kernel's states. -/
theorem kernelState_apply (d e : Fin 128) :
    (dats m 0 c).arrAt 8 cfg0.N (ix4 b h d e)
      = state (lgOf h) (keys (proj m c) b h) (headRows (proj m c) 2 b h) 16 d e := by
  have hb := congrFun (Cert.KernelIdeal.Value.blocks8 m c (point b h) (flush0_8 _)) (ix4 0 0 d e)
  rw [Cert.KernelIdeal.Value.flushed8_A, out8_eq] at hb
  have ex := (index_out b h).2
  blk_simp at hb
  have hemb : (win0_8.blk (point b h)).view.emb (ix4 0 0 d e) = (ix4 b h d e : S4x16x128x128.Idx) := by
    blk_ext [ex]
  rw [hemb] at hb
  refine hb.trans ?_
  have hp : ∀ x : Vec Ideal S128x128 .f32, k0_pay9 (F := Ideal) x (ix4 0 0 d e) = x (ix2 d e) := fun x => by pointwise [k0_pay9]
  refine (hp _).trans ?_
  rw [carried_apply (decayRow (iblk m c 6 (point b h))) (lgOf h) (decay_staged m c b h) (stK m c b h) (stV m c b h) (stCos m c b h)
    (stSin m c b h) _ _ (keys_staged m c b h) (staged2_apply m c b h) _ (le_refl _), trips_eq]

end Cert.Proof.Prompt

end
-- ==== Proof.Prompt.RefChunks.lean ====
/-
  The reference's rotated queries, its rotated and scaled keys and its values, in chunks, element by element.
-/
module

public import proofs.«01_k».proof.Proof.Gen.ReferenceIdeal.Step
public import proofs.«01_k».proof.Proof.Prompt.RefTables

@[expose] public section

noncomputable section

namespace Cert.Proof.Prompt

open Cert.ReferenceIdeal Cert.ReferenceIdeal.Gen Cert.ReferenceIdeal.Step Idealize.ShloMosaic
open scoped BigOperators

/-- A table of tokens and lane pairs, over the batch rows and the heads. -/
theorem table_apply (x : Vec Ideal S2048x64 .f32) (b : Fin 4) (t : Fin 2048) (h : Fin 16) (l : Fin 64) :
    broadcastInDim S4x2048x16x64 ![0, 1, 2, 3] bcast_S1x2048x1x64_S4x2048x16x64_0_1_2_3
      (broadcastInDim S1x2048x1x64 ![1, 3] bcast_S2048x64_S1x2048x1x64_1_3 x) (ix4 b t h l) = x (ix2 t l) := by
  pointwise

/-- The lower lanes of a head. -/
theorem lower_apply (x : Vec Ideal S4x2048x16x128 .f32) (b : Fin 4) (t : Fin 2048) (h : Fin 16) (l : Fin 64) :
    extractStridedSlice S4x2048x16x64 ![0, 0, 0, 0] x slices_S4x2048x16x128_S4x2048x16x64_0_0_0_0 (ix4 b t h l)
      = x (ix4 b t h ⟨l.val, by omega⟩) := by
  pointwise

/-- The upper lanes of a head. -/
theorem upper_apply (x : Vec Ideal S4x2048x16x128 .f32) (b : Fin 4) (t : Fin 2048) (h : Fin 16) (l : Fin 64) :
    extractStridedSlice S4x2048x16x64 ![0, 0, 0, 64] x slices_S4x2048x16x128_S4x2048x16x64_0_0_0_64 (ix4 b t h l)
      = x (ix4 b t h ⟨64 + l.val, by omega⟩) := by
  pointwise

/-- The reference's rotation of an array, from its two tables. -/
def rotated (x : Vec Ideal S4x2048x16x128 .f32) (c1 s1 s2 c2 : Vec Ideal S4x2048x16x64 .f32) : Vec Ideal S4x2048x16x128 .f32 :=
  concatenate S4x2048x16x128 3
    [⟨S4x2048x16x64, (subf
        (mulf (extractStridedSlice S4x2048x16x64 ![0, 0, 0, 0] x slices_S4x2048x16x128_S4x2048x16x64_0_0_0_0) c1)
        (mulf (extractStridedSlice S4x2048x16x64 ![0, 0, 0, 64] x slices_S4x2048x16x128_S4x2048x16x64_0_0_0_64) s1) : FVec Ideal S4x2048x16x64 .f32)⟩,
      ⟨S4x2048x16x64, (addf
        (mulf (extractStridedSlice S4x2048x16x64 ![0, 0, 0, 0] x slices_S4x2048x16x128_S4x2048x16x64_0_0_0_0) s2)
        (mulf (extractStridedSlice S4x2048x16x64 ![0, 0, 0, 64] x slices_S4x2048x16x128_S4x2048x16x64_0_0_0_64) c2) : FVec Ideal S4x2048x16x64 .f32)⟩]
    concatenates_S4x2048x16x64_S4x2048x16x64_S4x2048x16x128_d3

theorem rotated_apply (x : Vec Ideal S4x2048x16x128 .f32) (c1 s1 s2 c2 : Vec Ideal S4x2048x16x64 .f32)
    (cos sin : Fin 2048 → Fin 64 → EReal) (b : Fin 4) (h : Fin 16)
    (hc1 : ∀ t l, c1 (ix4 b t h l) = cos t l) (hs1 : ∀ t l, s1 (ix4 b t h l) = sin t l)
    (hs2 : ∀ t l, s2 (ix4 b t h l) = sin t l) (hc2 : ∀ t l, c2 (ix4 b t h l) = cos t l) (t : Fin 2048) (l : Fin 128) :
    rotated x c1 s1 s2 c2 (ix4 b t h l) = rope cos sin (fun t l => x (ix4 b t h l)) t l := by
  unfold rotated rope
  pointwise
  split
  · rw [hc1, hs1]
    simp only [Nat.add_comm 64]
  · rename_i hl
    rw [hs2, hc2]
    have e : (⟨64 + (l.val - 64), by omega⟩ : Fin 128) = l := Fin.ext (by show 64 + (l.val - 64) = l.val; omega)
    rw [e]

/-- A head's columns of a part, as the reference cuts them out of the projection. -/
theorem part0_apply (arg : Vec Ideal S9216x8192 .f32) (b : Fin 4) (t : Fin 2048) (h : Fin 16) (l : Fin 128) :
    A_main_v14 arg (ix4 b t h l) = headRows arg 0 b h t l := by
  pointwise [A_main_v14, A_main_v2, A_main_v1, A_main_v0]
  unfold headRows
  congr 2 <;> apply Fin.ext <;> show _ = _ <;> simp <;> omega

theorem part1_apply (arg : Vec Ideal S9216x8192 .f32) (b : Fin 4) (t : Fin 2048) (h : Fin 16) (l : Fin 128) :
    A_main_v44 arg (ix4 b t h l) = headRows arg 1 b h t l := by
  pointwise [A_main_v44, A_main_v3, A_main_v1, A_main_v0]
  unfold headRows
  congr 2 <;> apply Fin.ext <;> show _ = _ <;> simp <;> omega

theorem part2_apply (arg : Vec Ideal S9216x8192 .f32) (b : Fin 4) (t : Fin 2048) (h : Fin 16) (l : Fin 128) :
    A_main_v76 arg (ix4 b t h l) = headRows arg 2 b h t l := by
  pointwise [A_main_v76, A_main_v4, A_main_v1, A_main_v0]
  unfold headRows
  congr 2 <;> apply Fin.ext <;> show _ = _ <;> simp <;> omega

/-- An array in chunks. -/
theorem chunks_apply (x : Vec Ideal S4x2048x16x128 .f32) (n : Fin 16) (b : Fin 4) (i : Fin 128) (h : Fin 16) (l : Fin 128) :
    transpose S16x4x128x16x128 [1, 0, 2, 3, 4]
      (shapeCast S4x16x128x16x128 x shapeCasts_S4x2048x16x128_S4x16x128x16x128)
      transposes_S4x16x128x16x128_S16x4x128x16x128_1_0_2_3_4 (ix5 n b i h l) = x (ix4 b (tok n i) h l) := by
  pointwise
  unfold tok
  congr 2
  apply Fin.ext
  show _ = _
  simp
  omega

theorem rotQ (arg : Vec Ideal S9216x8192 .f32) :
    A_main_v43 arg = rotated (A_main_v14 arg) K_main_v33 K_main_v35 K_main_v38 K_main_v40 := rfl

theorem rotK (arg : Vec Ideal S9216x8192 .f32) :
    A_main_v73 arg = rotated (A_main_v44 arg) K_main_v63 K_main_v65 K_main_v68 K_main_v70 := rfl

/-- The reference's query chunks. -/
theorem qChunks_apply (arg : Vec Ideal S9216x8192 .f32) (n : Fin 16) (b : Fin 4) (i : Fin 128) (h : Fin 16) (d : Fin 128) :
    A_main_v115 arg (ix5 n b i h d) = queries arg b h (tok n i) d := by
  refine (chunks_apply (A_main_v43 arg) n b i h d).trans ?_
  rw [rotQ, rotated_apply (A_main_v14 arg) K_main_v33 K_main_v35 K_main_v38 K_main_v40 cosOf sinOf b h
    (fun t l => table_apply K_main_v27 b t h l) (fun t l => table_apply K_main_v29 b t h l)
    (fun t l => table_apply K_main_v29 b t h l) (fun t l => table_apply K_main_v27 b t h l)]
  simp only [part0_apply]
  rfl

/-- The reference's key chunks. -/
theorem kChunks_apply (arg : Vec Ideal S9216x8192 .f32) (n : Fin 16) (b : Fin 4) (i : Fin 128) (h : Fin 16) (d : Fin 128) :
    A_main_v117 arg (ix5 n b i h d) = keys arg b h (tok n i) d := by
  refine (chunks_apply (A_main_v75 arg) n b i h d).trans ?_
  refine (show A_main_v75 arg (ix4 b (tok n i) h d) = A_main_v73 arg (ix4 b (tok n i) h d) * keyScale from rfl).trans ?_
  rw [rotK, rotated_apply (A_main_v44 arg) K_main_v63 K_main_v65 K_main_v68 K_main_v70 cosOf sinOf b h
    (fun t l => table_apply K_main_v57 b t h l) (fun t l => table_apply K_main_v59 b t h l)
    (fun t l => table_apply K_main_v59 b t h l) (fun t l => table_apply K_main_v57 b t h l)]
  simp only [part1_apply]
  rfl

/-- The reference's value chunks. -/
theorem vChunks_apply (arg : Vec Ideal S9216x8192 .f32) (n : Fin 16) (b : Fin 4) (i : Fin 128) (h : Fin 16) (d : Fin 128) :
    A_main_v119 arg (ix5 n b i h d) = headRows arg 2 b h (tok n i) d :=
  (chunks_apply (A_main_v76 arg) n b i h d).trans (part2_apply arg b (tok n i) h d)

end Cert.Proof.Prompt

end
-- ==== Proof.Prompt.RefScan.lean ====
/-
  The reference's scan, element by element: what it carries into a chunk is the state of `Spec.lean`, what it
  has stored of the chunks before is their retention, and what it makes of them after the scan is the gated one.
-/
module

public import proofs.«01_k».proof.Proof.Gen.ReferenceIdeal.Step
public import proofs.«01_k».proof.Proof.Prompt.RefChunks

@[expose] public section

noncomputable section

namespace Cert.Proof.Prompt

open Cert.ReferenceIdeal Cert.ReferenceIdeal.Gen Cert.ReferenceIdeal.Step Idealize.ShloMosaic
open scoped BigOperators

/-- One trip's slice of an array in chunks. -/
theorem slice_apply (x : Vec Ideal S16x4x128x16x128 .f32) (j : Fin 16) (b : Fin 4) (i : Fin 128) (h : Fin 16) (d : Fin 128) :
    shapeCast S4x128x16x128
      (Host.dynamicSlice S1x4x128x16x128 x (fun k => (((![(constantI S_ 32 (BitVec.ofNat 32 j.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt) sliceFits_S16x4x128x16x128_S1x4x128x16x128)
      shapeCasts_S1x4x128x16x128_S4x128x16x128 (ix4 b i h d)
      = x (ix5 j b i h d) := by
  pointwise
  fin_cases j <;> congr 2 <;> exact Fin.ext (Nat.zero_add _)

theorem qSlice_apply (s : State Ideal) (j : Fin 16) (b : Fin 4) (i : Fin 128) (h : Fin 16) (d : Fin 128) :
    b5 j.val s (ix4 b i h d) = s.main_v121_0 (ix5 j b i h d) := slice_apply s.main_v121_0 j b i h d

theorem kSlice_apply (s : State Ideal) (j : Fin 16) (b : Fin 4) (i : Fin 128) (h : Fin 16) (d : Fin 128) :
    b11 j.val s (ix4 b i h d) = s.main_v121_1 (ix5 j b i h d) := slice_apply s.main_v121_1 j b i h d

theorem vSlice_apply (s : State Ideal) (j : Fin 16) (b : Fin 4) (i : Fin 128) (h : Fin 16) (d : Fin 128) :
    b17 j.val s (ix4 b i h d) = s.main_v121_2 (ix5 j b i h d) := slice_apply s.main_v121_2 j b i h d

/-- Where a trip writes: its own chunk, and the whole of it. -/
theorem start_apply (j : Fin 16) (k : Fin 5) : Host.clampedStart S16x4x128x16x128 S1x4x128x16x128 (by decide) (fun k => (((![(constantI S_ 32 (BitVec.ofNat 32 j.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt) k = if k = 0 then j.val else 0 := by
  fin_cases k <;> fin_cases j <;> rfl

/-- What a trip leaves in the stored chunks: its own retention in its place, the others as they were. -/
theorem b43_apply (j n : Fin 16) (s : State Ideal) (b : Fin 4) (i : Fin 128) (h : Fin 16) (d : Fin 128) :
    b43 j.val s (ix5 n b i h d) = if n = j then b37 j.val s (ix4 b i h d) else s.main_v121_9 (ix5 n b i h d) := by
  pointwise [b43, b42, b41, b40, b39, b38]
  have e0 := start_apply j 0
  have e1 := start_apply j 1
  have e2 := start_apply j 2
  have e3 := start_apply j 3
  have e4 := start_apply j 4
  rw [if_pos rfl] at e0
  rw [if_neg (by decide)] at e1 e2 e3 e4
  by_cases hn : n = j
  · subst hn
    rw [dif_pos (by rw [e0, e1, e2, e3, e4]; omega), if_pos rfl]
    simp only [e1, e2, e3, e4]
    rfl
  · have hv : n.val ≠ j.val := fun h => hn (Fin.ext h)
    rw [dif_neg (by rw [e0, e1, e2, e3, e4]; omega), if_neg hn]

/-- The retention a trip makes. -/
theorem b37_apply (j : Fin 16) (s : State Ideal) (b : Fin 4) (i : Fin 128) (h : Fin 16) (e : Fin 128) :
    b37 j.val s (ix4 b i h e) =
      (∑ k : Fin 128, (∑ d : Fin 128, b5 j.val s (ix4 b i h d) * b11 j.val s (ix4 b k h d)) * mask (lgOf h) i k * b17 j.val s (ix4 b k h e))
       + ∑ d : Fin 128, b5 j.val s (ix4 b i h d) * qDecay (lgOf h) i * s.main_v121_8 (ix4 b h d e) := by
  pointwise [b37, b28, b27, b26, b25, b24, b23, b22, b21, b20, b19, b18]
  simp only [qdec_apply, mask_apply]
  exact congrArg₂ (· + ·) (Finset.sum_congr rfl fun k _ => mul_comm _ _) (Finset.sum_congr rfl fun d _ => mul_comm _ _)

/-- The state after a trip. -/
theorem b36_apply (j : Fin 16) (s : State Ideal) (b : Fin 4) (h : Fin 16) (d e : Fin 128) :
    b36 j.val s (ix4 b h d e)
      = s.main_v121_8 (ix4 b h d e) * cDecay (lgOf h)
        + ∑ i : Fin 128, b11 j.val s (ix4 b i h d) * kDecay (lgOf h) i * b17 j.val s (ix4 b i h e) := by
  pointwise [b36, b35, b34, b33, b32, b31, b30, b29]
  simp only [cdec_apply, kdec_apply]

/-- The stored chunks, joined to rows again. -/
theorem unchunk_apply (x : Vec Ideal S16x4x128x16x128 .f32) (n : Fin 16) (b : Fin 4) (i : Fin 128) (h : Fin 16) (l : Fin 128) :
    shapeCast S4x2048x16x128
      (transpose S4x16x128x16x128 [1, 0, 2, 3, 4] x transposes_S16x4x128x16x128_S4x16x128x16x128_1_0_2_3_4)
      shapeCasts_S4x16x128x16x128_S4x2048x16x128 (ix4 b (tok n i) h l) = x (ix5 n b i h l) := by
  pointwise
  have e1 : (tok n i).val / 128 = n.val := by show (128 * n.val + i.val) / 128 = n.val; omega
  have e2 : (tok n i).val % 128 = i.val := by show (128 * n.val + i.val) % 128 = i.val; omega
  congr 2
  · exact Fin.ext e1
  · exact Fin.ext e2

/-- What the reference makes of the stored chunks. -/
theorem out_apply (s : State Ideal) (arg : Vec Ideal S9216x8192 .f32) (b : Fin 4) (n : Fin 16) (i : Fin 128) (h : Fin 16) (e : Fin 128)
    (o : Fin 128 → EReal) (ho : ∀ l, s.main_v121_9 (ix5 n b i h l) = o l) :
    R_main_v141 s arg (ix2 ⟨2048 * b.val + (tok n i).val, by omega⟩ ⟨128 * h.val + e.val, by omega⟩)
      = o e * Ideal.rsqrt (Ideal.div (∑ l : Fin 128, o l * o l) (Ideal.ofBits .f32 0x43000000#32) + Ideal.ofBits .f32 0x358637BD#32)
        * (headRows arg 3 b h (tok n i) e * Ideal.logistic (headRows arg 3 b h (tok n i) e)) := by
  have hy := fun l => (unchunk_apply s.main_v121_9 n b i h l).trans (ho l)
  unfold R_main_v141
  generalize shapeCast S4x2048x16x128 (transpose S4x16x128x16x128 [1, 0, 2, 3, 4] s.main_v121_9 transposes_S16x4x128x16x128_S4x16x128x16x128_1_0_2_3_4)
      shapeCasts_S4x16x128x16x128_S4x2048x16x128 = y at hy ⊢
  pointwise
  simp only [hy, headRows, Nat.mul_comm b.val]
  rfl

/-- What holds before trip `n`: the chunks are as set up, the state is `state`'s, and the chunks before `n` hold their retention. -/
structure Scanned (arg : Vec Ideal S9216x8192 .f32) (n : ℕ) (s : State Ideal) : Prop where
  q : s.main_v121_0 = A_main_v115 arg
  k : s.main_v121_1 = A_main_v117 arg
  v : s.main_v121_2 = A_main_v119 arg
  st : ∀ b h d e, s.main_v121_8 (ix4 b h d e) = state (lgOf h) (keys arg b h) (headRows arg 2 b h) n d e
  out : ∀ (c : Fin 16) (_ : c.val < n) b i h e, s.main_v121_9 (ix5 c b i h e)
    = retOut (lgOf h) (queries arg b h) (keys arg b h) (headRows arg 2 b h) c i e

theorem scanned_init (arg : Vec Ideal S9216x8192 .f32) : Scanned arg 0 (init arg) where
  q := rfl
  k := rfl
  v := rfl
  st b h d e := by
    show K_main_v113 (F := Ideal) (ix4 b h d e) = 0
    pointwise [K_main_v113, K_main_cst_12]
  out c hc := absurd hc (Nat.not_lt_zero _)

theorem scanned_step (arg : Vec Ideal S9216x8192 .f32) (j : Fin 16) (s : State Ideal) (hs : Scanned arg j.val s) :
    Scanned arg (j.val + 1) (step j.val s) where
  q := hs.q
  k := hs.k
  v := hs.v
  st b h d e := by
    rw [step_main_v121_8, b36_apply, hs.st, state_succ]
    simp only [kSlice_apply, vSlice_apply, hs.k, hs.v, kChunks_apply, vChunks_apply]
  out c hc b i h e := by
    rw [step_main_v121_9, b43_apply]
    by_cases hcj : c = j
    · subst hcj
      rw [if_pos rfl, b37_apply]
      simp only [qSlice_apply, kSlice_apply, vSlice_apply, hs.q, hs.k, hs.v, hs.st, qChunks_apply, kChunks_apply, vChunks_apply]
      rfl
    · rw [if_neg hcj]
      exact hs.out c (lt_of_le_of_ne (Nat.lt_succ_iff.mp hc) fun h => hcj (Fin.ext h)) b i h e

/-- The scan's states. -/
def iter (arg : Vec Ideal S9216x8192 .f32) : ℕ → State Ideal
  | 0 => init arg
  | n + 1 => step n (iter arg n)

theorem scanned_iter (arg : Vec Ideal S9216x8192 .f32) : ∀ n : ℕ, n ≤ 16 → Scanned arg n (iter arg n)
  | 0, _ => scanned_init arg
  | n + 1, hn => scanned_step arg ⟨n, hn⟩ _ (scanned_iter arg n (Nat.le_of_succ_le hn))

/-- The reference's state after the last chunk. -/
theorem refState_apply (arg : Vec Ideal S9216x8192 .f32) (b : Fin 4) (h : Fin 16) (d e : Fin 128) :
    (iter arg 16).main_v121_8 (ix4 b h d e) = state (lgOf h) (keys arg b h) (headRows arg 2 b h) 16 d e :=
  (scanned_iter arg 16 (le_refl _)).st b h d e

/-- The reference's rows. -/
theorem refOut_apply (arg : Vec Ideal S9216x8192 .f32) (b : Fin 4) (n : Fin 16) (i : Fin 128) (h : Fin 16) (e : Fin 128) :
    R_main_v141 (iter arg 16) arg (ix2 ⟨2048 * b.val + (tok n i).val, by omega⟩ ⟨128 * h.val + e.val, by omega⟩)
      = gated (lgOf h) (queries arg b h) (keys arg b h) (headRows arg 2 b h) (headRows arg 3 b h) n i e :=
  out_apply (iter arg 16) arg b n i h e _ fun l => (scanned_iter arg 16 (le_refl _)).out n n.isLt b i h l

end Cert.Proof.Prompt

end
-- ==== Proof.Prompt.RefRun.lean ====
/-
  The reference's run told over its scan: when a trip begins, the buffers the loop carries hold a state, the decay
  tables and the trip's number; a trip turns that state into the next one; so the run ends in the state after
  sixteen trips.
-/
module

public import proofs.«01_k».proof.Proof.Gen.ReferenceIdeal.Run
public import proofs.«01_k».proof.Proof.Gen.ReferenceIdeal.Step
public import proofs.«01_k».proof.Proof.Prompt.RefScan

@[expose] public section

set_option maxRecDepth 8192

noncomputable section

namespace Cert.Proof.Prompt

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

/-- The loop's buffers `V` as trip `j` finds them: the state `s`, the four decay tables and the number `j`. -/
structure AtTrip (V : Valuation τ sig (Elt Ideal)) (s : State Ideal) (j : ℕ) : Prop where
  queries : V (Proc.devRef .tc main_v121_0) = s.main_v121_0
  keys : V (Proc.devRef .tc main_v121_1) = s.main_v121_1
  values : V (Proc.devRef .tc main_v121_2) = s.main_v121_2
  mask : V (Proc.devRef .tc main_v121_3) = K_main_v93 (F := Ideal)
  queryDecay : V (Proc.devRef .tc main_v121_4) = K_main_v101 (F := Ideal)
  chunkDecay : V (Proc.devRef .tc main_v121_5) = K_main_v112 (F := Ideal)
  keyDecay : V (Proc.devRef .tc main_v121_6) = K_main_v109 (F := Ideal)
  number : V (Proc.devRef .tc main_v121_7) = constantI S_ 32 (BitVec.ofNat 32 j)
  carried : V (Proc.devRef .tc main_v121_8) = s.main_v121_8
  stored : V (Proc.devRef .tc main_v121_9) = s.main_v121_9

variable {V : Valuation τ sig (Elt Ideal)} {s : State Ideal} {j : ℕ}

/-- The trip's queries, -/
theorem AtTrip.sliceQ (h : AtTrip V s j) : res_main_while0b_v142 V = b5 j s := by
  unfold res_main_while0b_v142
  rw [h.queries, h.number]
  rfl

/-- keys -/
theorem AtTrip.sliceK (h : AtTrip V s j) : res_main_while0b_v143 V = b11 j s := by
  unfold res_main_while0b_v143
  rw [h.keys, h.number]
  rfl

/-- and values. -/
theorem AtTrip.sliceV (h : AtTrip V s j) : res_main_while0b_v144 V = b17 j s := by
  unfold res_main_while0b_v144
  rw [h.values, h.number]
  rfl

/-- The state a trip hands on, -/
theorem AtTrip.nextCarried (h : AtTrip V s j) : Value.step_main_v121_8 V = b36 j s := by
  unfold Value.step_main_v121_8
  rw [h.sliceK, h.sliceV, h.carried, h.chunkDecay, h.keyDecay]
  rfl

/-- the chunks stored after it -/
theorem AtTrip.nextStored (h : AtTrip V s j) : Value.step_main_v121_9 V = b43 j s := by
  unfold Value.step_main_v121_9
  rw [h.sliceQ, h.sliceK, h.sliceV, h.carried, h.stored, h.mask, h.queryDecay, h.number]
  rfl

/-- and the next trip's number. -/
theorem AtTrip.nextNumber (h : AtTrip V s j) : step_main_v121_7 V = constantI S_ 32 (BitVec.ofNat 32 (j + 1)) := by
  unfold step_main_v121_7
  rw [h.number]
  funext i
  exact (BitVec.ofNat_add j 1).symm

/-- A trip leaves the buffers as the next trip finds them. -/
theorem AtTrip.next (h : AtTrip V s j) : AtTrip (STEP V) (step j s) (j + 1) where
  queries := (STEP_main_v121_0 V).trans h.queries
  keys := (STEP_main_v121_1 V).trans h.keys
  values := (STEP_main_v121_2 V).trans h.values
  mask := (STEP_main_v121_3 V).trans h.mask
  queryDecay := (STEP_main_v121_4 V).trans h.queryDecay
  chunkDecay := (STEP_main_v121_5 V).trans h.chunkDecay
  keyDecay := (STEP_main_v121_6 V).trans h.keyDecay
  number := (STEP_main_v121_7 V).trans h.nextNumber
  carried := (STEP_main_v121_8 V).trans h.nextCarried
  stored := (STEP_main_v121_9 V).trans h.nextStored

variable (m : (ℓ : Loc nD τ sig) → Buf (Elt Ideal) ℓ) (c : Dev nD)

/-- The projected rows the reference is given. -/
abbrev refProj : Vec Ideal S9216x8192 .f32 := m ((c.tc : Thread nD τ).loc main_arg0)

set_option maxRecDepth 65536 in
set_option maxHeartbeats 700000 in
/-- The first trip finds the tables and the state the scan starts from. -/
theorem first_trip : AtTrip (entryContents preI m c) (iter (refProj m c) 0) 0 := by
  constructor <;> (simp only [entryContents, afterL_cons, afterL_nil]; after_reads_simp) <;> rfl

/-- Trip `n` finds the state after `n` trips. -/
theorem at_trip : ∀ n, AtTrip (STEP^[n] (entryContents preI m c)) (iter (refProj m c) n) n
  | 0 => first_trip m c
  | n + 1 => by
    rw [Function.iterate_succ_apply']
    exact (at_trip n).next

/-- The reference ends with the results its sixteenth state gives, its argument unchanged. -/
theorem run_reference (ρ : Dev nD → PrngReg) :
    θ_run (defs (F := Ideal)) (onTc (τ := τ) (main (F := Ideal))) ⟨m, fun _ => 0, ρ⟩ fun r => ∀ c : Dev nD,
      r.2.mem ((c.tc : Thread nD τ).loc main_v141) = R_main_v141 (iter (refProj m c) 16) (refProj m c)
      ∧ r.2.mem ((c.tc : Thread nD τ).loc main_v121_8) = (iter (refProj m c) 16).main_v121_8
      ∧ r.2.mem ((c.tc : Thread nD τ).loc main_arg0) = m ((c.tc : Thread nD τ).loc main_arg0) := by
  refine (θ_run defs _ _).mono (fun _ h c => ⟨(h c).1.trans ?_, (h c).2.1.trans (at_trip m c 16).carried, (h c).2.2⟩)
    (Value.run m ρ)
  unfold out_main_v141
  rw [(at_trip m c 16).stored, iter_main_arg0 m c 16]
  rfl

end Cert.Proof.Prompt

end
-- ==== Proof.Prompt.Equal.lean ====
/-
  The retention call and the reference leave equal arrays: element by element both are the gated retention and
  the last state of `Spec.lean`.
-/
module

public import proofs.«01_k».proof.Defs
public import proofs.«01_k».proof.Proof.Prompt.KernelValue
public import proofs.«01_k».proof.Proof.Prompt.RefRun
public import Idealize.ShloMosaic.Lib.Quiescent

@[expose] public section

noncomputable section

namespace Cert.Proof.Prompt

open Idealize.ShloMosaic Idealize.ShloMosaic.TcCoe Idealize.SL.Sem

/-- A row and a lane of the first result lie in one batch row, chunk and head. -/
theorem split_out (y : Cert.KernelIdeal.S8192x2048.Idx) : ∃ (b : Fin 4) (n : Fin 16) (i : Fin 128) (h : Fin 16) (e : Fin 128),
    y = ix2 ⟨2048 * b.val + (tok n i).val, by omega⟩ ⟨128 * h.val + e.val, by omega⟩ := by
  have h0 : (y 0).val < 8192 := (y 0).isLt
  have h1 : (y 1).val < 2048 := (y 1).isLt
  refine ⟨⟨(y 0).val / 2048, by omega⟩, ⟨(y 0).val % 2048 / 128, by omega⟩, ⟨(y 0).val % 128, by omega⟩,
    ⟨(y 1).val / 128, by omega⟩, ⟨(y 1).val % 128, by omega⟩, ?_⟩
  funext a
  apply Fin.ext
  match a with
  | ⟨0, _⟩ => show (y 0).val = 2048 * ((y 0).val / 2048) + (128 * ((y 0).val % 2048 / 128) + (y 0).val % 128); omega
  | ⟨1, _⟩ => show (y 1).val = 128 * ((y 1).val / 128) + (y 1).val % 128; omega

section
open Cert.KernelIdeal Cert.KernelIdeal.Gen
variable (m : (ℓ : Loc nD τ sig) → Buf (Elt Ideal) ℓ) (c : Dev nD)

/-- The first results are equal. -/
theorem out_eq : Cert.ReferenceIdeal.Step.R_main_v141 (iter (proj m c) 16) (proj m c) = (dats m 0 c).arrAt 7 cfg0.N := by
  funext y
  obtain ⟨b, n, i, h, e, rfl⟩ := split_out y
  exact (refOut_apply (proj m c) b n i h e).trans (kernelOut_apply m c b h n i e).symm

/-- The states are equal. -/
theorem state_eq : (iter (proj m c) 16).main_v121_8 = (dats m 0 c).arrAt 8 cfg0.N := by
  funext y
  obtain ⟨b, h, d, e, rfl⟩ : ∃ (b : Fin 4) (h : Fin 16) (d e : Fin 128), y = ix4 b h d e := ⟨y 0, y 1, y 2, y 3, eq_ix4 y⟩
  exact (refState_apply (proj m c) b h d e).trans (kernelState_apply m c b h d e).symm
end

/-- The reference runs to its end and leaves its argument and the semaphores as they were. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both programs end with the same results. -/
theorem algebraic : Cert.algebraic_KernelIdeal_ReferenceIdeal := by
  intro m ρ m' ρ' _ hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks (F := Ideal) m ρ, ?_⟩
  refine (θ_run _ _ _).mono (fun _ h c => ⟨(h c).1.trans ?_, (h c).2.1.trans ?_, (h c).2.2⟩) (run_reference m' ρ')
  · rw [refProj, hagree c]; exact out_eq m c
  · rw [refProj, hagree c]; exact state_eq m c

end Cert.Proof.Prompt

end
-- ==== Proof.Sample.Spec.lean ====
/-
  Retention of one head of one sample sequence, over the extended reals.

  A sequence brings its state, a 128 × 128 matrix, and eight tokens. A token's output is its attention among the
  eight, weighted by powers of the head's decay, plus what the brought state adds; it is then normalised by its root
  mean square and multiplied by the swish of the gate row. The state left behind is the brought one, decayed, plus
  the eight tokens' share.
-/
module

public import proofs.«01_k».proof.Proof.Prompt.Spec

@[expose] public section

noncomputable section

namespace Cert.Proof.Sample

open Idealize.ShloMosaic
open scoped BigOperators
open Cert.Proof.Prompt (num num_eq)

/-- A function of the token and the lane: one head of one sequence. -/
abbrev Rows := Fin 8 → Fin 128 → EReal

/-- The weight of the brought state on token `i`: the decay to the power `i + 1`. -/
def qDecay (lg : EReal) (i : Fin 8) : EReal := Ideal.exp ((num i.val + 1) * lg)

/-- The weight of token `j` in the state left behind: the decay to the power `7 - j`. -/
def kDecay (lg : EReal) (j : Fin 8) : EReal := Ideal.exp ((Ideal.ofBits .f32 0x40E00000#32 - num j.val) * lg)

/-- The weight of the brought state in the state left behind: the decay to the power 8. -/
def cDecay (lg : EReal) : EReal := Ideal.exp (Ideal.ofBits .f32 0x41000000#32 * lg)

/-- The weight of token `j` on token `i`: the decay to the power `i - j`, and none from later tokens. -/
def mask (lg : EReal) (i j : Fin 8) : EReal :=
  if j ≤ i then Ideal.exp ((((i.val : ℝ) - (j.val : ℝ) : ℝ) : EReal) * lg) else 0

/-- The state left behind. -/
def stateOut (lg : EReal) (K V : Rows) (S : Fin 128 → Fin 128 → EReal) (d e : Fin 128) : EReal :=
  S d e * cDecay lg + ∑ j : Fin 8, K j d * kDecay lg j * V j e

/-- A token's retention. -/
def retOut (lg : EReal) (Q K V : Rows) (S : Fin 128 → Fin 128 → EReal) (i : Fin 8) (e : Fin 128) : EReal :=
  (∑ j : Fin 8, (∑ d : Fin 128, Q i d * K j d) * mask lg i j * V j e) + ∑ d : Fin 128, Q i d * qDecay lg i * S d e

/-- A row normalised over its lanes and multiplied by the swish of its gate. -/
def finished (o g : Fin 128 → EReal) (e : Fin 128) : EReal :=
  o e * Ideal.rsqrt (Ideal.div (∑ l : Fin 128, o l * o l) (Ideal.ofBits .f32 0x43000000#32) + Ideal.ofBits .f32 0x358637BD#32)
    * (g e * Ideal.logistic (g e))

/-- The rotation of a head's lanes in pairs `(l, l + 64)` by the token's angles, given their cosines and sines. -/
def rope (cos sin : Fin 8 → Fin 64 → EReal) (X : Rows) : Rows := fun t l =>
  if h : l.val < 64 then
    X t l * cos t ⟨l.val, h⟩ - X t ⟨l.val + 64, by omega⟩ * sin t ⟨l.val, h⟩
  else
    X t ⟨l.val - 64, by omega⟩ * sin t ⟨l.val - 64, by omega⟩ + X t l * cos t ⟨l.val - 64, by omega⟩

end Cert.Proof.Sample

end
-- ==== Proof.Sample.Ref.lean ====
/-
  The reference for the sample tokens, element by element: its rows and its states are the retention of `Spec.lean`,
  of the projected columns and the brought states.
-/
module

public import proofs.«01_k».proof.Proof.Gen.SampleRefIdeal.Read
public import proofs.«01_k».proof.Proof.Sample.Spec
public import Idealize.ShloMosaic.Lib.Pointwise

@[expose] public section

noncomputable section

namespace Cert.Proof.Sample

open Cert.SampleRefIdeal Cert.SampleRefIdeal.Gen Cert.SampleRefIdeal.Read Idealize.ShloMosaic
open scoped BigOperators
open Cert.Proof.Prompt (num num_eq)

/-- The logarithm of head `h`'s decay. -/
def lgOf (h : Fin 16) : EReal := val_main_v16 (F := Ideal) (ix1 h)

/-- The cosine of a token's angle of a lane pair, and the sine. -/
def cosOf (t : Fin 8) (l : Fin 64) : EReal := val_main_v30 (F := Ideal) (ix2 t l)

def sinOf (t : Fin 8) (l : Fin 64) : EReal := val_main_v32 (F := Ideal) (ix2 t l)

/-- The projected columns of one part (0 the queries, 1 the keys, 2 the values, 3 the gate), sequence and head. -/
def headRows (arg : Vec Ideal S9216x8192 .f32) (p : Fin 4) (b : Fin 128) (h : Fin 16) : Rows := fun t l =>
  arg (ix2 ⟨8192 + (8 * b.val + t.val), by omega⟩ ⟨2048 * p.val + (128 * h.val + l.val), by omega⟩)

/-- The factor of the keys, as the literal the programs hold. -/
abbrev keyScale : EReal := Ideal.ofBits .f32 0x3DB504F3#32

def queries (arg : Vec Ideal S9216x8192 .f32) (b : Fin 128) (h : Fin 16) : Rows := rope cosOf sinOf (headRows arg 0 b h)

def keys (arg : Vec Ideal S9216x8192 .f32) (b : Fin 128) (h : Fin 16) : Rows := fun t l =>
  rope cosOf sinOf (headRows arg 1 b h) t l * keyScale

theorem qdec_apply (i : Fin 8) (h : Fin 16) : val_main_v104 (F := Ideal) (ix2 i h) = qDecay (lgOf h) i := by
  pointwise [val_main_v104, val_main_v103, val_main_v102, val_main_v101, val_main_v100, val_main_v99, val_main_v98, val_main_cst_9, val_main_v97, val_main_v80]
  rfl

theorem kdec_apply (i : Fin 8) (h : Fin 16) : val_main_v112 (F := Ideal) (ix2 i h) = kDecay (lgOf h) i := by
  pointwise [val_main_v112, val_main_v111, val_main_v110, val_main_v109, val_main_v108, val_main_v107, val_main_v106, val_main_cst_10, val_main_v105, val_main_v80]
  rfl

theorem cdec_apply (h : Fin 16) : val_main_v115 (F := Ideal) (ix1 h) = cDecay (lgOf h) := by
  pointwise [val_main_v115, val_main_v114, val_main_v113, val_main_cst_11]
  rfl

theorem diff_apply (i j : Fin 8) : val_main_v85 (F := Ideal) (ix2 i j) = (((i.val : ℝ) - (j.val : ℝ) : ℝ) : EReal) := by
  have hi := num_eq i.val (by omega)
  have hj := num_eq j.val (by omega)
  pointwise [val_main_v85, val_main_v84, val_main_v83, val_main_v82, val_main_v81, val_main_v80]
  exact (congrArg₂ (fun a b : EReal => a - b) hi hj).trans (EReal.coe_sub _ _).symm

theorem causal_apply (i j : Fin 8) : val_main_v87 (F := Ideal) (ix2 i j) = if j ≤ i then 1#1 else 0#1 := by
  pointwise [val_main_v87, val_main_v86, val_main_cst_6]
  rw [diff_apply]
  have e : ((0 : EReal) ≤ (((i.val : ℝ) - (j.val : ℝ) : ℝ) : EReal)) ↔ j ≤ i := by
    rw [← EReal.coe_zero, EReal.coe_le_coe_iff, sub_nonneg, Nat.cast_le, Fin.le_def]
  by_cases h : j ≤ i
  · rw [if_pos h, decide_eq_true (e.2 h)]; rfl
  · rw [if_neg h, decide_eq_false (fun h' => h (e.1 h'))]; rfl

theorem mask_apply (h : Fin 16) (i j : Fin 8) : val_main_v96 (F := Ideal) (ix3 h i j) = mask (lgOf h) i j := by
  pointwise [val_main_v96, val_main_call1_v2, val_main_call1_v1, val_main_call1_v0, val_main_cst_8, val_main_v95, val_main_v94, val_main_v93, val_main_v92, val_main_v91, val_main_v90, val_main_v89, val_main_v88]
  rw [causal_apply, diff_apply]
  unfold mask
  by_cases hij : j ≤ i
  · rw [if_pos hij, if_pos hij]
    rfl
  · rw [if_neg hij, if_neg hij]
    exact Ideal.ofBits_zero_f32

/-- A table of tokens and lane pairs, over the sequences and the heads. -/
theorem table_apply (x : Vec Ideal S8x64 .f32) (b : Fin 128) (t : Fin 8) (h : Fin 16) (l : Fin 64) :
    broadcastInDim S128x8x16x64 ![0, 1, 2, 3] bcast_S1x8x1x64_S128x8x16x64_0_1_2_3
      (broadcastInDim S1x8x1x64 ![1, 3] bcast_S8x64_S1x8x1x64_1_3 x) (ix4 b t h l) = x (ix2 t l) := by
  pointwise

/-- The reference's rotation of an array, from its two tables. -/
def rotated (x : Vec Ideal S128x8x16x128 .f32) (c1 s1 s2 c2 : Vec Ideal S128x8x16x64 .f32) : Vec Ideal S128x8x16x128 .f32 :=
  concatenate S128x8x16x128 3
    [⟨S128x8x16x64, (subf
        (mulf (extractStridedSlice S128x8x16x64 ![0, 0, 0, 0] x slices_S128x8x16x128_S128x8x16x64_0_0_0_0) c1)
        (mulf (extractStridedSlice S128x8x16x64 ![0, 0, 0, 64] x slices_S128x8x16x128_S128x8x16x64_0_0_0_64) s1) : FVec Ideal S128x8x16x64 .f32)⟩,
      ⟨S128x8x16x64, (addf
        (mulf (extractStridedSlice S128x8x16x64 ![0, 0, 0, 0] x slices_S128x8x16x128_S128x8x16x64_0_0_0_0) s2)
        (mulf (extractStridedSlice S128x8x16x64 ![0, 0, 0, 64] x slices_S128x8x16x128_S128x8x16x64_0_0_0_64) c2) : FVec Ideal S128x8x16x64 .f32)⟩]
    concatenates_S128x8x16x64_S128x8x16x64_S128x8x16x128_d3

theorem rotated_apply (x : Vec Ideal S128x8x16x128 .f32) (c1 s1 s2 c2 : Vec Ideal S128x8x16x64 .f32)
    (cos sin : Fin 8 → Fin 64 → EReal) (b : Fin 128) (h : Fin 16)
    (hc1 : ∀ t l, c1 (ix4 b t h l) = cos t l) (hs1 : ∀ t l, s1 (ix4 b t h l) = sin t l)
    (hs2 : ∀ t l, s2 (ix4 b t h l) = sin t l) (hc2 : ∀ t l, c2 (ix4 b t h l) = cos t l) (t : Fin 8) (l : Fin 128) :
    rotated x c1 s1 s2 c2 (ix4 b t h l) = rope cos sin (fun t l => x (ix4 b t h l)) t l := by
  unfold rotated rope
  pointwise
  split
  · rw [hc1, hs1]
    simp only [Nat.add_comm 64]
  · rename_i hl
    rw [hs2, hc2]
    have e : (⟨64 + (l.val - 64), by omega⟩ : Fin 128) = l := Fin.ext (by show 64 + (l.val - 64) = l.val; omega)
    rw [e]

variable (arg : Vec Ideal S9216x8192 .f32) (st : Vec Ideal S128x16x128x128 .f32)

/-- A head's columns of a part, as the reference cuts them out of the projection. -/
theorem part0_apply (b : Fin 128) (t : Fin 8) (h : Fin 16) (l : Fin 128) :
    val_main_v17 arg (ix4 b t h l) = headRows arg 0 b h t l := by
  pointwise [val_main_v17, val_main_v2, val_main_v1, val_main_v0]
  unfold headRows
  congr 2 <;> apply Fin.ext <;> show _ = _ <;> simp <;> omega

theorem part1_apply (b : Fin 128) (t : Fin 8) (h : Fin 16) (l : Fin 128) :
    val_main_v47 arg (ix4 b t h l) = headRows arg 1 b h t l := by
  pointwise [val_main_v47, val_main_v3, val_main_v1, val_main_v0]
  unfold headRows
  congr 2 <;> apply Fin.ext <;> show _ = _ <;> simp <;> omega

theorem part2_apply (b : Fin 128) (t : Fin 8) (h : Fin 16) (l : Fin 128) :
    val_main_v79 arg (ix4 b t h l) = headRows arg 2 b h t l := by
  pointwise [val_main_v79, val_main_v4, val_main_v1, val_main_v0]
  unfold headRows
  congr 2 <;> apply Fin.ext <;> show _ = _ <;> simp <;> omega

theorem gate_apply (b : Fin 128) (t : Fin 8) (h : Fin 16) (l : Fin 128) :
    val_main_v5 arg (ix3 b t ⟨128 * h.val + l.val, by omega⟩) = headRows arg 3 b h t l := by
  pointwise [val_main_v5, val_main_v1, val_main_v0]
  unfold headRows
  congr 2 <;> apply Fin.ext <;> show _ = _ <;> simp <;> omega

theorem rotQ : val_main_v46 arg = rotated (val_main_v17 arg) val_main_v36 val_main_v38 val_main_v41 val_main_v43 := rfl

theorem rotK : val_main_v76 arg = rotated (val_main_v47 arg) val_main_v66 val_main_v68 val_main_v71 val_main_v73 := rfl

/-- The reference's queries. -/
theorem queries_apply (b : Fin 128) (t : Fin 8) (h : Fin 16) (d : Fin 128) :
    val_main_v46 arg (ix4 b t h d) = queries arg b h t d := by
  rw [rotQ, rotated_apply (val_main_v17 arg) val_main_v36 val_main_v38 val_main_v41 val_main_v43 cosOf sinOf b h
    (fun t l => table_apply val_main_v30 b t h l) (fun t l => table_apply val_main_v32 b t h l)
    (fun t l => table_apply val_main_v32 b t h l) (fun t l => table_apply val_main_v30 b t h l)]
  simp only [part0_apply]
  rfl

/-- The reference's keys. -/
theorem keys_apply (b : Fin 128) (t : Fin 8) (h : Fin 16) (d : Fin 128) :
    val_main_v78 arg (ix4 b t h d) = keys arg b h t d := by
  refine (show val_main_v78 arg (ix4 b t h d) = val_main_v76 arg (ix4 b t h d) * keyScale from rfl).trans ?_
  rw [rotK, rotated_apply (val_main_v47 arg) val_main_v66 val_main_v68 val_main_v71 val_main_v73 cosOf sinOf b h
    (fun t l => table_apply val_main_v60 b t h l) (fun t l => table_apply val_main_v62 b t h l)
    (fun t l => table_apply val_main_v62 b t h l) (fun t l => table_apply val_main_v60 b t h l)]
  simp only [part1_apply]
  rfl

/-- The reference's retention, before the normalisation. -/
theorem ret_apply (b : Fin 128) (i : Fin 8) (h : Fin 16) (e : Fin 128) :
    val_main_v135 arg st (ix4 b i h e)
      = retOut (lgOf h) (queries arg b h) (keys arg b h) (headRows arg 2 b h) (fun d e => st (ix4 b h d e)) i e := by
  pointwise [val_main_v135, val_main_v126, val_main_v125, val_main_v124, val_main_v123, val_main_v122, val_main_v121, val_main_v120, val_main_v119, val_main_v118, val_main_v117, val_main_v116]
  simp only [qdec_apply, mask_apply, queries_apply, keys_apply, part2_apply]
  exact congrArg₂ (· + ·) (Finset.sum_congr rfl fun k _ => mul_comm _ _) (Finset.sum_congr rfl fun d _ => mul_comm _ _)

/-- The reference's states. -/
theorem refState_apply (b : Fin 128) (h : Fin 16) (d e : Fin 128) :
    val_main_v134 arg st (ix4 b h d e)
      = stateOut (lgOf h) (keys arg b h) (headRows arg 2 b h) (fun d e => st (ix4 b h d e)) d e := by
  pointwise [val_main_v134, val_main_v133, val_main_v132, val_main_v131, val_main_v130, val_main_v129, val_main_v128, val_main_v127]
  simp only [cdec_apply, kdec_apply, keys_apply, part2_apply]
  rfl

/-- The normalised rows, in a flat row of heads. -/
theorem normed_apply (b : Fin 128) (i : Fin 8) (h : Fin 16) (e : Fin 128) (o : Fin 128 → EReal)
    (ho : ∀ l, val_main_v135 arg st (ix4 b i h l) = o l) :
    val_main_v146 arg st (ix3 b i ⟨128 * h.val + e.val, by omega⟩)
      = o e * Ideal.rsqrt (Ideal.div (∑ l : Fin 128, o l * o l) (Ideal.ofBits .f32 0x43000000#32) + Ideal.ofBits .f32 0x358637BD#32) := by
  unfold val_main_v146 val_main_v145 val_main_v144 val_main_v143 val_main_v142 val_main_v141 val_main_v140 val_main_v139 val_main_v138 val_main_v137 val_main_v136
  generalize val_main_v135 arg st = y at ho ⊢
  pointwise [val_main_cst_12, val_main_cst_13, val_main_cst_14]
  simp only [ho]

/-- The reference's rows. -/
theorem refOut_apply (b : Fin 128) (i : Fin 8) (h : Fin 16) (e : Fin 128) :
    val_main_v150 arg st (ix2 ⟨8 * b.val + i.val, by omega⟩ ⟨128 * h.val + e.val, by omega⟩)
      = finished (retOut (lgOf h) (queries arg b h) (keys arg b h) (headRows arg 2 b h) (fun d e => st (ix4 b h d e)) i)
          (headRows arg 3 b h i) e := by
  have hn := normed_apply arg st b i h e _ fun l => ret_apply arg st b i h l
  have hg := gate_apply arg b i h e
  unfold val_main_v150 val_main_v149 val_main_v148 val_main_v147 val_main_call2_v5 val_main_call2_v3 val_main_call2_v1 val_main_call2_v0
  generalize val_main_v146 arg st = y at hn ⊢
  generalize val_main_v5 arg = z at hg ⊢
  pointwise [val_main_call2_v4, val_main_call2_v2, val_main_call2_cst, val_main_call2_cst_0]
  simp only [hn, hg]
  rfl

end Cert.Proof.Sample

end
-- ==== Proof.Sample.Block.lean ====
/-
  What a grid point leaves in its two result blocks, from its staged input blocks.

  A point holds one head of sixteen sequences, whose 128 tokens fill the rows of a block, eight rows a sequence. The
  states come and go as sixteen slices. To take up a slice, the body keeps only its sequence's rows of the decayed
  queries and keys and multiplies the whole block: the other rows are zero and add nothing.
-/
module

public import proofs.«01_k».proof.Proof.Gen.SampleIdeal.Value
public import proofs.«01_k».proof.Proof.Sample.Spec
public import Idealize.ShloMosaic.Lib.Pointwise
public import Idealize.ShloMosaic.Lib.Pipeline.ValueKit.Tiles

@[expose] public section

noncomputable section

namespace Cert.Proof.Sample

open Cert.SampleIdeal Cert.SampleIdeal.Gen Idealize.ShloMosaic Idealize.ShloMosaic.TcCoe Idealize.SL.Sem

variable {F : FTy → Type} [FloatOps F]

/-- The sequence a row belongs to: the row number over eight, rounded down. -/
def seqNo : IVec S128x128 32 :=
  k0_pay21 (iota .tc S128x128 32 [0] iota_S128x128_d0_w32) 8#32 (k0_pay19 (iota .tc S128x128 32 [0] iota_S128x128_d0_w32))
    (k0_pay20 (iota .tc S128x128 32 [0] iota_S128x128_d0_w32)) (Scalar.extui (Scalar.cmpi .sgt 8#32 0#32))
    (Scalar.extui (Scalar.cmpi .slt 8#32 0#32))

/-- The rows of one sequence, the others zero. -/
def only (s : BitVec 32) (x : FVec F S128x128 .f32) : FVec F S128x128 .f32 :=
  select (cmpi .eq seqNo (broadcast S128x128 s)) x (broadcast S128x128 (Scalar.ofBits .f32 0x00000000#32 : F .f32))

/-- A slice of the states after the point. -/
def newState (cd : FVec F S1x128 .f32) (v kd : FVec F S128x128 .f32) (s : BitVec 32) (s0 : Vec F S1x1x128x128 .f32) :
    FVec F S1x1x128x128 .f32 :=
  shapeCast S1x1x128x128
    (addf (mulf (shapeCast S128x128 s0 shapeCasts_S1x1x128x128_S128x128) (broadcastTo S128x128 cd broadcasts_S1x128_S128x128))
      (matmul dot_S128x128_S128x128_S128x128_0_0_1_1_n_n (some .fp32) (only s kd) v (constant S128x128 .f32 0x00000000#32)))
    shapeCasts_S128x128_S1x1x128x128

/-- What a slice of the states adds to the rows. -/
def added (qd : FVec F S128x128 .f32) (s : BitVec 32) (s0 : Vec F S1x1x128x128 .f32) (acc : FVec F S128x128 .f32) : FVec F S128x128 .f32 :=
  addf acc (matmul dot_S128x128_S128x128_S128x128_1_0_0_1_n_n (some .fp32) (only s qd)
    (shapeCast S128x128 s0 shapeCasts_S1x1x128x128_S128x128) (constant S128x128 .f32 0x00000000#32))

theorem slice_inb (s : Fin 16) : ∀ a : Fin 4, (![s.val, 0, 0, 0] : Fin 4 → ℕ) a + S1x1x128x128.size a ≤ S16x1x128x128.size a := by
  revert s; decide

/-- Slice `s` of the states. -/
abbrev slice (s : Fin 16) : Rect S16x1x128x128 := Rect.unit (s := S16x1x128x128) ![s.val, 0, 0, 0] S1x1x128x128.size (slice_inb s)

/-- What the first `n` slices add to the rows. -/
def cross (qd : FVec F S128x128 .f32) (x7 : Vec F S16x1x128x128 .f32) : (n : ℕ) → n ≤ 16 → FVec F S128x128 .f32
  | 0, _ => broadcast S128x128 (Scalar.ofBits .f32 0x00000000#32 : F .f32)
  | n + 1, h => added qd (BitVec.ofNat 32 n) (View.ld x7 (slice ⟨n, h⟩)) (cross qd x7 n (Nat.le_of_succ_le h))

/-- Rows over their root mean square. -/
def normed (o : FVec F S128x128 .f32) : FVec F S128x128 .f32 :=
  mulf o (broadcastTo S128x128 (rsqrt (addf (divf
      (shapeCast S128x1 (multiReduction .add [1] S128 (mulf o o) 0x00000000#32 reduces_S128x128_S128 (.inl rfl) rfl) shapeCasts_S128_S128x1)
      (broadcast S128x1 (Scalar.ofBits .f32 0x43000000#32 : F .f32)))
    (broadcast S128x1 (Scalar.ofBits .f32 0x358637BD#32 : F .f32)))) broadcasts_S128x1_S128x128)

variable (x0 x1 x2 x3 x4 x5 : Vec F S128x128 .f32) (x6 : Vec F S1x8x128 .f32) (x7 : Vec F S16x1x128x128 .f32)

/-- The decay row of the staged decay block. -/
def decayRow : FVec F S1x128 .f32 := k0_pay2 (View.ld x6 r0_0)

/-- The attention weights among the rows. -/
def maskOf (lg : FVec F S1x128 .f32) : FVec F S128x128 .f32 :=
  k0_pay7 lg (iota .tc S128x128 32 [0] iota_S128x128_d0_w32) (iota .tc S128x128 32 [1] iota_S128x128_d1_w32) k0_pay3 k0_pay4 8#32 k0_pay5
    k0_pay6 (Scalar.subi (Scalar.extui (Scalar.cmpi .sgt 8#32 0#32)) (Scalar.extui (Scalar.cmpi .slt 8#32 0#32)))

/-- The second result block: its sixteen slices, last first. -/
theorem out9_eq : out0_9 x0 x1 x2 x3 x4 x5 x6 x7
    = View.canon (([15, 14, 13, 12, 11, 10, 9, 8, 7, 6, 5, 4, 3, 2, 1, 0] : List (Fin 16)).map fun s =>
        (⟨slice s, newState (k0_pay11 (decayRow x6)) (View.ld x2 r0_1) (k0_pay18 (k0_pay10 (decayRow x6)) (View.ld x4 r0_1)
          (View.ld x5 r0_1) (View.ld x1 r0_1)) (BitVec.ofNat 32 s.val) (View.ld x7 (slice s))⟩ : View.Piece (Elt F) S16x1x128x128 .f32)) := by
  unfold_out out0_9
  rfl

/-- The first result block: the finished rows. -/
theorem out8_eq : out0_8 x0 x1 x2 x3 x4 x5 x6 x7
    = View.canon [⟨r0_1, k0_pay1 (View.ld x3 r0_1) (normed (addf
        (k0_pay16 (maskOf (decayRow x6)) (View.ld x4 r0_1) (View.ld x5 r0_1) (View.ld x0 r0_1) (View.ld x1 r0_1) (View.ld x2 r0_1))
        (cross (k0_pay17 (k0_pay9 (decayRow x6)) (View.ld x4 r0_1) (View.ld x5 r0_1) (View.ld x0 r0_1)) x7 16 (le_refl 16))))
        (k0_pay82 (View.ld x3 r0_1))⟩] := by
  unfold_out out0_8
  rfl

end Cert.Proof.Sample

end
-- ==== Proof.Sample.Apply.lean ====
/-
  The kernel's blocks, element by element: a slice of the states and a row are the retention of `Spec.lean`, of the
  staged queries, keys, values, gate and states.
-/
module

public import proofs.«01_k».proof.Proof.Sample.Block

@[expose] public section

noncomputable section

namespace Cert.Proof.Sample

open Cert.SampleIdeal Cert.SampleIdeal.Gen Idealize.ShloMosaic Idealize.ShloMosaic.TcCoe Idealize.SL.Sem
open scoped BigOperators
open Cert.Proof.Prompt (num num_eq)

/-- The lane a rotation by 64 brings to lane `l`. -/
def swap (l : Fin 128) : Fin 128 := ⟨(l.val + 128 - 64) % 128, Nat.mod_lt _ (by decide)⟩

/-- The row of token `i` of sequence `s`. -/
def row (s : Fin 16) (i : Fin 8) : Fin 128 := ⟨8 * s.val + i.val, by omega⟩

theorem row_div (s : Fin 16) (i : Fin 8) : (row s i).val / 8 = s.val := by show (8 * s.val + i.val) / 8 = _; omega

/-- The sequence number of a row, as a word. -/
theorem seqNo_apply (r l : Fin 128) : seqNo (ix2 r l) = BitVec.ofNat 32 (r.val / 8) := by
  pointwise [seqNo, k0_pay21, k0_pay19, k0_pay20]
  revert r; decide +kernel

/-- Sequence numbers compare as numbers. -/
theorem seq_eq (r : Fin 128) (s : Fin 16) :
    IntOp.cmpi .eq (BitVec.ofNat 32 (r.val / 8)) (BitVec.ofNat 32 s.val) = if r.val / 8 = s.val then 1#1 else 0#1 := by
  revert r s; decide +kernel

theorem only_apply (s : Fin 16) (x : Vec Ideal S128x128 .f32) (r l : Fin 128) :
    only (F := Ideal) (BitVec.ofNat 32 s.val) x (ix2 r l) = if r.val / 8 = s.val then x (ix2 r l) else 0 := by
  have h : only (F := Ideal) (BitVec.ofNat 32 s.val) x (ix2 r l)
      = Scalar.select (IntOp.cmpi .eq (seqNo (ix2 r l)) (BitVec.ofNat 32 s.val)) (x (ix2 r l)) (Ideal.ofBits .f32 0x00000000#32) := rfl
  rw [h, seqNo_apply, seq_eq]
  split
  · rfl
  · exact Ideal.ofBits_zero_f32

/-- A sum over the rows of which only one sequence's count is a sum over its tokens. -/
theorem sum_seq (s : Fin 16) (f : Fin 128 → EReal) :
    ∑ j : Fin 128, (if j.val / 8 = s.val then f j else 0) = ∑ i : Fin 8, f (row s i) := by
  have e : ∀ p : Fin 16 × Fin 8, (finProdFinEquiv p : Fin 128) = row p.1 p.2 := fun p =>
    Fin.ext (show p.2.val + 8 * p.1.val = 8 * p.1.val + p.2.val from add_comm _ _)
  rw [← (finProdFinEquiv (m := 16) (n := 8)).sum_comp fun j : Fin 128 => if j.val / 8 = s.val then f j else 0, Fintype.sum_prod_type]
  rw [Finset.sum_eq_single s]
  · refine Finset.sum_congr rfl fun i _ => ?_
    show (if (finProdFinEquiv (s, i) : Fin 128).val / 8 = s.val then f (finProdFinEquiv (s, i) : Fin 128) else 0) = f (row s i)
    rw [e, if_pos (row_div s i)]
  · intro s' _ hs
    refine Finset.sum_eq_zero fun i _ => ?_
    show (if (finProdFinEquiv (s', i) : Fin 128).val / 8 = s.val then f (finProdFinEquiv (s', i) : Fin 128) else 0) = 0
    rw [e, if_neg]
    rw [row_div]
    exact fun h => hs (Fin.ext h)
  · exact fun h => absurd (Finset.mem_univ s) h

/-- A slice of the states after the point. -/
theorem newState_apply (cd : Vec Ideal S1x128 .f32) (v kd : Vec Ideal S128x128 .f32) (s : Fin 16) (s0 : Vec Ideal S1x1x128x128 .f32)
    (d e : Fin 128) :
    newState (F := Ideal) cd v kd (BitVec.ofNat 32 s.val) s0 (ix4 0 0 d e)
      = s0 (ix4 0 0 d e) * cd (ix2 0 e) + ∑ i : Fin 8, kd (ix2 (row s i) d) * v (ix2 (row s i) e) := by
  unfold newState
  have h := only_apply s kd
  generalize only (F := Ideal) (BitVec.ofNat 32 s.val) kd = y at h ⊢
  pointwise
  simp only [h, ite_mul, zero_mul]
  rw [sum_seq s fun j => kd (ix2 j d) * v (ix2 j e)]

/-- What a slice adds: to its sequence's rows, their product with it. -/
theorem added_apply (qd : Vec Ideal S128x128 .f32) (s : Fin 16) (s0 : Vec Ideal S1x1x128x128 .f32) (acc : Vec Ideal S128x128 .f32)
    (r e : Fin 128) :
    added (F := Ideal) qd (BitVec.ofNat 32 s.val) s0 acc (ix2 r e)
      = acc (ix2 r e) + if r.val / 8 = s.val then ∑ d : Fin 128, qd (ix2 r d) * s0 (ix4 0 0 d e) else 0 := by
  unfold added
  have h := only_apply s qd
  generalize only (F := Ideal) (BitVec.ofNat 32 s.val) qd = y at h ⊢
  pointwise
  simp only [h]
  by_cases hs : r.val / 8 = s.val
  · simp only [if_pos hs]
  · simp only [if_neg hs, zero_mul, Finset.sum_const_zero]

theorem slice_emb (s : Fin 16) (d e : Fin 128) : (slice s).emb (ix4 0 0 d e) = (ix4 s 0 d e : S16x1x128x128.Idx) := by
  funext a
  apply Fin.ext
  rw [show (slice s).emb (ix4 0 0 d e) = (slice s).idx (ix4 0 0 d e) from rfl, Rect.idx_unit_val]
  match a with
  | ⟨0, _⟩ => rfl
  | ⟨1, _⟩ => rfl
  | ⟨2, _⟩ => exact Nat.zero_add _
  | ⟨3, _⟩ => exact Nat.zero_add _

theorem slice_apply (x7 : Vec Ideal S16x1x128x128 .f32) (s : Fin 16) (d e : Fin 128) :
    View.ld x7 (slice s) (ix4 0 0 d e) = x7 (ix4 s 0 d e) := congrArg x7 (slice_emb s d e)

/-- After `n` slices the rows of the first `n` sequences hold their product with their states. -/
theorem cross_apply (qd : Vec Ideal S128x128 .f32) (x7 : Vec Ideal S16x1x128x128 .f32) (s : Fin 16) (i : Fin 8) (e : Fin 128) :
    ∀ (n : ℕ) (h : n ≤ 16), cross (F := Ideal) qd x7 n h (ix2 (row s i) e)
      = if s.val < n then ∑ d : Fin 128, qd (ix2 (row s i) d) * x7 (ix4 s 0 d e) else 0
  | 0, _ => by rw [if_neg (Nat.not_lt_zero _)]; exact Ideal.ofBits_zero_f32
  | n + 1, h => by
    have hs := added_apply qd ⟨n, h⟩ (View.ld x7 (slice ⟨n, h⟩)) (cross (F := Ideal) qd x7 n (Nat.le_of_succ_le h)) (row s i) e
    rw [cross_apply qd x7 s i e n (Nat.le_of_succ_le h), row_div] at hs
    refine hs.trans ?_
    rcases lt_trichotomy s.val n with hn | hn | hn
    · rw [if_pos hn, if_neg (Nat.ne_of_lt hn), if_pos (Nat.lt_succ_of_lt hn), add_zero]
    · have es : (⟨n, h⟩ : Fin 16) = s := Fin.ext hn.symm
      rw [if_neg (by omega), if_pos hn, if_pos (by omega), zero_add, es]
      exact Finset.sum_congr rfl fun d _ => congrArg (qd (ix2 (row s i) d) * ·) (slice_apply x7 s d e)
    · rw [if_neg (by omega), if_neg (show ¬ s.val = n by omega), if_neg (by omega), add_zero]

/-- A row over its root mean square. -/
theorem normed_apply' (o : Vec Ideal S128x128 .f32) (r e : Fin 128) :
    normed (F := Ideal) o (ix2 r e)
      = o (ix2 r e) * Ideal.rsqrt (Ideal.div (∑ l : Fin 128, o (ix2 r l) * o (ix2 r l)) (Ideal.ofBits .f32 0x43000000#32)
          + Ideal.ofBits .f32 0x358637BD#32) := by
  pointwise [normed]

/-- The finished rows, of the normalised ones and the gate. -/
theorem pay1_apply (g o : Vec Ideal S128x128 .f32) (r e : Fin 128) :
    k0_pay1 (F := Ideal) g o (k0_pay82 g) (ix2 r e) = o (ix2 r e) * (g (ix2 r e) * Ideal.logistic (g (ix2 r e))) := by
  pointwise [k0_pay1, k0_pay82]

/-- The rotated queries. -/
theorem pay14_apply (c s q : Vec Ideal S128x128 .f32) (r d : Fin 128) :
    k0_pay14 c s q (ix2 r d) = q (ix2 r d) * c (ix2 r d) + q (ix2 r (swap d)) * s (ix2 r d) := by
  pointwise [k0_pay14, k0_pay12, k0_pay13]
  rfl

/-- The rotated and scaled keys. -/
theorem pay15_apply (c s k : Vec Ideal S128x128 .f32) (r d : Fin 128) :
    k0_pay15 c s k (ix2 r d) = (k (ix2 r d) * c (ix2 r d) + k (ix2 r (swap d)) * s (ix2 r d)) * Ideal.ofBits .f32 0x3DB504F3#32 := by
  pointwise [k0_pay15, k0_pay12, k0_pay13]
  rfl

/-- The attention among the rows. -/
theorem pay16_apply (m c s q k v : Vec Ideal S128x128 .f32) (r e : Fin 128) :
    k0_pay16 m c s q k v (ix2 r e)
      = ∑ j : Fin 128, (∑ d : Fin 128, k0_pay14 c s q (ix2 r d) * k0_pay15 c s k (ix2 j d)) * m (ix2 r j) * v (ix2 j e) := by
  pointwise [k0_pay16]

/-- A token's number in its sequence. -/
theorem pay8_apply (s : Fin 16) (i : Fin 8) (l : Fin 128) : k0_pay8 (F := Ideal) (ix2 (row s i) l) = num i.val := by
  pointwise [k0_pay8]
  refine congrArg (FloatOps.sitofp (F := Ideal) .f32) ?_
  revert s i; decide +kernel

/-- A word over eight, rounded down, as the mask computes it. -/
def eighth (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 8#32 0#32)) (Scalar.extui (Scalar.cmpi .slt 8#32 0#32))))
      (IntOp.cmpi .ne (IntOp.remsi .vector w 8#32) 0#32))
    (IntOp.subi (IntOp.divsi .vector w 8#32) 1#32)
    (IntOp.divsi .vector w 8#32)

theorem eighth_row (s : Fin 16) (i : Fin 8) : eighth (BitVec.ofNat 32 (row s i).val) = BitVec.ofNat 32 s.val := by
  revert s i; decide +kernel

/-- A row sees another where it is no earlier and of the same sequence. -/
theorem sees (s s' : Fin 16) (i j : Fin 8) :
    IntOp.andi (IntOp.cmpi .sge (BitVec.ofNat 32 (row s i).val) (BitVec.ofNat 32 (row s' j).val))
        (IntOp.cmpi .eq (BitVec.ofNat 32 s.val) (BitVec.ofNat 32 s'.val))
      = if s' = s ∧ j ≤ i then 1#1 else 0#1 := by
  revert s s' i j; decide +kernel

/-- Rows of a sequence subtract as their tokens. -/
theorem toInt_sub_row (s : Fin 16) (i j : Fin 8) (h : j ≤ i) :
    (BitVec.ofNat 32 (row s i).val - BitVec.ofNat 32 (row s j).val).toInt = (i.val : ℤ) - (j.val : ℤ) := by
  revert s i j; decide +kernel

section
variable (v0 : Vec Ideal S1x128 .f32) (lg : EReal) (hlg : ∀ l : Fin 128, v0 (ix2 0 l) = lg)
include hlg

theorem pay9_apply (s : Fin 16) (i : Fin 8) (l : Fin 128) : k0_pay9 (F := Ideal) v0 (ix2 (row s i) l) = qDecay lg i := by
  have h := pay8_apply s i l
  unfold k0_pay9
  generalize k0_pay8 (F := Ideal) = y at h ⊢
  pointwise
  rw [h, hlg]; rfl

theorem pay18_apply (c sn k : Vec Ideal S128x128 .f32) (s : Fin 16) (i : Fin 8) (d : Fin 128) :
    k0_pay18 (F := Ideal) (k0_pay10 v0) c sn k (ix2 (row s i) d) = k0_pay15 c sn k (ix2 (row s i) d) * kDecay lg i := by
  have h := pay8_apply s i d
  unfold k0_pay18 k0_pay10
  generalize k0_pay8 (F := Ideal) = y at h ⊢
  generalize k0_pay15 c sn k = z
  pointwise
  rw [h, hlg]; rfl

theorem pay17_apply (c sn q : Vec Ideal S128x128 .f32) (s : Fin 16) (i : Fin 8) (d : Fin 128) :
    k0_pay17 (F := Ideal) (k0_pay9 v0) c sn q (ix2 (row s i) d) = k0_pay14 c sn q (ix2 (row s i) d) * qDecay lg i := by
  rw [← pay9_apply v0 lg hlg s i d]
  rfl

theorem pay11_apply (l : Fin 128) : k0_pay11 (F := Ideal) v0 (ix2 0 l) = cDecay lg := by
  pointwise [k0_pay11]
  rw [hlg]; rfl

theorem maskOf_apply (s s' : Fin 16) (i j : Fin 8) :
    maskOf (F := Ideal) v0 (ix2 (row s i) (row s' j)) = if s' = s then mask lg i j else 0 := by
  pointwise [maskOf, k0_pay7, k0_pay3, k0_pay4, k0_pay5, k0_pay6]
  rw [hlg]
  show Scalar.select
      (IntOp.andi (IntOp.cmpi .sge (BitVec.ofNat 32 (row s i).val) (BitVec.ofNat 32 (row s' j).val))
        (IntOp.cmpi .eq (eighth (BitVec.ofNat 32 (row s i).val)) (eighth (BitVec.ofNat 32 (row s' j).val))))
      (Ideal.exp (FloatOps.sitofp (F := Ideal) .f32 (Scalar.select
        (IntOp.andi (IntOp.cmpi .sge (BitVec.ofNat 32 (row s i).val) (BitVec.ofNat 32 (row s' j).val))
          (IntOp.cmpi .eq (eighth (BitVec.ofNat 32 (row s i).val)) (eighth (BitVec.ofNat 32 (row s' j).val))))
        (IntOp.subi (BitVec.ofNat 32 (row s i).val) (BitVec.ofNat 32 (row s' j).val)) 0#32) * lg)) 0 = _
  rw [eighth_row, eighth_row, sees, mask]
  by_cases hs : s' = s
  · subst hs
    rw [if_pos rfl]
    by_cases h : j ≤ i
    · rw [if_pos ⟨rfl, h⟩, if_pos h]
      show Ideal.exp ((((BitVec.ofNat 32 (row s' i).val - BitVec.ofNat 32 (row s' j).val).toInt : ℝ) : EReal) * lg) = _
      rw [toInt_sub_row s' i j h]
      norm_num
    · rw [if_neg (fun h' => h h'.2), if_neg h]; rfl
  · rw [if_neg (fun h' => hs h'.1), if_neg hs]; rfl

/-- The retention of a sequence's row, from the rotated queries and keys, the values and the states. -/
theorem ret_apply' (c sn q k v : Vec Ideal S128x128 .f32) (x7 : Vec Ideal S16x1x128x128 .f32) (s : Fin 16) (Q K V : Rows)
    (hQ : ∀ i d, k0_pay14 c sn q (ix2 (row s i) d) = Q i d) (hK : ∀ i d, k0_pay15 c sn k (ix2 (row s i) d) = K i d)
    (hV : ∀ i d, v (ix2 (row s i) d) = V i d) (i : Fin 8) (e : Fin 128) :
    (k0_pay16 (F := Ideal) (maskOf v0) c sn q k v (ix2 (row s i) e) : EReal)
        + cross (F := Ideal) (k0_pay17 (k0_pay9 v0) c sn q) x7 16 (le_refl 16) (ix2 (row s i) e)
      = retOut lg Q K V (fun d e => x7 (ix4 s 0 d e)) i e := by
  rw [cross_apply, if_pos s.isLt, pay16_apply]
  refine congrArg₂ (· + ·) ?_ ?_
  · have hm : ∀ j : Fin 128, maskOf (F := Ideal) v0 (ix2 (row s i) j)
        = if j.val / 8 = s.val then maskOf (F := Ideal) v0 (ix2 (row s i) j) else 0 := by
      intro j
      by_cases h : j.val / 8 = s.val
      · rw [if_pos h]
      · rw [if_neg h]
        have hj : j = row ⟨j.val / 8, by omega⟩ ⟨j.val % 8, by omega⟩ :=
          Fin.ext (by show j.val = 8 * (j.val / 8) + j.val % 8; omega)
        rw [hj, maskOf_apply v0 lg hlg, if_neg]
        exact fun h' => h (congrArg Fin.val h')
    refine Eq.trans (Finset.sum_congr rfl fun j _ => ?_) (sum_seq s fun j =>
      (∑ d : Fin 128, k0_pay14 c sn q (ix2 (row s i) d) * k0_pay15 c sn k (ix2 j d)) * maskOf (F := Ideal) v0 (ix2 (row s i) j) * v (ix2 j e)) |>.trans ?_
    · rw [hm j]
      by_cases h : j.val / 8 = s.val
      · simp only [if_pos h]
      · simp only [if_neg h, mul_zero, zero_mul]
    · refine Finset.sum_congr rfl fun j _ => ?_
      simp only [hQ, hK, hV, maskOf_apply v0 lg hlg, if_true]
  · refine Finset.sum_congr rfl fun d _ => ?_
    rw [pay17_apply v0 lg hlg, hQ]
end

end Cert.Proof.Sample

end
-- ==== Proof.Sample.Staged.lean ====
/-
  What the kernel's windows stage at a grid point, element by element: at sixteen sequences and a head, the rows and
  columns of the projection and the brought states that belong to them, the head's decay, and the cosines and signed
  sines of the tokens' angles, repeated for every sequence and made of the reference's own.
-/
module

public import proofs.«01_k».proof.Proof.Sample.Ref
public import proofs.«01_k».proof.Proof.Sample.Apply
public import Idealize.ShloMosaic.Lib.Pipeline.ValueKit

@[expose] public section

noncomputable section

namespace Cert.Proof.Sample

open Cert.SampleIdeal Cert.SampleIdeal.Gen Idealize.ShloMosaic Idealize.ShloMosaic.TcCoe Idealize.SL.Sem

variable (m : (ℓ : Loc nD τ sig) → Buf (Elt Ideal) ℓ) (c : Dev nD)

/-- The projection, -/
abbrev proj : Vec Ideal S9216x8192 .f32 := m ((c.tc : Thread nD τ).loc main_arg0)
/-- and the brought states. -/
abbrev brought : Vec Ideal S128x16x128x128 .f32 := m ((c.tc : Thread nD τ).loc main_arg1)

/-- A sequence of a block, among all. -/
def sequence (b : Fin 8) (s : Fin 16) : Fin 128 := ⟨16 * b.val + s.val, by omega⟩

/-- A table of tokens and lane pairs along the lanes of a block: two halves, then repeated for every sequence. -/
def repeated (x y : Vec Ideal S8x64 .f32) : Vec Ideal S128x128 .f32 :=
  shapeCast S128x128 (broadcastInDim S16x8x1x128 ![0, 1, 2, 3] bcast_S1x8x1x128_S16x8x1x128_0_1_2_3
    (shapeCast S1x8x1x128 (concatenate S8x128 1 [⟨S8x64, x⟩, ⟨S8x64, y⟩] concatenates_S8x64_S8x64_S8x128_d1) shapeCasts_S8x128_S1x8x1x128))
    shapeCasts_S16x8x1x128_S128x128

theorem repeated_apply (x y : Vec Ideal S8x64 .f32) (s : Fin 16) (i : Fin 8) (l : Fin 128) :
    repeated x y (ix2 (row s i) l) = if h : l.val < 64 then x (ix2 i ⟨l.val, h⟩) else y (ix2 i ⟨l.val - 64, by omega⟩) := by
  have e : (⟨(row s i).val % 8, Nat.mod_lt _ (by decide)⟩ : Fin 8) = i := Fin.ext (by show (8 * s.val + i.val) % 8 = i.val; omega)
  pointwise [repeated]
  simp only [e]

set_option maxRecDepth 8192 in
theorem decayTable_eq : V m c main_v9 = broadcastInDim S16x8x128 ![0, 1, 2] bcast_S16x1x1_S16x8x128_0_1_2
    (broadcastInDim S16x1x1 ![0] bcast_S16_S16x1x1_0 (Cert.SampleRefIdeal.Read.val_main_v16 (F := Ideal))) := by
  dsimp only [V, hostOps0]
  after_results
  rfl

set_option maxRecDepth 8192 in
theorem cosTable_eq : V m c main_v32
    = repeated (Cert.SampleRefIdeal.Read.val_main_v30 (F := Ideal)) (Cert.SampleRefIdeal.Read.val_main_v30 (F := Ideal)) := by
  dsimp only [V, hostOps0]
  after_results
  rfl

set_option maxRecDepth 8192 in
theorem sinTable_eq : V m c main_v35
    = repeated (Host.negf (F := Ideal) (s := S8x64) (φ := .f32) (Cert.SampleRefIdeal.Read.val_main_v32 (F := Ideal)))
        (Cert.SampleRefIdeal.Read.val_main_v32 (F := Ideal)) := by
  dsimp only [V, hostOps0]
  after_results
  rfl

theorem spread_apply (x : Vec Ideal S16 .f32) (h : Fin 16) (s : Fin 8) (l : Fin 128) :
    broadcastInDim S16x8x128 ![0, 1, 2] bcast_S16x1x1_S16x8x128_0_1_2 (broadcastInDim S16x1x1 ![0] bcast_S16_S16x1x1_0 x) (ix3 h s l)
      = x (ix1 h) := by
  pointwise

/-- The decay table holds a head's decay in every row and lane. -/
theorem decayTable_apply (h : Fin 16) (s : Fin 8) (l : Fin 128) : V m c main_v9 (ix3 h s l) = lgOf h := by
  rw [decayTable_eq]; exact spread_apply _ h s l

/-- The cosine table. -/
theorem cosTable_apply (s : Fin 16) (i : Fin 8) (l : Fin 128) :
    V m c main_v32 (ix2 (row s i) l) = if h : l.val < 64 then cosOf i ⟨l.val, h⟩ else cosOf i ⟨l.val - 64, by omega⟩ := by
  rw [cosTable_eq]; exact repeated_apply _ _ s i l

/-- The sine table: the lower half with the sign turned. -/
theorem sinTable_apply (s : Fin 16) (i : Fin 8) (l : Fin 128) :
    V m c main_v35 (ix2 (row s i) l) = if h : l.val < 64 then -sinOf i ⟨l.val, h⟩ else sinOf i ⟨l.val - 64, by omega⟩ := by
  rw [sinTable_eq]; exact repeated_apply _ _ s i l

/-- The grid point of sixteen sequences and a head. -/
def point (b : Fin 8) (h : Fin 16) : Fin cfg0.N :=
  ⟨16 * b.val + h.val, lt_of_lt_of_eq (show 16 * b.val + h.val < 128 by omega) (by decide +kernel : 128 = cfg0.N)⟩

theorem index_part (b : Fin 8) (h : Fin 16) :
    win0_0.index (point b h) = ![64 + b.val, h.val] ∧ win0_1.index (point b h) = ![64 + b.val, 16 + h.val]
      ∧ win0_2.index (point b h) = ![64 + b.val, 32 + h.val] ∧ win0_3.index (point b h) = ![64 + b.val, 48 + h.val] := by
  revert b h; decide +kernel

theorem index_table (b : Fin 8) (h : Fin 16) :
    win0_4.index (point b h) = ![0, 0] ∧ win0_5.index (point b h) = ![0, 0] ∧ win0_6.index (point b h) = ![h.val, 0, 0] := by
  revert b h; decide +kernel

theorem index_out (b : Fin 8) (h : Fin 16) :
    win0_7.index (point b h) = ![b.val, h.val, 0, 0] ∧ win0_8.index (point b h) = ![b.val, h.val]
      ∧ win0_9.index (point b h) = ![b.val, h.val, 0, 0] := by
  revert b h; decide +kernel

theorem cosBlock_apply (b : Fin 8) (h : Fin 16) (r : Fin 128) (l : Fin 128) :
    iblk m c 4 (point b h) (ix2 r l) = V m c main_v32 (ix2 r l) := by
  have e := (index_table b h).1
  blk_simp [iblk]
  congr 1
  blk_ext [e]

theorem sinBlock_apply (b : Fin 8) (h : Fin 16) (r : Fin 128) (l : Fin 128) :
    iblk m c 5 (point b h) (ix2 r l) = V m c main_v35 (ix2 r l) := by
  have e := (index_table b h).2.1
  blk_simp [iblk]
  congr 1
  blk_ext [e]

theorem decayBlock_apply (b : Fin 8) (h : Fin 16) (s : Fin 8) (l : Fin 128) :
    iblk m c 6 (point b h) (ix3 0 s l) = V m c main_v9 (ix3 h s l) := by
  have e := (index_table b h).2.2
  blk_simp [iblk]
  congr 1
  blk_ext [e]

theorem staged0_apply (b : Fin 8) (h : Fin 16) (s : Fin 16) (i : Fin 8) (l : Fin 128) :
    iblk m c 0 (point b h) (ix2 (row s i) l) = headRows (proj m c) 0 (sequence b s) h i l := by
  have e := (index_part b h).1
  unfold headRows row sequence
  rw [show proj m c = V m c main_arg0 from (V_main_arg0 m c).symm]
  blk_simp [iblk]
  congr 1
  blk_ext [e]

theorem staged1_apply (b : Fin 8) (h : Fin 16) (s : Fin 16) (i : Fin 8) (l : Fin 128) :
    iblk m c 1 (point b h) (ix2 (row s i) l) = headRows (proj m c) 1 (sequence b s) h i l := by
  have e := (index_part b h).2.1
  unfold headRows row sequence
  rw [show proj m c = V m c main_arg0 from (V_main_arg0 m c).symm]
  blk_simp [iblk]
  congr 1
  blk_ext [e]

theorem staged2_apply (b : Fin 8) (h : Fin 16) (s : Fin 16) (i : Fin 8) (l : Fin 128) :
    iblk m c 2 (point b h) (ix2 (row s i) l) = headRows (proj m c) 2 (sequence b s) h i l := by
  have e := (index_part b h).2.2.1
  unfold headRows row sequence
  rw [show proj m c = V m c main_arg0 from (V_main_arg0 m c).symm]
  blk_simp [iblk]
  congr 1
  blk_ext [e]

theorem staged3_apply (b : Fin 8) (h : Fin 16) (s : Fin 16) (i : Fin 8) (l : Fin 128) :
    iblk m c 3 (point b h) (ix2 (row s i) l) = headRows (proj m c) 3 (sequence b s) h i l := by
  have e := (index_part b h).2.2.2
  unfold headRows row sequence
  rw [show proj m c = V m c main_arg0 from (V_main_arg0 m c).symm]
  blk_simp [iblk]
  congr 1
  blk_ext [e]

theorem staged7_apply (b : Fin 8) (h : Fin 16) (s : Fin 16) (d e : Fin 128) :
    iblk m c 7 (point b h) (ix4 s 0 d e) = brought m c (ix4 (sequence b s) h d e) := by
  have ex := (index_out b h).1
  unfold sequence
  rw [show brought m c = V m c main_arg1 from (V_main_arg1 m c).symm]
  blk_simp [iblk]
  congr 1
  blk_ext [ex]

end Cert.Proof.Sample

end
-- ==== Proof.Sample.KernelValue.lean ====
/-
  The kernel's two result arrays, element by element: every sequence's and head's finished rows and states, of the
  functions of the projection and the brought states that the reference computes them from.
-/
module

public import proofs.«01_k».proof.Proof.Sample.Staged

@[expose] public section

noncomputable section

namespace Cert.Proof.Sample

open Cert.SampleIdeal Cert.SampleIdeal.Gen Idealize.ShloMosaic Idealize.ShloMosaic.TcCoe Idealize.SL.Sem

/-- Rotating lanes and turning a sign is the rotation in pairs. -/
theorem rope_of_swap (C S : Rows) (cos sin : Fin 8 → Fin 64 → EReal) (X : Rows)
    (hC : ∀ t l, C t l = if h : l.val < 64 then cos t ⟨l.val, h⟩ else cos t ⟨l.val - 64, by omega⟩)
    (hS : ∀ t l, S t l = if h : l.val < 64 then -sin t ⟨l.val, h⟩ else sin t ⟨l.val - 64, by omega⟩) (t : Fin 8) (l : Fin 128) :
    X t l * C t l + X t (swap l) * S t l = rope cos sin X t l := by
  rw [hC, hS, rope]
  by_cases h : l.val < 64
  · have e : swap l = ⟨l.val + 64, by omega⟩ := Fin.ext (by show (l.val + 128 - 64) % 128 = l.val + 64; omega)
    rw [dif_pos h, dif_pos h, dif_pos h, e, mul_neg, sub_eq_add_neg]
  · have e : swap l = ⟨l.val - 64, by omega⟩ := Fin.ext (by show (l.val + 128 - 64) % 128 = l.val - 64; omega)
    rw [dif_neg h, dif_neg h, dif_neg h, e, add_comm]

/-- A load of a whole block is the block. -/
theorem whole_eq (x : Vec Ideal S128x128 .f32) : View.ld x r0_1 = x := by
  funext y
  refine congrArg x (funext fun a => Fin.ext ?_)
  rw [Rect.idx_unit_val]
  match a with
  | ⟨0, _⟩ => exact Nat.zero_add _
  | ⟨1, _⟩ => exact Nat.zero_add _

/-- The decay row of a staged decay block. -/
theorem decayRow_apply (x6 : Vec Ideal S1x8x128 .f32) (l : Fin 128) : decayRow (F := Ideal) x6 (ix2 0 l) = x6 (ix3 0 0 l) := by
  have h : View.ld x6 r0_0 (ix3 0 0 l) = x6 (ix3 0 0 l) := by
    refine congrArg x6 (funext fun a => Fin.ext ?_)
    rw [Rect.idx_unit_val]
    match a with
    | ⟨0, _⟩ => rfl
    | ⟨1, _⟩ => rfl
    | ⟨2, _⟩ => exact Nat.zero_add _
  unfold decayRow
  generalize View.ld x6 r0_0 = y at h ⊢
  pointwise [k0_pay2]
  exact h

section
variable (x0 x1 x2 x3 x4 x5 : Vec Ideal S128x128 .f32) (x6 : Vec Ideal S1x8x128 .f32) (x7 : Vec Ideal S16x1x128x128 .f32)

/-- An element of a slice lies at its two last coordinates. -/
theorem inSlice (x : S1x1x128x128.Idx) : ∃ d e : Fin 128, x = ix4 0 0 d e := by
  refine ⟨x 2, x 3, (eq_ix4 x).trans ?_⟩
  have h0 : x 0 = (0 : Fin 1) := Subsingleton.elim (α := Fin 1) (x 0) 0
  have h1 : x 1 = (0 : Fin 1) := Subsingleton.elim (α := Fin 1) (x 1) 0
  exact congrArg₂ (fun a b : Fin 1 => (ix4 a b (x 2 : Fin 128) (x 3 : Fin 128) : S1x1x128x128.Idx)) h0 h1

/-- The second result block, as one function of the element. -/
theorem out9_apply (s : Fin 16) (d e : Fin 128) :
    out0_9 x0 x1 x2 x3 x4 x5 x6 x7 (ix4 s 0 d e)
      = x7 (ix4 s 0 d e) * k0_pay11 (F := Ideal) (decayRow x6) (ix2 0 e)
        + ∑ i : Fin 8, k0_pay18 (F := Ideal) (k0_pay10 (decayRow x6)) x4 x5 x1 (ix2 (row s i) d) * x2 (ix2 (row s i) e) := by
  rw [out9_eq]
  simp only [whole_eq]
  refine View.canon_apply_of_pieces (fun y : S16x1x128x128.Idx => x7 (ix4 (y 0) 0 (y 2) (y 3)) * k0_pay11 (F := Ideal) (decayRow x6) (ix2 0 (y 3))
        + ∑ i : Fin 8, k0_pay18 (F := Ideal) (k0_pay10 (decayRow x6)) x4 x5 x1 (ix2 (row (y 0) i) (y 2)) * x2 (ix2 (row (y 0) i) (y 3)))
    _ ?_ (ix4 s 0 d e) ?_
  · intro p hp x
    obtain ⟨s', -, rfl⟩ := List.mem_map.1 hp
    obtain ⟨d', e', rfl⟩ := inSlice x
    refine (newState_apply _ _ _ s' _ d' e').trans ?_
    show _ = (fun y : S16x1x128x128.Idx => _) ((slice s').emb (ix4 0 0 d' e'))
    rw [slice_emb]
    exact congrArg (· * k0_pay11 (F := Ideal) (decayRow x6) (ix2 0 e') + _) (slice_apply x7 s' d' e')
  · exact cover0_9 _ _ _ _ _ _ _ _ _ _ _ _ _ _ _ _ (ix4 s 0 d e)

/-- The first result block. -/
theorem out8_apply (r e : Fin 128) :
    out0_8 x0 x1 x2 x3 x4 x5 x6 x7 (ix2 r e)
      = k0_pay1 (F := Ideal) x3 (normed (addf (k0_pay16 (maskOf (decayRow x6)) x4 x5 x0 x1 x2)
          (cross (k0_pay17 (k0_pay9 (decayRow x6)) x4 x5 x0) x7 16 (le_refl 16)))) (k0_pay82 x3) (ix2 r e) := by
  rw [out8_eq]
  simp only [whole_eq]
  exact congrFun (View.canon_cons_unit_zero (by funext a; fin_cases a <;> rfl) _ _ _) (ix2 r e)
end

variable (m : (ℓ : Loc nD τ sig) → Buf (Elt Ideal) ℓ) (c : Dev nD) (b : Fin 8) (h : Fin 16)

/-- The staged blocks: queries, keys, values, gate, cosines, sines, states. -/
abbrev stQ : Vec Ideal S128x128 .f32 := iblk m c 0 (point b h)
abbrev stK : Vec Ideal S128x128 .f32 := iblk m c 1 (point b h)
abbrev stV : Vec Ideal S128x128 .f32 := iblk m c 2 (point b h)
abbrev stG : Vec Ideal S128x128 .f32 := iblk m c 3 (point b h)
abbrev stCos : Vec Ideal S128x128 .f32 := iblk m c 4 (point b h)
abbrev stSin : Vec Ideal S128x128 .f32 := iblk m c 5 (point b h)
abbrev stS : Vec Ideal S16x1x128x128 .f32 := iblk m c 7 (point b h)

theorem decay_staged (l : Fin 128) : decayRow (F := Ideal) (iblk m c 6 (point b h)) (ix2 0 l) = lgOf h :=
  (decayRow_apply _ l).trans ((decayBlock_apply m c b h 0 l).trans (decayTable_apply m c h 0 l))

theorem queries_staged (s : Fin 16) (i : Fin 8) (l : Fin 128) :
    k0_pay14 (F := Ideal) (stCos m c b h) (stSin m c b h) (stQ m c b h) (ix2 (row s i) l) = queries (proj m c) (sequence b s) h i l := by
  have e0 : ∀ i l, stQ m c b h (ix2 (row s i) l) = headRows (proj m c) 0 (sequence b s) h i l := staged0_apply m c b h s
  have e1 : ∀ t l, stCos m c b h (ix2 t l) = V m c main_v32 (ix2 t l) := cosBlock_apply m c b h
  have e2 : ∀ t l, stSin m c b h (ix2 t l) = V m c main_v35 (ix2 t l) := sinBlock_apply m c b h
  rw [pay14_apply, e0, e0, e1, e2]
  exact rope_of_swap (fun i l => V m c main_v32 (ix2 (row s i) l)) (fun i l => V m c main_v35 (ix2 (row s i) l)) cosOf sinOf _
    (cosTable_apply m c s) (sinTable_apply m c s) i l

theorem keys_staged (s : Fin 16) (i : Fin 8) (l : Fin 128) :
    k0_pay15 (F := Ideal) (stCos m c b h) (stSin m c b h) (stK m c b h) (ix2 (row s i) l) = keys (proj m c) (sequence b s) h i l := by
  have e0 : ∀ i l, stK m c b h (ix2 (row s i) l) = headRows (proj m c) 1 (sequence b s) h i l := staged1_apply m c b h s
  have e1 : ∀ t l, stCos m c b h (ix2 t l) = V m c main_v32 (ix2 t l) := cosBlock_apply m c b h
  have e2 : ∀ t l, stSin m c b h (ix2 t l) = V m c main_v35 (ix2 t l) := sinBlock_apply m c b h
  rw [pay15_apply, e0, e0, e1, e2]
  exact congrArg (· * keyScale) (rope_of_swap (fun i l => V m c main_v32 (ix2 (row s i) l)) (fun i l => V m c main_v35 (ix2 (row s i) l))
    cosOf sinOf _ (cosTable_apply m c s) (sinTable_apply m c s) i l)

/-- The kernel's states. -/
theorem kernelState_apply (s : Fin 16) (d e : Fin 128) :
    (dats m 0 c).arrAt 9 cfg0.N (ix4 (sequence b s) h d e)
      = stateOut (lgOf h) (keys (proj m c) (sequence b s) h) (headRows (proj m c) 2 (sequence b s) h)
          (fun d e => brought m c (ix4 (sequence b s) h d e)) d e := by
  have hb := congrFun (Cert.SampleIdeal.Value.blocks9 m c (point b h) (flush0_9 _)) (ix4 s 0 d e)
  rw [Cert.SampleIdeal.Value.flushed9] at hb
  have ex := (index_out b h).2.2
  blk_simp at hb
  have hemb : (win0_9.blk (point b h)).view.emb (ix4 s 0 d e) = (ix4 (sequence b s) h d e : S128x16x128x128.Idx) := by
    unfold sequence
    blk_ext [ex]
  rw [hemb] at hb
  refine hb.trans ((out9_apply (stQ m c b h) (stK m c b h) (stV m c b h) (stG m c b h) (stCos m c b h) (stSin m c b h)
    (iblk m c 6 (point b h)) (stS m c b h) s d e).trans ?_)
  rw [pay11_apply _ _ (decay_staged m c b h)]
  refine congrArg₂ (· + ·) (congrArg (· * cDecay (lgOf h)) (staged7_apply m c b h s d e)) (Finset.sum_congr rfl fun i _ => ?_)
  rw [pay18_apply _ _ (decay_staged m c b h), keys_staged]
  exact congrArg (_ * ·) (staged2_apply m c b h s i e)

/-- A row of the retention, before the normalisation. -/
theorem ret_staged (s : Fin 16) (i : Fin 8) (e : Fin 128) :
    (addf (F := Ideal) (k0_pay16 (maskOf (decayRow (iblk m c 6 (point b h)))) (stCos m c b h) (stSin m c b h) (stQ m c b h) (stK m c b h) (stV m c b h))
        (cross (k0_pay17 (k0_pay9 (decayRow (iblk m c 6 (point b h)))) (stCos m c b h) (stSin m c b h) (stQ m c b h)) (stS m c b h) 16 (le_refl 16))
        : FVec Ideal S128x128 .f32) (ix2 (row s i) e)
      = retOut (lgOf h) (queries (proj m c) (sequence b s) h) (keys (proj m c) (sequence b s) h) (headRows (proj m c) 2 (sequence b s) h)
          (fun d e => brought m c (ix4 (sequence b s) h d e)) i e := by
  have e7 : (fun d e => stS m c b h (ix4 s 0 d e)) = fun d e => brought m c (ix4 (sequence b s) h d e) := by
    funext d e; exact staged7_apply m c b h s d e
  rw [← e7]
  exact ret_apply' _ (lgOf h) (decay_staged m c b h) (stCos m c b h) (stSin m c b h) (stQ m c b h) (stK m c b h) (stV m c b h) (stS m c b h) s
    _ _ _ (queries_staged m c b h s) (keys_staged m c b h s) (staged2_apply m c b h s) i e

/-- The kernel's rows. -/
theorem kernelOut_apply (s : Fin 16) (i : Fin 8) (e : Fin 128) :
    (dats m 0 c).arrAt 8 cfg0.N (ix2 ⟨8 * (sequence b s).val + i.val, by omega⟩ ⟨128 * h.val + e.val, by omega⟩)
      = finished (retOut (lgOf h) (queries (proj m c) (sequence b s) h) (keys (proj m c) (sequence b s) h)
          (headRows (proj m c) 2 (sequence b s) h) (fun d e => brought m c (ix4 (sequence b s) h d e)) i)
          (headRows (proj m c) 3 (sequence b s) h i) e := by
  have hb := congrFun (Cert.SampleIdeal.Value.blocks8 m c (point b h) (flush0_8 _)) (ix2 (row s i) e)
  rw [Cert.SampleIdeal.Value.flushed8] at hb
  have ex := (index_out b h).2.1
  blk_simp at hb
  have hemb : (win0_8.blk (point b h)).view.emb (ix2 (row s i) e)
      = (ix2 ⟨8 * (sequence b s).val + i.val, by omega⟩ ⟨128 * h.val + e.val, by omega⟩ : S1024x2048.Idx) := by
    unfold sequence row
    blk_ext [ex]
  rw [hemb] at hb
  refine hb.trans ((out8_apply (stQ m c b h) (stK m c b h) (stV m c b h) (stG m c b h) (stCos m c b h) (stSin m c b h)
    (iblk m c 6 (point b h)) (stS m c b h) (row s i) e).trans ?_)
  have hg : stG m c b h (ix2 (row s i) e) = headRows (proj m c) 3 (sequence b s) h i e := staged3_apply m c b h s i e
  rw [pay1_apply, normed_apply', hg]
  simp only [ret_staged]
  rfl

end Cert.Proof.Sample

end
-- ==== Proof.Sample.Equal.lean ====
/-
  The retention call for the sample sequences and its reference leave equal arrays: element by element both are the
  finished rows and the states of `Spec.lean`.
-/
module

public import proofs.«01_k».proof.Defs
public import proofs.«01_k».proof.Proof.Sample.KernelValue
public import Idealize.ShloMosaic.Lib.Quiescent

@[expose] public section

noncomputable section

namespace Cert.Proof.Sample

open Idealize.ShloMosaic Idealize.ShloMosaic.TcCoe Idealize.SL.Sem

/-- Every sequence is one of sixteen of a block. -/
theorem split_sequence (n : Fin 128) : ∃ (b : Fin 8) (s : Fin 16), n = sequence b s :=
  ⟨⟨n.val / 16, by omega⟩, ⟨n.val % 16, by omega⟩, Fin.ext (by show n.val = 16 * (n.val / 16) + n.val % 16; omega)⟩

/-- A row and a lane of the first result lie in one sequence, token and head. -/
theorem split_out (y : Cert.SampleIdeal.S1024x2048.Idx) : ∃ (n : Fin 128) (i : Fin 8) (h : Fin 16) (e : Fin 128),
    y = ix2 ⟨8 * n.val + i.val, by omega⟩ ⟨128 * h.val + e.val, by omega⟩ := by
  have h0 : (y 0).val < 1024 := (y 0).isLt
  have h1 : (y 1).val < 2048 := (y 1).isLt
  refine ⟨⟨(y 0).val / 8, by omega⟩, ⟨(y 0).val % 8, by omega⟩, ⟨(y 1).val / 128, by omega⟩, ⟨(y 1).val % 128, by omega⟩, ?_⟩
  funext a
  apply Fin.ext
  match a with
  | ⟨0, _⟩ => show (y 0).val = 8 * ((y 0).val / 8) + (y 0).val % 8; omega
  | ⟨1, _⟩ => show (y 1).val = 128 * ((y 1).val / 128) + (y 1).val % 128; omega

section
open Cert.SampleIdeal Cert.SampleIdeal.Gen
variable (m : (ℓ : Loc nD τ sig) → Buf (Elt Ideal) ℓ) (c : Dev nD)

/-- The rows are equal. -/
theorem out_eq : Cert.SampleRefIdeal.Read.val_main_v150 (F := Ideal) (proj m c) (brought m c) = (dats m 0 c).arrAt 8 cfg0.N := by
  funext y
  obtain ⟨n, i, h, e, rfl⟩ := split_out y
  obtain ⟨b, s, rfl⟩ := split_sequence n
  exact (refOut_apply (proj m c) (brought m c) (sequence b s) i h e).trans (kernelOut_apply m c b h s i e).symm

/-- The states are equal. -/
theorem state_eq : Cert.SampleRefIdeal.Read.val_main_v134 (F := Ideal) (proj m c) (brought m c) = (dats m 0 c).arrAt 9 cfg0.N := by
  funext y
  obtain ⟨n, h, d, e, rfl⟩ : ∃ (n : Fin 128) (h : Fin 16) (d e : Fin 128), y = ix4 n h d e := ⟨y 0, y 1, y 2, y 3, eq_ix4 y⟩
  obtain ⟨b, s, rfl⟩ := split_sequence n
  exact (refState_apply (proj m c) (brought m c) (sequence b s) h d e).trans (kernelState_apply m c b h s d e).symm
end

/-- The reference runs to its end and leaves its arguments and the semaphores as they were. -/
theorem frame_reference : Cert.quiescent_SampleRefIdeal := fun m ρ _ =>
  (θ_run Cert.SampleRefIdeal.defs _ _).mono (fun r h => ⟨fun c => (h c).2.2, sem_eq_zero_of_no_sems (by decide) r.2⟩)
    (Cert.SampleRefIdeal.Value.run (F := Ideal) m ρ)

/-- Both programs end with the same results. -/
theorem algebraic : Cert.algebraic_SampleIdeal_SampleRefIdeal := by
  intro m ρ m' ρ' _ hagree
  refine ⟨fun c => (Cert.SampleIdeal.Gen.dats m 0 c).arrAt 8 Cert.SampleIdeal.cfg0.N,
    fun c => (Cert.SampleIdeal.Gen.dats m 0 c).arrAt 9 Cert.SampleIdeal.cfg0.N,
    Cert.SampleIdeal.Value.run_blocks (F := Ideal) m ρ, ?_⟩
  refine (θ_run _ _ _).mono (fun _ h c => ⟨(h c).1.trans ?_, (h c).2.1.trans ?_, (h c).2.2⟩)
    (Cert.SampleRefIdeal.Value.run (F := Ideal) m' ρ')
  · refine (Cert.SampleRefIdeal.Read.val_main_v150_eq _).trans ?_
    refine (congrArg₂ (Cert.SampleRefIdeal.Read.val_main_v150 (F := Ideal)) (hagree c).1 (hagree c).2).trans ?_
    exact out_eq m c
  · refine (Cert.SampleRefIdeal.Read.val_main_v134_eq _).trans ?_
    refine (congrArg₂ (Cert.SampleRefIdeal.Read.val_main_v134 (F := Ideal)) (hagree c).1 (hagree c).2).trans ?_
    exact state_eq m c

end Cert.Proof.Sample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.InRet
public import proofs.«01_k».proof.Proof.Gen.InRet.Skeleton
public import proofs.«01_k».proof.Proof.Gen.InRet.Launch
public import proofs.«01_k».proof.Proof.Gen.InRet.Points
public import proofs.«01_k».proof.Proof.Gen.InRet.Frame
public import proofs.«01_k».proof.Proof.Gen.InRetIdeal
public import proofs.«01_k».proof.Proof.Gen.InRetIdeal.Skeleton
public import proofs.«01_k».proof.Proof.Gen.InRetIdeal.Launch
public import proofs.«01_k».proof.Proof.Gen.InRetIdeal.Points
public import proofs.«01_k».proof.Proof.Gen.InRetIdeal.Frame
public import proofs.«01_k».proof.Proof.Gen.InRetIdeal.Value
public import proofs.«01_k».proof.Proof.Gen.InRetRefIdeal
public import proofs.«01_k».proof.Proof.Gen.InRetRefIdeal.Run
public import proofs.«01_k».proof.Proof.Gen.InRetRefIdeal.Read
public import proofs.«01_k».proof.Proof.Gen.InRkv
public import proofs.«01_k».proof.Proof.Gen.InRkv.Skeleton
public import proofs.«01_k».proof.Proof.Gen.InRkv.Launch
public import proofs.«01_k».proof.Proof.Gen.InRkv.Points
public import proofs.«01_k».proof.Proof.Gen.InRkv.Frame
public import proofs.«01_k».proof.Proof.Gen.InRkvIdeal
public import proofs.«01_k».proof.Proof.Gen.InRkvIdeal.Skeleton
public import proofs.«01_k».proof.Proof.Gen.InRkvIdeal.Launch
public import proofs.«01_k».proof.Proof.Gen.InRkvIdeal.Points
public import proofs.«01_k».proof.Proof.Gen.InRkvIdeal.Frame
public import proofs.«01_k».proof.Proof.Gen.InRkvRefIdeal
public import proofs.«01_k».proof.Proof.Gen.InRkvRefIdeal.Run
public import proofs.«01_k».proof.Proof.Gen.InRkvRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.PeerQ
public import proofs.«01_k».proof.Proof.Gen.PeerQ.Skeleton
public import proofs.«01_k».proof.Proof.Gen.PeerQ.Launch
public import proofs.«01_k».proof.Proof.Gen.PeerQ.Points
public import proofs.«01_k».proof.Proof.Gen.PeerQ.Frame
public import proofs.«01_k».proof.Proof.Gen.PeerQIdeal
public import proofs.«01_k».proof.Proof.Gen.PeerQIdeal.Skeleton
public import proofs.«01_k».proof.Proof.Gen.PeerQIdeal.Launch
public import proofs.«01_k».proof.Proof.Gen.PeerQIdeal.Points
public import proofs.«01_k».proof.Proof.Gen.PeerQIdeal.Frame
public import proofs.«01_k».proof.Proof.Gen.PeerQIdeal.Value
public import proofs.«01_k».proof.Proof.Gen.PeerQRefIdeal
public import proofs.«01_k».proof.Proof.Gen.PeerQRefIdeal.Run
public import proofs.«01_k».proof.Proof.Gen.PeerQRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleRefIdeal
public import proofs.«01_k».proof.Proof.Gen.SampleRefIdeal.Run
public import proofs.«01_k».proof.Proof.Gen.SampleRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.PreNorm
public import proofs.«01_k».proof.Proof.Gen.PreNorm.Skeleton
public import proofs.«01_k».proof.Proof.Gen.PreNorm.Launch
public import proofs.«01_k».proof.Proof.Gen.PreNorm.Points
public import proofs.«01_k».proof.Proof.Gen.PreNorm.Frame
public import proofs.«01_k».proof.Proof.Gen.PreNormIdeal
public import proofs.«01_k».proof.Proof.Gen.PreNormIdeal.Skeleton
public import proofs.«01_k».proof.Proof.Gen.PreNormIdeal.Launch
public import proofs.«01_k».proof.Proof.Gen.PreNormIdeal.Points
public import proofs.«01_k».proof.Proof.Gen.PreNormIdeal.Frame
public import proofs.«01_k».proof.Proof.Gen.PreNormIdeal.Value
public import proofs.«01_k».proof.Proof.Gen.PreNormRefIdeal
public import proofs.«01_k».proof.Proof.Gen.PreNormRefIdeal.Run
public import proofs.«01_k».proof.Proof.Gen.PreNormRefIdeal.Read
public import proofs.«01_k».proof.Proof.Gen.PostMix
public import proofs.«01_k».proof.Proof.Gen.PostMix.Skeleton
public import proofs.«01_k».proof.Proof.Gen.PostMix.Launch
public import proofs.«01_k».proof.Proof.Gen.PostMix.Points
public import proofs.«01_k».proof.Proof.Gen.PostMix.Frame
public import proofs.«01_k».proof.Proof.Gen.PostMixIdeal
public import proofs.«01_k».proof.Proof.Gen.PostMixIdeal.Skeleton
public import proofs.«01_k».proof.Proof.Gen.PostMixIdeal.Launch
public import proofs.«01_k».proof.Proof.Gen.PostMixIdeal.Points
public import proofs.«01_k».proof.Proof.Gen.PostMixIdeal.Frame
public import proofs.«01_k».proof.Proof.Gen.PostMixIdeal.Value
public import proofs.«01_k».proof.Proof.Gen.PostMixRefIdeal
public import proofs.«01_k».proof.Proof.Gen.PostMixRefIdeal.Run
public import proofs.«01_k».proof.Proof.Gen.PostMixRefIdeal.Read
public import proofs.«01_k».proof.Proof.Gen.RwkvPost
public import proofs.«01_k».proof.Proof.Gen.RwkvPost.Skeleton
public import proofs.«01_k».proof.Proof.Gen.RwkvPost.Launch
public import proofs.«01_k».proof.Proof.Gen.RwkvPost.Points
public import proofs.«01_k».proof.Proof.Gen.RwkvPost.Frame
public import proofs.«01_k».proof.Proof.Gen.RwkvPostIdeal
public import proofs.«01_k».proof.Proof.Gen.RwkvPostIdeal.Skeleton
public import proofs.«01_k».proof.Proof.Gen.RwkvPostIdeal.Launch
public import proofs.«01_k».proof.Proof.Gen.RwkvPostIdeal.Points
public import proofs.«01_k».proof.Proof.Gen.RwkvPostIdeal.Frame
public import proofs.«01_k».proof.Proof.Gen.RwkvPostIdeal.Value
public import proofs.«01_k».proof.Proof.Gen.RwkvPostRefIdeal
public import proofs.«01_k».proof.Proof.Gen.RwkvPostRefIdeal.Run
public import proofs.«01_k».proof.Proof.Gen.RwkvPostRefIdeal.Read
public import proofs.«01_k».proof.Proof.Finish.Equal
public import proofs.«01_k».proof.Proof.First.Equal
public import proofs.«01_k».proof.Proof.Last.Equal
public import proofs.«01_k».proof.Proof.Middle.Equal
public import proofs.«01_k».proof.Proof.Products.Ada
public import proofs.«01_k».proof.Proof.Products.InRet
public import proofs.«01_k».proof.Proof.Products.InRkv
public import proofs.«01_k».proof.Proof.Products.OutProj
public import proofs.«01_k».proof.Proof.Products.PeerQ
public import proofs.«01_k».proof.Proof.Prompt.Equal
public import proofs.«01_k».proof.Proof.Sample.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Sample.Gen.facts, Cert.SampleIdeal.Gen.facts, Cert.SampleRefIdeal.Gen.facts,
  Cert.Ada.Gen.facts, Cert.AdaIdeal.Gen.facts, Cert.AdaRefIdeal.Gen.facts,
  Cert.Final.Gen.facts, Cert.FinalIdeal.Gen.facts, Cert.FinalRefIdeal.Gen.facts,
  Cert.PreNorm.Gen.facts, Cert.PreNormIdeal.Gen.facts, Cert.PreNormRefIdeal.Gen.facts,
  Cert.PostMix.Gen.facts, Cert.PostMixIdeal.Gen.facts, Cert.PostMixRefIdeal.Gen.facts,
  Cert.InRet.Gen.facts, Cert.InRetIdeal.Gen.facts, Cert.InRetRefIdeal.Gen.facts,
  Cert.InRkv.Gen.facts, Cert.InRkvIdeal.Gen.facts, Cert.InRkvRefIdeal.Gen.facts,
  Cert.RwkvPost.Gen.facts, Cert.RwkvPostIdeal.Gen.facts, Cert.RwkvPostRefIdeal.Gen.facts,
  Cert.OutProj.Gen.facts, Cert.OutProjIdeal.Gen.facts, Cert.OutProjRefIdeal.Gen.facts,
  Cert.PeerQ.Gen.facts, Cert.PeerQIdeal.Gen.facts, Cert.PeerQRefIdeal.Gen.facts,
  fun m ρ _ => Cert.Kernel.Gen.frame m ρ, fun m ρ _ => Cert.KernelIdeal.Gen.frame m ρ, Prompt.frame_reference,
  fun m ρ _ => Cert.Sample.Gen.frame m ρ, fun m ρ _ => Cert.SampleIdeal.Gen.frame m ρ, Sample.frame_reference,
  fun m ρ _ => Cert.Ada.Gen.frame m ρ, fun m ρ _ => Cert.AdaIdeal.Gen.frame m ρ, Products.Ada.frame_reference,
  fun m ρ _ => Cert.Final.Gen.frame m ρ, fun m ρ _ => Cert.FinalIdeal.Gen.frame m ρ, Last.frame_reference,
  fun m ρ _ => Cert.PreNorm.Gen.frame m ρ, fun m ρ _ => Cert.PreNormIdeal.Gen.frame m ρ, First.frame_reference,
  fun m ρ _ => Cert.PostMix.Gen.frame m ρ, fun m ρ _ => Cert.PostMixIdeal.Gen.frame m ρ, Middle.frame_reference,
  fun m ρ _ => Cert.InRet.Gen.frame m ρ, fun m ρ _ => Cert.InRetIdeal.Gen.frame m ρ, Products.InRet.frame_reference,
  fun m ρ _ => Cert.InRkv.Gen.frame m ρ, fun m ρ _ => Cert.InRkvIdeal.Gen.frame m ρ, Products.InRkv.frame_reference,
  fun m ρ _ => Cert.RwkvPost.Gen.frame m ρ, fun m ρ _ => Cert.RwkvPostIdeal.Gen.frame m ρ, Finish.frame_reference,
  fun m ρ _ => Cert.OutProj.Gen.frame m ρ, fun m ρ _ => Cert.OutProjIdeal.Gen.frame m ρ, Products.OutProj.frame_reference,
  fun m ρ _ => Cert.PeerQ.Gen.frame m ρ, fun m ρ _ => Cert.PeerQIdeal.Gen.frame m ρ, Products.PeerQ.frame_reference,
  trivial, Prompt.algebraic, trivial, Sample.algebraic, trivial, Products.Ada.algebraic, trivial, Last.algebraic, trivial, First.algebraic, trivial, Middle.algebraic, trivial, Products.InRet.algebraic, trivial, Products.InRkv.algebraic, trivial, Finish.algebraic, trivial, Products.OutProj.algebraic, trivial, Products.PeerQ.algebraic⟩

end Cert.Proof

end
